-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_reg [hPre_finite_reg : Cert.Pre_finite_reg.Facts] (m : (ℓ : Loc Cert.KernelIdeal.nD Cert.KernelIdeal.τ Cert.KernelIdeal.sig) → Buf (Elt Ideal) ℓ) : Prop :=
  ∀ c : Dev Cert.KernelIdeal.nD,
    (Cert.Pre_finite_reg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_reg [hPre_finite_reg : Cert.Pre_finite_reg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_reg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_finite_reg [hKernelIdeal : Cert.KernelIdeal.Facts] [hPre_finite_reg : Cert.Pre_finite_reg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_reg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_finite_reg [hReferenceIdeal : Cert.ReferenceIdeal.Facts] [hPre_finite_reg : Cert.Pre_finite_reg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_reg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_finite_reg [hKernelIdeal : Cert.KernelIdeal.Facts] [hReferenceIdeal : Cert.ReferenceIdeal.Facts] [hPre_finite_reg : Cert.Pre_finite_reg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_reg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_reg : Cert.Pre_finite_reg.Facts),
    quiescent_Kernel (hKernel := hKernel)
    ∧ quiescent_KernelIdeal (hKernelIdeal := hKernelIdeal)
    ∧ quiescent_KernelIdeal_pre_finite_reg (hKernelIdeal := hKernelIdeal) (hPre_finite_reg := hPre_finite_reg)
    ∧ quiescent_ReferenceIdeal (hReferenceIdeal := hReferenceIdeal)
    ∧ quiescent_ReferenceIdeal_pre_finite_reg (hReferenceIdeal := hReferenceIdeal) (hPre_finite_reg := hPre_finite_reg)
    ∧ preserves_Kernel_KernelIdeal
    ∧ algebraic_KernelIdeal_ReferenceIdeal_pre_finite_reg (hKernelIdeal := hKernelIdeal) (hReferenceIdeal := hReferenceIdeal) (hPre_finite_reg := hPre_finite_reg)
-- ==== Pre_finite_reg.lean ====
abbrev S16x256x80x80 : Shape := ⟨4, ![16, 256, 80, 80]⟩
abbrev S16x256x40x40 : Shape := ⟨4, ![16, 256, 40, 40]⟩
abbrev S16x256x20x20 : Shape := ⟨4, ![16, 256, 20, 20]⟩
abbrev S1x256 : Shape := ⟨2, ![1, 256]⟩
abbrev S1 : Shape := ⟨1, ![1]⟩
abbrev S80x256 : Shape := ⟨2, ![80, 256]⟩
abbrev S80 : Shape := ⟨1, ![80]⟩
abbrev S64x256 : Shape := ⟨2, ![64, 256]⟩
abbrev S64 : Shape := ⟨1, ![64]⟩
abbrev S_ : Shape := ⟨0, ![]⟩

class Facts : Prop where
  bcast_S_S16x256x80x80 : S_.BroadcastsInDim S16x256x80x80 (![] : Fin 0 → Fin S16x256x80x80.rank)
  reducesTo_S16x256x80x80_S_d0_1_2_3 : S16x256x80x80.ReducesTo [0, 1, 2, 3] S_
  h_S_ : 0 < S_.numel
  bcast_S_S16x256x40x40 : S_.BroadcastsInDim S16x256x40x40 (![] : Fin 0 → Fin S16x256x40x40.rank)
  reducesTo_S16x256x40x40_S_d0_1_2_3 : S16x256x40x40.ReducesTo [0, 1, 2, 3] S_
  bcast_S_S16x256x20x20 : S_.BroadcastsInDim S16x256x20x20 (![] : Fin 0 → Fin S16x256x20x20.rank)
  reducesTo_S16x256x20x20_S_d0_1_2_3 : S16x256x20x20.ReducesTo [0, 1, 2, 3] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg22 : FVec F S64x256 .f32) (main_arg23 : FVec F S64 .f32) (main_v33 : IVec S_ 1) : IVec S_ 1 :=
  let main_v34 : FVec F S64x256 .f32 := Host.absf main_arg22
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S64 .f32 := Host.absf main_arg23
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg11 : FVec F S64 .f32) (main_arg16 : FVec F S64x256 .f32) (main_arg17 : FVec F S64 .f32) (main_arg22 : FVec F S64x256 .f32) (main_arg23 : FVec F S64 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg11
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x256 .f32 := Host.absf main_arg16
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg17
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg22 main_arg23 main_v33

def fn {F : FTy → Type} [FloatOps F] (main_arg0 : FVec F S16x256x80x80 .f32) (main_arg1 : FVec F S16x256x40x40 .f32) (main_arg2 : FVec F S16x256x20x20 .f32) (main_arg3 : FVec F S16x256x80x80 .f32) (main_arg4 : FVec F S16x256x40x40 .f32) (main_arg5 : FVec F S16x256x20x20 .f32) (main_arg6 : FVec F S1x256 .f32) (main_arg7 : FVec F S1 .f32) (main_arg8 : FVec F S80x256 .f32) (main_arg9 : FVec F S80 .f32) (main_arg10 : FVec F S64x256 .f32) (main_arg11 : FVec F S64 .f32) (main_arg12 : FVec F S1x256 .f32) (main_arg13 : FVec F S1 .f32) (main_arg14 : FVec F S80x256 .f32) (main_arg15 : FVec F S80 .f32) (main_arg16 : FVec F S64x256 .f32) (main_arg17 : FVec F S64 .f32) (main_arg18 : FVec F S1x256 .f32) (main_arg19 : FVec F S1 .f32) (main_arg20 : FVec F S80x256 .f32) (main_arg21 : FVec F S80 .f32) (main_arg22 : FVec F S64x256 .f32) (main_arg23 : FVec F S64 .f32) : IVec S_ 1 :=
  let main_v0 : FVec F S16x256x80x80 .f32 := Host.absf main_arg3
  let main_cst : FVec F S_ .f32 := constant S_ .f32 0x7F800000#32
  let main_v1 : FVec F S16x256x80x80 .f32 := broadcastInDim S16x256x80x80 ![] bcast_S_S16x256x80x80 main_cst
  let main_v2 : IVec S16x256x80x80 1 := cmpf .olt main_v0 main_v1
  let main_c : IVec S_ 1 := constantI S_ 1 1#1
  let main_v3 : IVec S_ 1 := (fun x v => Host.reduce IntOp.andi x v reducesTo_S16x256x80x80_S_d0_1_2_3 h_S_) main_v2 main_c
  let main_v4 : FVec F S16x256x40x40 .f32 := Host.absf main_arg4
  let main_cst_0 : FVec F S_ .f32 := constant S_ .f32 0x7F800000#32
  let main_v5 : FVec F S16x256x40x40 .f32 := broadcastInDim S16x256x40x40 ![] bcast_S_S16x256x40x40 main_cst_0
  let main_v6 : IVec S16x256x40x40 1 := cmpf .olt main_v4 main_v5
  let main_c_1 : IVec S_ 1 := constantI S_ 1 1#1
  let main_v7 : IVec S_ 1 := (fun x v => Host.reduce IntOp.andi x v reducesTo_S16x256x40x40_S_d0_1_2_3 h_S_) main_v6 main_c_1
  let main_v8 : IVec S_ 1 := andi main_v3 main_v7
  let main_v9 : FVec F S16x256x20x20 .f32 := Host.absf main_arg5
  let main_cst_2 : FVec F S_ .f32 := constant S_ .f32 0x7F800000#32
  let main_v10 : FVec F S16x256x20x20 .f32 := broadcastInDim S16x256x20x20 ![] bcast_S_S16x256x20x20 main_cst_2
  let main_v11 : IVec S16x256x20x20 1 := cmpf .olt main_v9 main_v10
  let main_c_3 : IVec S_ 1 := constantI S_ 1 1#1
  let main_v12 : IVec S_ 1 := (fun x v => Host.reduce IntOp.andi x v reducesTo_S16x256x20x20_S_d0_1_2_3 h_S_) main_v11 main_c_3
  let main_v13 : IVec S_ 1 := andi main_v8 main_v12
  let main_v14 : FVec F S64x256 .f32 := Host.absf main_arg10
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg11 main_arg16 main_arg17 main_arg22 main_arg23 main_v13 main_v16
-- ==== Kernel.lean ====
abbrev S16x256x80x80 : Shape := ⟨4, ![16, 256, 80, 80]⟩
abbrev S16x256x40x40 : Shape := ⟨4, ![16, 256, 40, 40]⟩
abbrev S16x256x20x20 : Shape := ⟨4, ![16, 256, 20, 20]⟩
abbrev S1x256 : Shape := ⟨2, ![1, 256]⟩
abbrev S1 : Shape := ⟨1, ![1]⟩
abbrev S80x256 : Shape := ⟨2, ![80, 256]⟩
abbrev S80 : Shape := ⟨1, ![80]⟩
abbrev S64x256 : Shape := ⟨2, ![64, 256]⟩
abbrev S64 : Shape := ⟨1, ![64]⟩
abbrev S8x64 : Shape := ⟨2, ![8, 64]⟩
abbrev S16x80x80x256 : Shape := ⟨4, ![16, 80, 80, 256]⟩
abbrev S16x6400x256 : Shape := ⟨3, ![16, 6400, 256]⟩
abbrev S16x40x40x256 : Shape := ⟨4, ![16, 40, 40, 256]⟩
abbrev S16x1600x256 : Shape := ⟨3, ![16, 1600, 256]⟩
abbrev S20x20x16x256 : Shape := ⟨4, ![20, 20, 16, 256]⟩
abbrev S_ : Shape := ⟨0, ![]⟩
abbrev S71x256 : Shape := ⟨2, ![71, 256]⟩
abbrev S152x256 : Shape := ⟨2, ![152, 256]⟩
abbrev S7x256 : Shape := ⟨2, ![7, 256]⟩
abbrev S7 : Shape := ⟨1, ![7]⟩
abbrev S152 : Shape := ⟨1, ![152]⟩
abbrev S152x1 : Shape := ⟨2, ![152, 1]⟩
abbrev S149x16x8400 : Shape := ⟨3, ![149, 16, 8400]⟩
abbrev S16x8400x149 : Shape := ⟨3, ![16, 8400, 149]⟩
abbrev S1x3200x256 : Shape := ⟨3, ![1, 3200, 256]⟩
abbrev S1x1600x256 : Shape := ⟨3, ![1, 1600, 256]⟩
abbrev S1x149x3200 : Shape := ⟨3, ![1, 149, 3200]⟩
abbrev S149x2000 : Shape := ⟨2, ![149, 2000]⟩
abbrev S20x20x256 : Shape := ⟨3, ![20, 20, 256]⟩
abbrev S3 : Shape := ⟨1, ![3]⟩
abbrev S2 : Shape := ⟨1, ![2]⟩
abbrev S3200x256 : Shape := ⟨2, ![3200, 256]⟩
abbrev S152x3200 : Shape := ⟨2, ![152, 3200]⟩
abbrev S64x3200 : Shape := ⟨2, ![64, 3200]⟩
abbrev S64x1 : Shape := ⟨2, ![64, 1]⟩
abbrev S8x3200 : Shape := ⟨2, ![8, 3200]⟩
abbrev S4x3200 : Shape := ⟨2, ![4, 3200]⟩
abbrev S1x3200 : Shape := ⟨2, ![1, 3200]⟩
abbrev S4x1 : Shape := ⟨2, ![4, 1]⟩
abbrev S145x3200 : Shape := ⟨2, ![145, 3200]⟩
abbrev S149x1x3200 : Shape := ⟨3, ![149, 1, 3200]⟩
abbrev S149x3200 : Shape := ⟨2, ![149, 3200]⟩
abbrev S1x145x3200 : Shape := ⟨3, ![1, 145, 3200]⟩
abbrev S1x4x3200 : Shape := ⟨3, ![1, 4, 3200]⟩
abbrev S20x20x1x256 : Shape := ⟨4, ![20, 20, 1, 256]⟩
abbrev S1600x256 : Shape := ⟨2, ![1600, 256]⟩
abbrev S152x1600 : Shape := ⟨2, ![152, 1600]⟩
abbrev S64x1600 : Shape := ⟨2, ![64, 1600]⟩
abbrev S8x1600 : Shape := ⟨2, ![8, 1600]⟩
abbrev S4x1600 : Shape := ⟨2, ![4, 1600]⟩
abbrev S1x1600 : Shape := ⟨2, ![1, 1600]⟩
abbrev S145x1600 : Shape := ⟨2, ![145, 1600]⟩
abbrev S400x256 : Shape := ⟨2, ![400, 256]⟩
abbrev S152x400 : Shape := ⟨2, ![152, 400]⟩
abbrev S64x400 : Shape := ⟨2, ![64, 400]⟩
abbrev S8x400 : Shape := ⟨2, ![8, 400]⟩
abbrev S4x400 : Shape := ⟨2, ![4, 400]⟩
abbrev S1x400 : Shape := ⟨2, ![1, 400]⟩
abbrev S145x400 : Shape := ⟨2, ![145, 400]⟩
abbrev S149x1x2000 : Shape := ⟨3, ![149, 1, 2000]⟩

abbrev nBuf : Space → Nat
  | .hbm => 79
  | .vmem => 26
  | .smem => 0
  | _ => 0

abbrev bufTy : (tb : Table) → Fin (tcTables nBuf tb) → BufTy
  | .hbm, ⟨0, _⟩ => ⟨S16x256x80x80, .f32⟩
  | .hbm, ⟨1, _⟩ => ⟨S16x256x40x40, .f32⟩
  | .hbm, ⟨2, _⟩ => ⟨S16x256x20x20, .f32⟩
  | .hbm, ⟨3, _⟩ => ⟨S16x256x80x80, .f32⟩
  | .hbm, ⟨4, _⟩ => ⟨S16x256x40x40, .f32⟩
  | .hbm, ⟨5, _⟩ => ⟨S16x256x20x20, .f32⟩
  | .hbm, ⟨6, _⟩ => ⟨S1x256, .f32⟩
  | .hbm, ⟨7, _⟩ => ⟨S1, .f32⟩
  | .hbm, ⟨8, _⟩ => ⟨S80x256, .f32⟩
  | .hbm, ⟨9, _⟩ => ⟨S80, .f32⟩
  | .hbm, ⟨10, _⟩ => ⟨S64x256, .f32⟩
  | .hbm, ⟨11, _⟩ => ⟨S64, .f32⟩
  | .hbm, ⟨12, _⟩ => ⟨S1x256, .f32⟩
  | .hbm, ⟨13, _⟩ => ⟨S1, .f32⟩
  | .hbm, ⟨14, _⟩ => ⟨S80x256, .f32⟩
  | .hbm, ⟨15, _⟩ => ⟨S80, .f32⟩
  | .hbm, ⟨16, _⟩ => ⟨S64x256, .f32⟩
  | .hbm, ⟨17, _⟩ => ⟨S64, .f32⟩
  | .hbm, ⟨18, _⟩ => ⟨S1x256, .f32⟩
  | .hbm, ⟨19, _⟩ => ⟨S1, .f32⟩
  | .hbm, ⟨20, _⟩ => ⟨S80x256, .f32⟩
  | .hbm, ⟨21, _⟩ => ⟨S80, .f32⟩
  | .hbm, ⟨22, _⟩ => ⟨S64x256, .f32⟩
  | .hbm, ⟨23, _⟩ => ⟨S64, .f32⟩
  | .hbm, ⟨24, _⟩ => ⟨S8x64, .f32⟩
  | .hbm, ⟨25, _⟩ => ⟨S16x80x80x256, .f32⟩
  | .hbm, ⟨26, _⟩ => ⟨S16x6400x256, .f32⟩
  | .hbm, ⟨27, _⟩ => ⟨S16x80x80x256, .f32⟩
  | .hbm, ⟨28, _⟩ => ⟨S16x6400x256, .f32⟩
  | .hbm, ⟨29, _⟩ => ⟨S16x40x40x256, .f32⟩
  | .hbm, ⟨30, _⟩ => ⟨S16x1600x256, .f32⟩
  | .hbm, ⟨31, _⟩ => ⟨S16x40x40x256, .f32⟩
  | .hbm, ⟨32, _⟩ => ⟨S16x1600x256, .f32⟩
  | .hbm, ⟨33, _⟩ => ⟨S20x20x16x256, .f32⟩
  | .hbm, ⟨34, _⟩ => ⟨S20x20x16x256, .f32⟩
  | .hbm, ⟨35, _⟩ => ⟨S_, .f32⟩
  | .hbm, ⟨36, _⟩ => ⟨S1x256, .f32⟩
  | .hbm, ⟨37, _⟩ => ⟨S_, .f32⟩
  | .hbm, ⟨38, _⟩ => ⟨S71x256, .f32⟩
  | .hbm, ⟨39, _⟩ => ⟨S152x256, .f32⟩
  | .hbm, ⟨40, _⟩ => ⟨S_, .f32⟩
  | .hbm, ⟨41, _⟩ => ⟨S80x256, .f32⟩
  | .hbm, ⟨42, _⟩ => ⟨S_, .f32⟩
  | .hbm, ⟨43, _⟩ => ⟨S7x256, .f32⟩
  | .hbm, ⟨44, _⟩ => ⟨S152x256, .f32⟩
  | .hbm, ⟨45, _⟩ => ⟨S_, .f32⟩
  | .hbm, ⟨46, _⟩ => ⟨S7, .f32⟩
  | .hbm, ⟨47, _⟩ => ⟨S152, .f32⟩
  | .hbm, ⟨48, _⟩ => ⟨S152x1, .f32⟩
  | .hbm, ⟨49, _⟩ => ⟨S_, .f32⟩
  | .hbm, ⟨50, _⟩ => ⟨S1x256, .f32⟩
  | .hbm, ⟨51, _⟩ => ⟨S_, .f32⟩
  | .hbm, ⟨52, _⟩ => ⟨S71x256, .f32⟩
  | .hbm, ⟨53, _⟩ => ⟨S152x256, .f32⟩
  | .hbm, ⟨54, _⟩ => ⟨S_, .f32⟩
  | .hbm, ⟨55, _⟩ => ⟨S80x256, .f32⟩
  | .hbm, ⟨56, _⟩ => ⟨S_, .f32⟩
  | .hbm, ⟨57, _⟩ => ⟨S7x256, .f32⟩
  | .hbm, ⟨58, _⟩ => ⟨S152x256, .f32⟩
  | .hbm, ⟨59, _⟩ => ⟨S_, .f32⟩
  | .hbm, ⟨60, _⟩ => ⟨S7, .f32⟩
  | .hbm, ⟨61, _⟩ => ⟨S152, .f32⟩
  | .hbm, ⟨62, _⟩ => ⟨S152x1, .f32⟩
  | .hbm, ⟨63, _⟩ => ⟨S_, .f32⟩
  | .hbm, ⟨64, _⟩ => ⟨S1x256, .f32⟩
  | .hbm, ⟨65, _⟩ => ⟨S_, .f32⟩
  | .hbm, ⟨66, _⟩ => ⟨S71x256, .f32⟩
  | .hbm, ⟨67, _⟩ => ⟨S152x256, .f32⟩
  | .hbm, ⟨68, _⟩ => ⟨S_, .f32⟩
  | .hbm, ⟨69, _⟩ => ⟨S80x256, .f32⟩
  | .hbm, ⟨70, _⟩ => ⟨S_, .f32⟩
  | .hbm, ⟨71, _⟩ => ⟨S7x256, .f32⟩
  | .hbm, ⟨72, _⟩ => ⟨S152x256, .f32⟩
  | .hbm, ⟨73, _⟩ => ⟨S_, .f32⟩
  | .hbm, ⟨74, _⟩ => ⟨S7, .f32⟩
  | .hbm, ⟨75, _⟩ => ⟨S152, .f32⟩
  | .hbm, ⟨76, _⟩ => ⟨S152x1, .f32⟩
  | .hbm, ⟨77, _⟩ => ⟨S149x16x8400, .f32⟩
  | .hbm, ⟨78, _⟩ => ⟨S16x8400x149, .f32⟩
  | .local _ .vmem, ⟨0, _⟩ => ⟨S1x3200x256, .f32⟩
  | .local _ .vmem, ⟨1, _⟩ => ⟨S1x3200x256, .f32⟩
  | .local _ .vmem, ⟨2, _⟩ => ⟨S1x3200x256, .f32⟩
  | .local _ .vmem, ⟨3, _⟩ => ⟨S1x3200x256, .f32⟩
  | .local _ .vmem, ⟨4, _⟩ => ⟨S1x1600x256, .f32⟩
  | .local _ .vmem, ⟨5, _⟩ => ⟨S1x1600x256, .f32⟩
  | .local _ .vmem, ⟨6, _⟩ => ⟨S1x1600x256, .f32⟩
  | .local _ .vmem, ⟨7, _⟩ => ⟨S1x1600x256, .f32⟩
  | .local _ .vmem, ⟨8, _⟩ => ⟨S152x256, .f32⟩
  | .local _ .vmem, ⟨9, _⟩ => ⟨S152x256, .f32⟩
  | .local _ .vmem, ⟨10, _⟩ => ⟨S64x256, .f32⟩
  | .local _ .vmem, ⟨11, _⟩ => ⟨S152x1, .f32⟩
  | .local _ .vmem, ⟨12, _⟩ => ⟨S152x256, .f32⟩
  | .local _ .vmem, ⟨13, _⟩ => ⟨S152x256, .f32⟩
  | .local _ .vmem, ⟨14, _⟩ => ⟨S64x256, .f32⟩
  | .local _ .vmem, ⟨15, _⟩ => ⟨S152x1, .f32⟩
  | .local _ .vmem, ⟨16, _⟩ => ⟨S152x256, .f32⟩
  | .local _ .vmem, ⟨17, _⟩ => ⟨S152x256, .f32⟩
  | .local _ .vmem, ⟨18, _⟩ => ⟨S64x256, .f32⟩
  | .local _ .vmem, ⟨19, _⟩ => ⟨S152x1, .f32⟩
  | .local _ .vmem, ⟨20, _⟩ => ⟨S8x64, .f32⟩
  | .local _ .vmem, ⟨21, _⟩ => ⟨S1x149x3200, .f32⟩
  | .local _ .vmem, ⟨22, _⟩ => ⟨S1x149x3200, .f32⟩
  | .local _ .vmem, ⟨23, _⟩ => ⟨S149x2000, .f32⟩
  | .local _ .vmem, ⟨24, _⟩ => ⟨S20x20x256, .f32⟩
  | .local _ .vmem, ⟨25, _⟩ => ⟨S20x20x256, .f32⟩
  | _, _ => ⟨S16x256x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_cst_0 : Ref sig .tc := ⟨.hbm, 35, rfl⟩
abbrev main_call0_v10 : Ref sig .tc := ⟨.hbm, 36, rfl⟩
abbrev main_call0_cst_1 : Ref sig .tc := ⟨.hbm, 37, rfl⟩
abbrev main_call0_v11 : Ref sig .tc := ⟨.hbm, 38, rfl⟩
abbrev main_call0_v12 : Ref sig .tc := ⟨.hbm, 39, rfl⟩
abbrev main_call0_cst_2 : Ref sig .tc := ⟨.hbm, 40, rfl⟩
abbrev main_call0_v13 : Ref sig .tc := ⟨.hbm, 41, rfl⟩
abbrev main_call0_cst_3 : Ref sig .tc := ⟨.hbm, 42, rfl⟩
abbrev main_call0_v14 : Ref sig .tc := ⟨.hbm, 43, rfl⟩
abbrev main_call0_v15 : Ref sig .tc := ⟨.hbm, 44, rfl⟩
abbrev main_call0_cst_4 : Ref sig .tc := ⟨.hbm, 45, rfl⟩
abbrev main_call0_v16 : Ref sig .tc := ⟨.hbm, 46, rfl⟩
abbrev main_call0_v17 : Ref sig .tc := ⟨.hbm, 47, rfl⟩
abbrev main_call0_v18 : Ref sig .tc := ⟨.hbm, 48, rfl⟩
abbrev main_call0_cst_5 : Ref sig .tc := ⟨.hbm, 49, rfl⟩
abbrev main_call0_v19 : Ref sig .tc := ⟨.hbm, 50, rfl⟩
abbrev main_call0_cst_6 : Ref sig .tc := ⟨.hbm, 51, rfl⟩
abbrev main_call0_v20 : Ref sig .tc := ⟨.hbm, 52, rfl⟩
abbrev main_call0_v21 : Ref sig .tc := ⟨.hbm, 53, rfl⟩
abbrev main_call0_cst_7 : Ref sig .tc := ⟨.hbm, 54, rfl⟩
abbrev main_call0_v22 : Ref sig .tc := ⟨.hbm, 55, rfl⟩
abbrev main_call0_cst_8 : Ref sig .tc := ⟨.hbm, 56, rfl⟩
abbrev main_call0_v23 : Ref sig .tc := ⟨.hbm, 57, rfl⟩
abbrev main_call0_v24 : Ref sig .tc := ⟨.hbm, 58, rfl⟩
abbrev main_call0_cst_9 : Ref sig .tc := ⟨.hbm, 59, rfl⟩
abbrev main_call0_v25 : Ref sig .tc := ⟨.hbm, 60, rfl⟩
abbrev main_call0_v26 : Ref sig .tc := ⟨.hbm, 61, rfl⟩
abbrev main_call0_v27 : Ref sig .tc := ⟨.hbm, 62, rfl⟩
abbrev main_call0_cst_10 : Ref sig .tc := ⟨.hbm, 63, rfl⟩
abbrev main_call0_v28 : Ref sig .tc := ⟨.hbm, 64, rfl⟩
abbrev main_call0_cst_11 : Ref sig .tc := ⟨.hbm, 65, rfl⟩
abbrev main_call0_v29 : Ref sig .tc := ⟨.hbm, 66, rfl⟩
abbrev main_call0_v30 : Ref sig .tc := ⟨.hbm, 67, rfl⟩
abbrev main_call0_cst_12 : Ref sig .tc := ⟨.hbm, 68, rfl⟩
abbrev main_call0_v31 : Ref sig .tc := ⟨.hbm, 69, rfl⟩
abbrev main_call0_cst_13 : Ref sig .tc := ⟨.hbm, 70, rfl⟩
abbrev main_call0_v32 : Ref sig .tc := ⟨.hbm, 71, rfl⟩
abbrev main_call0_v33 : Ref sig .tc := ⟨.hbm, 72, rfl⟩
abbrev main_call0_cst_14 : Ref sig .tc := ⟨.hbm, 73, rfl⟩
abbrev main_call0_v34 : Ref sig .tc := ⟨.hbm, 74, rfl⟩
abbrev main_call0_v35 : Ref sig .tc := ⟨.hbm, 75, rfl⟩
abbrev main_call0_v36 : Ref sig .tc := ⟨.hbm, 76, rfl⟩
abbrev main_call0_v37 : Ref sig .tc := ⟨.hbm, 77, rfl⟩
abbrev main_v0 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c3200_i32 : BitVec 32 := 3200#32
  let v6 : BitVec 32 := Scalar.muli arg1 c3200_i32
  v6
def k0_cond2 (i : grid0.Coords) : BitVec 1 :=
  let arg1 : BitVec 32 := BitVec.ofNat 32 (i 1).val
  let c0_i32_45 : BitVec 32 := 0#32
  let v122 : BitVec 1 := Scalar.cmpi .eq arg1 c0_i32_45
  let v123 : BitVec 32 := Scalar.extui v122
  let c0_i32_46 : BitVec 32 := 0#32
  let v124 : BitVec 1 := Scalar.cmpi .ne v123 c0_i32_46
  v124

def k0_cond3 (i : grid0.Coords) : BitVec 1 :=
  let arg0 : BitVec 32 := BitVec.ofNat 32 (i 0).val
  let c1_i32_49 : BitVec 32 := 1#32
  let v128 : BitVec 1 := Scalar.cmpi .sge arg0 c1_i32_49
  let v129 : BitVec 32 := Scalar.extui v128
  let c0_i32_50 : BitVec 32 := 0#32
  let v130 : BitVec 1 := Scalar.cmpi .ne v129 c0_i32_50
  v130

def k0_off1 (i : grid0.Coords) : Fin 3 → Nat :=
  let c0_i32_64 : BitVec 32 := 0#32
  let arg0 : BitVec 32 := BitVec.ofNat 32 (i 0).val
  let c0_i32_65 : BitVec 32 := 0#32
  ![0, arg0.toNat, 0]
def k0_off2 (i : grid0.Coords) : Fin 3 → Nat :=
  let c0_i32_58 : BitVec 32 := 0#32
  let arg0 : BitVec 32 := BitVec.ofNat 32 (i 0).val
  let c0_i32_59 : BitVec 32 := 0#32
  ![0, arg0.toNat, 0]
def k0_cond4 (i : grid0.Coords) : BitVec 1 :=
  let arg1 : BitVec 32 := BitVec.ofNat 32 (i 1).val
  let c1_i32_47 : BitVec 32 := 1#32
  let v125 : BitVec 1 := Scalar.cmpi .eq arg1 c1_i32_47
  let v126 : BitVec 32 := Scalar.extui v125
  let c0_i32_48 : BitVec 32 := 0#32
  let v127 : BitVec 1 := Scalar.cmpi .ne v126 c0_i32_48
  v127

def k0_off3 (i : grid0.Coords) : Fin 4 → Nat :=
  let c0_i32_50 : BitVec 32 := 0#32
  let c0_i32_51 : BitVec 32 := 0#32
  let arg0 : BitVec 32 := BitVec.ofNat 32 (i 0).val
  let c0_i32_52 : BitVec 32 := 0#32
  ![0, 0, arg0.toNat, 0]
def k0_cond5 (i : grid0.Coords) : BitVec 1 :=
  let arg0 : BitVec 32 := BitVec.ofNat 32 (i 0).val
  let c1_i32_57 : BitVec 32 := 1#32
  let v136 : BitVec 1 := Scalar.cmpi .sge arg0 c1_i32_57
  let v137 : BitVec 32 := Scalar.extui v136
  let c0_i32_58 : BitVec 32 := 0#32
  let v138 : BitVec 1 := Scalar.cmpi .ne v137 c0_i32_58
  v138

def k0_off4 (i : grid0.Coords) : Fin 3 → Nat :=
  let c0_i32_72 : BitVec 32 := 0#32
  let arg0 : BitVec 32 := BitVec.ofNat 32 (i 0).val
  let c3200_i32_73 : BitVec 32 := 3200#32
  ![0, arg0.toNat, 3200]
def k0_off5 (i : grid0.Coords) : Fin 3 → Nat :=
  let c0_i32_66 : BitVec 32 := 0#32
  let arg0 : BitVec 32 := BitVec.ofNat 32 (i 0).val
  let c3200_i32_67 : BitVec 32 := 3200#32
  ![0, arg0.toNat, 3200]
def k0_cond6 (i : grid0.Coords) : BitVec 1 :=
  let arg1 : BitVec 32 := BitVec.ofNat 32 (i 1).val
  let c2_i32_0 : BitVec 32 := 2#32
  let v3 : BitVec 1 := Scalar.cmpi .eq arg1 c2_i32_0
  let v4 : BitVec 32 := Scalar.extui v3
  let c0_i32_1 : BitVec 32 := 0#32
  let v5 : BitVec 1 := Scalar.cmpi .ne v4 c0_i32_1
  v5

def k0_off6 (i : grid0.Coords) : Fin 4 → Nat :=
  let c0_i32_47 : BitVec 32 := 0#32
  let c0_i32_48 : BitVec 32 := 0#32
  let arg0 : BitVec 32 := BitVec.ofNat 32 (i 0).val
  let c0_i32_49 : BitVec 32 := 0#32
  ![0, 0, arg0.toNat, 0]
def k0_cond7 (i : grid0.Coords) : BitVec 1 :=
  let arg0 : BitVec 32 := BitVec.ofNat 32 (i 0).val
  let c1_i32_101 : BitVec 32 := 1#32
  let v242 : BitVec 1 := Scalar.cmpi .sge arg0 c1_i32_101
  let v243 : BitVec 32 := Scalar.extui v242
  let c0_i32_102 : BitVec 32 := 0#32
  let v244 : BitVec 1 := Scalar.cmpi .ne v243 c0_i32_102
  v244

def k0_off7 (i : grid0.Coords) : Fin 3 → Nat :=
  let c0_i32_113 : BitVec 32 := 0#32
  let arg0 : BitVec 32 := BitVec.ofNat 32 (i 0).val
  let c6400_i32_114 : BitVec 32 := 6400#32
  ![0, arg0.toNat, 6400]
def k0_off8 (i : grid0.Coords) : Fin 3 → Nat :=
  let c0_i32_110 : BitVec 32 := 0#32
  let arg0 : BitVec 32 := BitVec.ofNat 32 (i 0).val
  let c6400_i32 : BitVec 32 := 6400#32
  ![0, arg0.toNat, 6400]
def k0_cond8 (i : grid0.Coords) : BitVec 1 :=
  let arg0 : BitVec 32 := BitVec.ofNat 32 (i 0).val
  let c15_i32 : BitVec 32 := 15#32
  let v261 : BitVec 1 := Scalar.cmpi .eq arg0 c15_i32
  let v262 : BitVec 32 := Scalar.extui v261
  let c0_i32_111 : BitVec 32 := 0#32
  let v263 : BitVec 1 := Scalar.cmpi .ne v262 c0_i32_111
  v263

def k0_off9 (i : grid0.Coords) : Fin 3 → Nat :=
  let c0_i32_114 : BitVec 32 := 0#32
  let arg0 : BitVec 32 := BitVec.ofNat 32 (i 0).val
  let c0_i32_115 : BitVec 32 := 0#32
  ![0, arg0.toNat, 0]
def k0_off10 (i : grid0.Coords) : Fin 3 → Nat :=
  let c0_i32_120 : BitVec 32 := 0#32
  let arg0 : BitVec 32 := BitVec.ofNat 32 (i 0).val
  let c3200_i32 : BitVec 32 := 3200#32
  ![0, arg0.toNat, 3200]
def k0_off11 (i : grid0.Coords) : Fin 3 → Nat :=
  let c0_i32_124 : BitVec 32 := 0#32
  let arg0 : BitVec 32 := BitVec.ofNat 32 (i 0).val
  let c6400_i32_125 : BitVec 32 := 6400#32
  ![0, arg0.toNat, 6400]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1600x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1600x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S152x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S152x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S152x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S152x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S152x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S152x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S152x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S152x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S152x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== ReferenceIdeal.lean ====
abbrev S16x256x80x80 : Shape := ⟨4, ![16, 256, 80, 80]⟩
abbrev S16x256x40x40 : Shape := ⟨4, ![16, 256, 40, 40]⟩
abbrev S16x256x20x20 : Shape := ⟨4, ![16, 256, 20, 20]⟩
abbrev S1x256 : Shape := ⟨2, ![1, 256]⟩
abbrev S1 : Shape := ⟨1, ![1]⟩
abbrev S80x256 : Shape := ⟨2, ![80, 256]⟩
abbrev S80 : Shape := ⟨1, ![80]⟩
abbrev S64x256 : Shape := ⟨2, ![64, 256]⟩
abbrev S64 : Shape := ⟨1, ![64]⟩
abbrev S16 : Shape := ⟨1, ![16]⟩
abbrev S16x80x80x1 : Shape := ⟨4, ![16, 80, 80, 1]⟩
abbrev S1x1x1x1 : Shape := ⟨4, ![1, 1, 1, 1]⟩
abbrev S16x6400x1 : Shape := ⟨3, ![16, 6400, 1]⟩
abbrev S16x80x80x80 : Shape := ⟨4, ![16, 80, 80, 80]⟩
abbrev S1x1x1x80 : Shape := ⟨4, ![1, 1, 1, 80]⟩
abbrev S16x6400x80 : Shape := ⟨3, ![16, 6400, 80]⟩
abbrev S16x80x80x64 : Shape := ⟨4, ![16, 80, 80, 64]⟩
abbrev S1x1x1x64 : Shape := ⟨4, ![1, 1, 1, 64]⟩
abbrev S16x6400x64 : Shape := ⟨3, ![16, 6400, 64]⟩
abbrev S16x6400x4x16 : Shape := ⟨4, ![16, 6400, 4, 16]⟩
abbrev S_ : Shape := ⟨0, ![]⟩
abbrev S16x6400x4 : Shape := ⟨3, ![16, 6400, 4]⟩
abbrev S16x6400x4x1 : Shape := ⟨4, ![16, 6400, 4, 1]⟩
abbrev S80x80 : Shape := ⟨2, ![80, 80]⟩
abbrev S80x80x1 : Shape := ⟨3, ![80, 80, 1]⟩
abbrev S80x80x2 : Shape := ⟨3, ![80, 80, 2]⟩
abbrev S6400x2 : Shape := ⟨2, ![6400, 2]⟩
abbrev S1x6400x2 : Shape := ⟨3, ![1, 6400, 2]⟩
abbrev S16x6400x2 : Shape := ⟨3, ![16, 6400, 2]⟩
abbrev S16x6400x149 : Shape := ⟨3, ![16, 6400, 149]⟩
abbrev S16x40x40x1 : Shape := ⟨4, ![16, 40, 40, 1]⟩
abbrev S16x1600x1 : Shape := ⟨3, ![16, 1600, 1]⟩
abbrev S16x40x40x80 : Shape := ⟨4, ![16, 40, 40, 80]⟩
abbrev S16x1600x80 : Shape := ⟨3, ![16, 1600, 80]⟩
abbrev S16x40x40x64 : Shape := ⟨4, ![16, 40, 40, 64]⟩
abbrev S16x1600x64 : Shape := ⟨3, ![16, 1600, 64]⟩
abbrev S16x1600x4x16 : Shape := ⟨4, ![16, 1600, 4, 16]⟩
abbrev S16x1600x4 : Shape := ⟨3, ![16, 1600, 4]⟩
abbrev S16x1600x4x1 : Shape := ⟨4, ![16, 1600, 4, 1]⟩
abbrev S40 : Shape := ⟨1, ![40]⟩
abbrev S40x40 : Shape := ⟨2, ![40, 40]⟩
abbrev S40x40x1 : Shape := ⟨3, ![40, 40, 1]⟩
abbrev S40x40x2 : Shape := ⟨3, ![40, 40, 2]⟩
abbrev S1600x2 : Shape := ⟨2, ![1600, 2]⟩
abbrev S1x1600x2 : Shape := ⟨3, ![1, 1600, 2]⟩
abbrev S16x1600x2 : Shape := ⟨3, ![16, 1600, 2]⟩
abbrev S16x1600x149 : Shape := ⟨3, ![16, 1600, 149]⟩
abbrev S16x20x20x1 : Shape := ⟨4, ![16, 20, 20, 1]⟩
abbrev S16x400x1 : Shape := ⟨3, ![16, 400, 1]⟩
abbrev S16x20x20x80 : Shape := ⟨4, ![16, 20, 20, 80]⟩
abbrev S16x400x80 : Shape := ⟨3, ![16, 400, 80]⟩
abbrev S16x20x20x64 : Shape := ⟨4, ![16, 20, 20, 64]⟩
abbrev S16x400x64 : Shape := ⟨3, ![16, 400, 64]⟩
abbrev S16x400x4x16 : Shape := ⟨4, ![16, 400, 4, 16]⟩
abbrev S16x400x4 : Shape := ⟨3, ![16, 400, 4]⟩
abbrev S16x400x4x1 : Shape := ⟨4, ![16, 400, 4, 1]⟩
abbrev S20 : Shape := ⟨1, ![20]⟩
abbrev S20x20 : Shape := ⟨2, ![20, 20]⟩
abbrev S20x20x1 : Shape := ⟨3, ![20, 20, 1]⟩
abbrev S20x20x2 : Shape := ⟨3, ![20, 20, 2]⟩
abbrev S400x2 : Shape := ⟨2, ![400, 2]⟩
abbrev S1x400x2 : Shape := ⟨3, ![1, 400, 2]⟩
abbrev S16x400x2 : Shape := ⟨3, ![16, 400, 2]⟩
abbrev S16x400x149 : Shape := ⟨3, ![16, 400, 149]⟩
abbrev S16x8400x149 : Shape := ⟨3, ![16, 8400, 149]⟩

abbrev nBuf : Space → Nat
  | .hbm => 211
  | .vmem => 0
  | .smem => 0
  | _ => 0

abbrev hbmTy0_0 (i : Nat) : BufTy := match i % 128 with
  | 0 => ⟨S16x256x80x80, .f32⟩
  | 1 => ⟨S16x256x40x40, .f32⟩
  | 2 => ⟨S16x256x20x20, .f32⟩
  | 3 => ⟨S16x256x80x80, .f32⟩
  | 4 => ⟨S16x256x40x40, .f32⟩
  | 5 => ⟨S16x256x20x20, .f32⟩
  | 6 => ⟨S1x256, .f32⟩
  | 7 => ⟨S1, .f32⟩
  | 8 => ⟨S80x256, .f32⟩
  | 9 => ⟨S80, .f32⟩
  | 10 => ⟨S64x256, .f32⟩
  | 11 => ⟨S64, .f32⟩
  | 12 => ⟨S1x256, .f32⟩
  | 13 => ⟨S1, .f32⟩
  | 14 => ⟨S80x256, .f32⟩
  | 15 => ⟨S80, .f32⟩
  | 16 => ⟨S64x256, .f32⟩
  | 17 => ⟨S64, .f32⟩
  | 18 => ⟨S1x256, .f32⟩
  | 19 => ⟨S1, .f32⟩
  | 20 => ⟨S80x256, .f32⟩
  | 21 => ⟨S80, .f32⟩
  | 22 => ⟨S64x256, .f32⟩
  | 23 => ⟨S64, .f32⟩
  | 24 => ⟨S16, .f32⟩
  | 25 => ⟨S16, .f32⟩
  | 26 => ⟨S16, .f32⟩
  | 27 => ⟨S16x80x80x1, .f32⟩
  | 28 => ⟨S1x1x1x1, .f32⟩
  | 29 => ⟨S16x80x80x1, .f32⟩
  | 30 => ⟨S16x80x80x1, .f32⟩
  | 31 => ⟨S16x6400x1, .f32⟩
  | 32 => ⟨S16x80x80x80, .f32⟩
  | 33 => ⟨S1x1x1x80, .f32⟩
  | 34 => ⟨S16x80x80x80, .f32⟩
  | 35 => ⟨S16x80x80x80, .f32⟩
  | 36 => ⟨S16x6400x80, .f32⟩
  | 37 => ⟨S16x80x80x64, .f32⟩
  | 38 => ⟨S1x1x1x64, .f32⟩
  | 39 => ⟨S16x80x80x64, .f32⟩
  | 40 => ⟨S16x80x80x64, .f32⟩
  | 41 => ⟨S16x6400x64, .f32⟩
  | 42 => ⟨S16x6400x4x16, .f32⟩
  | 43 => ⟨S_, .f32⟩
  | 44 => ⟨S16x6400x4, .f32⟩
  | 45 => ⟨S_, .f32⟩
  | 46 => ⟨S16x6400x4, .f32⟩
  | 47 => ⟨S16x6400x4, .f32⟩
  | 48 => ⟨S16x6400x4x1, .f32⟩
  | 49 => ⟨S16x6400x4x16, .f32⟩
  | 50 => ⟨S16x6400x4x16, .f32⟩
  | 51 => ⟨S16x6400x4x16, .f32⟩
  | 52 => ⟨S_, .f32⟩
  | 53 => ⟨S16x6400x4, .f32⟩
  | 54 => ⟨S16x6400x4x1, .f32⟩
  | 55 => ⟨S16x6400x4x16, .f32⟩
  | 56 => ⟨S16x6400x4x16, .f32⟩
  | 57 => ⟨S16x6400x4, .f32⟩
  | 58 => ⟨S80, .f32⟩
  | 59 => ⟨S80, .f32⟩
  | 60 => ⟨S80x80, .f32⟩
  | 61 => ⟨S80x80, .f32⟩
  | 62 => ⟨S80x80x1, .f32⟩
  | 63 => ⟨S80x80x1, .f32⟩
  | 64 => ⟨S80x80x2, .f32⟩
  | 65 => ⟨S6400x2, .f32⟩
  | 66 => ⟨S_, .f32⟩
  | 67 => ⟨S6400x2, .f32⟩
  | 68 => ⟨S6400x2, .f32⟩
  | 69 => ⟨S_, .f32⟩
  | 70 => ⟨S6400x2, .f32⟩
  | 71 => ⟨S6400x2, .f32⟩
  | 72 => ⟨S1x6400x2, .f32⟩
  | 73 => ⟨S16x6400x2, .f32⟩
  | 74 => ⟨S_, .f32⟩
  | 75 => ⟨S16x6400x2, .f32⟩
  | 76 => ⟨S16x6400x2, .f32⟩
  | 77 => ⟨S16x6400x2, .f32⟩
  | 78 => ⟨S16x6400x2, .f32⟩
  | 79 => ⟨S1x6400x2, .f32⟩
  | 80 => ⟨S16x6400x2, .f32⟩
  | 81 => ⟨S_, .f32⟩
  | 82 => ⟨S16x6400x2, .f32⟩
  | 83 => ⟨S16x6400x2, .f32⟩
  | 84 => ⟨S16x6400x2, .f32⟩
  | 85 => ⟨S16x6400x2, .f32⟩
  | 86 => ⟨S16x6400x4, .f32⟩
  | 87 => ⟨S16x6400x149, .f32⟩
  | 88 => ⟨S16x40x40x1, .f32⟩
  | 89 => ⟨S1x1x1x1, .f32⟩
  | 90 => ⟨S16x40x40x1, .f32⟩
  | 91 => ⟨S16x40x40x1, .f32⟩
  | 92 => ⟨S16x1600x1, .f32⟩
  | 93 => ⟨S16x40x40x80, .f32⟩
  | 94 => ⟨S1x1x1x80, .f32⟩
  | 95 => ⟨S16x40x40x80, .f32⟩
  | 96 => ⟨S16x40x40x80, .f32⟩
  | 97 => ⟨S16x1600x80, .f32⟩
  | 98 => ⟨S16x40x40x64, .f32⟩
  | 99 => ⟨S1x1x1x64, .f32⟩
  | 100 => ⟨S16x40x40x64, .f32⟩
  | 101 => ⟨S16x40x40x64, .f32⟩
  | 102 => ⟨S16x1600x64, .f32⟩
  | 103 => ⟨S16x1600x4x16, .f32⟩
  | 104 => ⟨S_, .f32⟩
  | 105 => ⟨S16x1600x4, .f32⟩
  | 106 => ⟨S_, .f32⟩
  | 107 => ⟨S16x1600x4, .f32⟩
  | 108 => ⟨S16x1600x4, .f32⟩
  | 109 => ⟨S16x1600x4x1, .f32⟩
  | 110 => ⟨S16x1600x4x16, .f32⟩
  | 111 => ⟨S16x1600x4x16, .f32⟩
  | 112 => ⟨S16x1600x4x16, .f32⟩
  | 113 => ⟨S_, .f32⟩
  | 114 => ⟨S16x1600x4, .f32⟩
  | 115 => ⟨S16x1600x4x1, .f32⟩
  | 116 => ⟨S16x1600x4x16, .f32⟩
  | 117 => ⟨S16x1600x4x16, .f32⟩
  | 118 => ⟨S16x1600x4, .f32⟩
  | 119 => ⟨S40, .f32⟩
  | 120 => ⟨S40, .f32⟩
  | 121 => ⟨S40x40, .f32⟩
  | 122 => ⟨S40x40, .f32⟩
  | 123 => ⟨S40x40x1, .f32⟩
  | 124 => ⟨S40x40x1, .f32⟩
  | 125 => ⟨S40x40x2, .f32⟩
  | 126 => ⟨S1600x2, .f32⟩
  | 127 => ⟨S_, .f32⟩
  | _ => ⟨S16x256x80x80, .f32⟩

abbrev hbmTy0_1 (i : Nat) : BufTy := match i % 128 with
  | 0 => ⟨S1600x2, .f32⟩
  | 1 => ⟨S1600x2, .f32⟩
  | 2 => ⟨S_, .f32⟩
  | 3 => ⟨S1600x2, .f32⟩
  | 4 => ⟨S1600x2, .f32⟩
  | 5 => ⟨S1x1600x2, .f32⟩
  | 6 => ⟨S16x1600x2, .f32⟩
  | 7 => ⟨S_, .f32⟩
  | 8 => ⟨S16x1600x2, .f32⟩
  | 9 => ⟨S16x1600x2, .f32⟩
  | 10 => ⟨S16x1600x2, .f32⟩
  | 11 => ⟨S16x1600x2, .f32⟩
  | 12 => ⟨S1x1600x2, .f32⟩
  | 13 => ⟨S16x1600x2, .f32⟩
  | 14 => ⟨S_, .f32⟩
  | 15 => ⟨S16x1600x2, .f32⟩
  | 16 => ⟨S16x1600x2, .f32⟩
  | 17 => ⟨S16x1600x2, .f32⟩
  | 18 => ⟨S16x1600x2, .f32⟩
  | 19 => ⟨S16x1600x4, .f32⟩
  | 20 => ⟨S16x1600x149, .f32⟩
  | 21 => ⟨S16x20x20x1, .f32⟩
  | 22 => ⟨S1x1x1x1, .f32⟩
  | 23 => ⟨S16x20x20x1, .f32⟩
  | 24 => ⟨S16x20x20x1, .f32⟩
  | 25 => ⟨S16x400x1, .f32⟩
  | 26 => ⟨S16x20x20x80, .f32⟩
  | 27 => ⟨S1x1x1x80, .f32⟩
  | 28 => ⟨S16x20x20x80, .f32⟩
  | 29 => ⟨S16x20x20x80, .f32⟩
  | 30 => ⟨S16x400x80, .f32⟩
  | 31 => ⟨S16x20x20x64, .f32⟩
  | 32 => ⟨S1x1x1x64, .f32⟩
  | 33 => ⟨S16x20x20x64, .f32⟩
  | 34 => ⟨S16x20x20x64, .f32⟩
  | 35 => ⟨S16x400x64, .f32⟩
  | 36 => ⟨S16x400x4x16, .f32⟩
  | 37 => ⟨S_, .f32⟩
  | 38 => ⟨S16x400x4, .f32⟩
  | 39 => ⟨S_, .f32⟩
  | 40 => ⟨S16x400x4, .f32⟩
  | 41 => ⟨S16x400x4, .f32⟩
  | 42 => ⟨S16x400x4x1, .f32⟩
  | 43 => ⟨S16x400x4x16, .f32⟩
  | 44 => ⟨S16x400x4x16, .f32⟩
  | 45 => ⟨S16x400x4x16, .f32⟩
  | 46 => ⟨S_, .f32⟩
  | 47 => ⟨S16x400x4, .f32⟩
  | 48 => ⟨S16x400x4x1, .f32⟩
  | 49 => ⟨S16x400x4x16, .f32⟩
  | 50 => ⟨S16x400x4x16, .f32⟩
  | 51 => ⟨S16x400x4, .f32⟩
  | 52 => ⟨S20, .f32⟩
  | 53 => ⟨S20, .f32⟩
  | 54 => ⟨S20x20, .f32⟩
  | 55 => ⟨S20x20, .f32⟩
  | 56 => ⟨S20x20x1, .f32⟩
  | 57 => ⟨S20x20x1, .f32⟩
  | 58 => ⟨S20x20x2, .f32⟩
  | 59 => ⟨S400x2, .f32⟩
  | 60 => ⟨S_, .f32⟩
  | 61 => ⟨S400x2, .f32⟩
  | 62 => ⟨S400x2, .f32⟩
  | 63 => ⟨S_, .f32⟩
  | 64 => ⟨S400x2, .f32⟩
  | 65 => ⟨S400x2, .f32⟩
  | 66 => ⟨S1x400x2, .f32⟩
  | 67 => ⟨S16x400x2, .f32⟩
  | 68 => ⟨S_, .f32⟩
  | 69 => ⟨S16x400x2, .f32⟩
  | 70 => ⟨S16x400x2, .f32⟩
  | 71 => ⟨S16x400x2, .f32⟩
  | 72 => ⟨S16x400x2, .f32⟩
  | 73 => ⟨S1x400x2, .f32⟩
  | 74 => ⟨S16x400x2, .f32⟩
  | 75 => ⟨S_, .f32⟩
  | 76 => ⟨S16x400x2, .f32⟩
  | 77 => ⟨S16x400x2, .f32⟩
  | 78 => ⟨S16x400x2, .f32⟩
  | 79 => ⟨S16x400x2, .f32⟩
  | 80 => ⟨S16x400x4, .f32⟩
  | 81 => ⟨S16x400x149, .f32⟩
  | 82 => ⟨S16x8400x149, .f32⟩
  | _ => ⟨S16x256x80x80, .f32⟩

abbrev hbmTy (i : Nat) : BufTy := match i / 128 with
  | 0 => hbmTy0_0 i
  | 1 => hbmTy0_1 i
  | _ => ⟨S16x256x80x80, .f32⟩

abbrev bufTy : (tb : Table) → Fin (tcTables nBuf tb) → BufTy
  | .hbm, ⟨i, _⟩ => hbmTy i
  | _, _ => ⟨S16x256x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_cst_0 : Ref sig .tc := ⟨.hbm, 25, rfl⟩
abbrev main_cst_1 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_7 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_8 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_9 : Ref sig .tc := ⟨.hbm, 104, rfl⟩
abbrev main_v70 : Ref sig .tc := ⟨.hbm, 105, rfl⟩
abbrev main_cst_10 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_11 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_12 : Ref sig .tc := ⟨.hbm, 127, rfl⟩
abbrev main_v90 : Ref sig .tc := ⟨.hbm, 128, rfl⟩
abbrev main_v91 : Ref sig .tc := ⟨.hbm, 129, rfl⟩
abbrev main_cst_13 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_14 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_15 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_16 : Ref sig .tc := ⟨.hbm, 165, rfl⟩
abbrev main_v124 : Ref sig .tc := ⟨.hbm, 166, rfl⟩
abbrev main_cst_17 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_18 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_19 : Ref sig .tc := ⟨.hbm, 188, rfl⟩
abbrev main_v144 : Ref sig .tc := ⟨.hbm, 189, rfl⟩
abbrev main_v145 : Ref sig .tc := ⟨.hbm, 190, rfl⟩
abbrev main_cst_20 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_21 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_22 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩

abbrev nD : Nat := 1
abbrev τ : Topo := Topo.v7x

variable {F : FTy → Type} [FloatOps F]
-- ==== Proof.Launch.lean ====
/- How the launch is laid out: its staging buffers, windows and grid points, and the lines of the program around it. -/
module

public import proofs.«01_k».proof.Proof.Gen.KernelIdeal
public import Idealize.ShloMosaic.Lib.Pipeline.Kit
public import Idealize.ShloMosaic.Lib.Pipeline.Regions

@[expose] public section

-- the launch kit's decided enumerations over 17 windows recurse past the default depth
set_option maxRecDepth 2688

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 17, 0 < (spec0 w).block.numel := by decide
/-- The windows' arrays and the staging memrefs are whole buffers. -/
theorem arr_whole0 : ∀ w : Fin 17, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | 15 => Memref.isWhole_whole _ | 16 => Memref.isWhole_whole _ | ⟨_ + 17, h⟩ => absurd h (Nat.not_lt.2 (Nat.le_add_left _ _))
/-- Each staging buffer is whole. -/
theorem stage_whole0 : ∀ (w : Fin 17) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | 11 => fun s => hstage0_11 (s.cast nbuf0_11) | 12 => fun s => hstage0_12 (s.cast nbuf0_12) | 13 => fun s => hstage0_13 (s.cast nbuf0_13) | 14 => fun s => hstage0_14 (s.cast nbuf0_14) | 15 => fun s => hstage0_15 (s.cast nbuf0_15) | 16 => fun s => hstage0_16 (s.cast nbuf0_16) | ⟨_ + 17, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 48 points. -/
theorem N_0 : grid0.N = 48 := by decide

/-- The windows conjoined one by one. -/
theorem bigSep_W0 {M : Type} [URA M] (Φ : Fin 17 → sProp M) : bigSep Finset.univ Φ = iprop(Φ (0 : Fin 17) ∗ Φ (1 : Fin 17) ∗ Φ (2 : Fin 17) ∗ Φ (3 : Fin 17) ∗ Φ (4 : Fin 17) ∗ Φ (5 : Fin 17) ∗ Φ (6 : Fin 17) ∗ Φ (7 : Fin 17) ∗ Φ (8 : Fin 17) ∗ Φ (9 : Fin 17) ∗ Φ (10 : Fin 17) ∗ Φ (11 : Fin 17) ∗ Φ (12 : Fin 17) ∗ Φ (13 : Fin 17) ∗ Φ (14 : Fin 17) ∗ Φ (15 : Fin 17) ∗ Φ (16 : Fin 17)) :=
  bigSep_univ_eq_bigSepL [(0 : Fin 17), (1 : Fin 17), (2 : Fin 17), (3 : Fin 17), (4 : Fin 17), (5 : Fin 17), (6 : Fin 17), (7 : Fin 17), (8 : Fin 17), (9 : Fin 17), (10 : Fin 17), (11 : Fin 17), (12 : Fin 17), (13 : Fin 17), (14 : Fin 17), (15 : Fin 17), (16 : Fin 17)] (by decide) (by decide) Φ
/-- The core's scoped buffers that are no staging buffer of custom_call 0, each whole at some contents:
    `cc0_scratch0`, `cc0_scratch1`, `cc0_scratch2`, `cc0_scratch3`, `cc0_scratch4`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f) ∗ (∃ f : Buf Val ((c : Thread nD τ).loc cc0_scratch3), ((c : Thread nD τ).loc cc0_scratch3) ↦{fullShare} f) ∗ (∃ f : Buf Val ((c : Thread nD τ).loc cc0_scratch4), ((c : Thread nD τ).loc cc0_scratch4) ↦{fullShare} f)) :=
  Pipeline.scopedRest_eq_of_list spec0 c [cc0_scratch0, cc0_scratch1, cc0_scratch2, cc0_scratch3, cc0_scratch4] (by decide) (by decide)
-- the unscoped rest of custom_call 0 is 62 buffers: not enumerated (routed whole, as `Pipeline.unscopedRest`)

/-! ## @main as segments and as a chain of items (Lib/Pipeline/Regions.lean `θ_run_regions_kit`, `Pipeline.chain`) -/

/-- 53 host operations of @kernel (main_call0), in order. -/
abbrev hostOps0 : List (HloOp τ sig (Elt F)) :=
  ( StableHlo.TRef.nullary (.of main_call0_cst : StableHlo.TRef sig ⟨S8x64, .f32⟩) (fun i => FloatOps.ofBits .f32 (lit0 (S8x64.rowMajor i)))
  :: StableHlo.TRef.unary (.of main_arg0 : StableHlo.TRef sig ⟨S16x256x80x80, .f32⟩) (.of main_call0_v0 : StableHlo.TRef sig ⟨S16x80x80x256, .f32⟩) (transpose S16x80x80x256 [0, 2, 3, 1] · transposes_S16x256x80x80_S16x80x80x256_0_2_3_1)
  :: StableHlo.TRef.reshape (.of main_call0_v0 : StableHlo.TRef sig ⟨S16x80x80x256, .f32⟩) (.of main_call0_v1 : StableHlo.TRef sig ⟨S16x6400x256, .f32⟩) (rfl : (.f32 : EltTy) = .f32) shapeCasts_S16x80x80x256_S16x6400x256
  :: StableHlo.TRef.unary (.of main_arg3 : StableHlo.TRef sig ⟨S16x256x80x80, .f32⟩) (.of main_call0_v2 : StableHlo.TRef sig ⟨S16x80x80x256, .f32⟩) (transpose S16x80x80x256 [0, 2, 3, 1] · transposes_S16x256x80x80_S16x80x80x256_0_2_3_1)
  :: StableHlo.TRef.reshape (.of main_call0_v2 : StableHlo.TRef sig ⟨S16x80x80x256, .f32⟩) (.of main_call0_v3 : StableHlo.TRef sig ⟨S16x6400x256, .f32⟩) (rfl : (.f32 : EltTy) = .f32) shapeCasts_S16x80x80x256_S16x6400x256
  :: StableHlo.TRef.unary (.of main_arg1 : StableHlo.TRef sig ⟨S16x256x40x40, .f32⟩) (.of main_call0_v4 : StableHlo.TRef sig ⟨S16x40x40x256, .f32⟩) (transpose S16x40x40x256 [0, 2, 3, 1] · transposes_S16x256x40x40_S16x40x40x256_0_2_3_1)
  :: StableHlo.TRef.reshape (.of main_call0_v4 : StableHlo.TRef sig ⟨S16x40x40x256, .f32⟩) (.of main_call0_v5 : StableHlo.TRef sig ⟨S16x1600x256, .f32⟩) (rfl : (.f32 : EltTy) = .f32) shapeCasts_S16x40x40x256_S16x1600x256
  :: StableHlo.TRef.unary (.of main_arg4 : StableHlo.TRef sig ⟨S16x256x40x40, .f32⟩) (.of main_call0_v6 : StableHlo.TRef sig ⟨S16x40x40x256, .f32⟩) (transpose S16x40x40x256 [0, 2, 3, 1] · transposes_S16x256x40x40_S16x40x40x256_0_2_3_1)
  :: StableHlo.TRef.reshape (.of main_call0_v6 : StableHlo.TRef sig ⟨S16x40x40x256, .f32⟩) (.of main_call0_v7 : StableHlo.TRef sig ⟨S16x1600x256, .f32⟩) (rfl : (.f32 : EltTy) = .f32) shapeCasts_S16x40x40x256_S16x1600x256
  :: StableHlo.TRef.unary (.of main_arg2 : StableHlo.TRef sig ⟨S16x256x20x20, .f32⟩) (.of main_call0_v8 : StableHlo.TRef sig ⟨S20x20x16x256, .f32⟩) (transpose S20x20x16x256 [2, 3, 0, 1] · transposes_S16x256x20x20_S20x20x16x256_2_3_0_1)
  :: StableHlo.TRef.unary (.of main_arg5 : StableHlo.TRef sig ⟨S16x256x20x20, .f32⟩) (.of main_call0_v9 : StableHlo.TRef sig ⟨S20x20x16x256, .f32⟩) (transpose S20x20x16x256 [2, 3, 0, 1] · transposes_S16x256x20x20_S20x20x16x256_2_3_0_1)
  :: StableHlo.TRef.nullary (.of main_call0_cst_0 : StableHlo.TRef sig ⟨S_, .f32⟩) (constant S_ .f32 0x00000000#32)
  :: StableHlo.TRef.unary (.of main_call0_cst_0 : StableHlo.TRef sig ⟨S_, .f32⟩) (.of main_call0_v10 : StableHlo.TRef sig ⟨S1x256, .f32⟩) (broadcastInDim S1x256 ![] bcast_S_S1x256)
  :: StableHlo.TRef.nullary (.of main_call0_cst_1 : StableHlo.TRef sig ⟨S_, .f32⟩) (constant S_ .f32 0x00000000#32)
  :: StableHlo.TRef.unary (.of main_call0_cst_1 : StableHlo.TRef sig ⟨S_, .f32⟩) (.of main_call0_v11 : StableHlo.TRef sig ⟨S71x256, .f32⟩) (broadcastInDim S71x256 ![] bcast_S_S71x256)
  :: StableHlo.TRef.nary (Ts := ![⟨S1x256, .f32⟩, ⟨S80x256, .f32⟩, ⟨S71x256, .f32⟩]) (Fin.cons (.of main_call0_v10 : StableHlo.TRef sig ⟨S1x256, .f32⟩) (Fin.cons (.of main_arg8 : StableHlo.TRef sig ⟨S80x256, .f32⟩) (Fin.cons (.of main_call0_v11 : StableHlo.TRef sig ⟨S71x256, .f32⟩) (fun k => k.elim0)))) (.of main_call0_v12 : StableHlo.TRef sig ⟨S152x256, .f32⟩) (fun u => (concatenate S152x256 0 [⟨S1x256, (u 0 : (⟨S1x256, .f32⟩ : BufTy).Contents (Elt F))⟩, ⟨S80x256, (u 1 : (⟨S80x256, .f32⟩ : BufTy).Contents (Elt F))⟩, ⟨S71x256, (u 2 : (⟨S71x256, .f32⟩ : BufTy).Contents (Elt F))⟩] concatenates_S1x256_S80x256_S71x256_S152x256_d0 : (⟨S152x256, .f32⟩ : BufTy).Contents (Elt F)))
  :: StableHlo.TRef.nullary (.of main_call0_cst_2 : StableHlo.TRef sig ⟨S_, .f32⟩) (constant S_ .f32 0x00000000#32)
  :: StableHlo.TRef.unary (.of main_call0_cst_2 : StableHlo.TRef sig ⟨S_, .f32⟩) (.of main_call0_v13 : StableHlo.TRef sig ⟨S80x256, .f32⟩) (broadcastInDim S80x256 ![] bcast_S_S80x256)
  :: StableHlo.TRef.nullary (.of main_call0_cst_3 : StableHlo.TRef sig ⟨S_, .f32⟩) (constant S_ .f32 0x00000000#32)
  :: StableHlo.TRef.unary (.of main_call0_cst_3 : StableHlo.TRef sig ⟨S_, .f32⟩) (.of main_call0_v14 : StableHlo.TRef sig ⟨S7x256, .f32⟩) (broadcastInDim S7x256 ![] bcast_S_S7x256)
  :: StableHlo.TRef.nary (Ts := ![⟨S1x256, .f32⟩, ⟨S80x256, .f32⟩, ⟨S64x256, .f32⟩, ⟨S7x256, .f32⟩]) (Fin.cons (.of main_arg6 : StableHlo.TRef sig ⟨S1x256, .f32⟩) (Fin.cons (.of main_call0_v13 : StableHlo.TRef sig ⟨S80x256, .f32⟩) (Fin.cons (.of main_arg10 : StableHlo.TRef sig ⟨S64x256, .f32⟩) (Fin.cons (.of main_call0_v14 : StableHlo.TRef sig ⟨S7x256, .f32⟩) (fun k => k.elim0))))) (.of main_call0_v15 : StableHlo.TRef sig ⟨S152x256, .f32⟩) (fun u => (concatenate S152x256 0 [⟨S1x256, (u 0 : (⟨S1x256, .f32⟩ : BufTy).Contents (Elt F))⟩, ⟨S80x256, (u 1 : (⟨S80x256, .f32⟩ : BufTy).Contents (Elt F))⟩, ⟨S64x256, (u 2 : (⟨S64x256, .f32⟩ : BufTy).Contents (Elt F))⟩, ⟨S7x256, (u 3 : (⟨S7x256, .f32⟩ : BufTy).Contents (Elt F))⟩] concatenates_S1x256_S80x256_S64x256_S7x256_S152x256_d0 : (⟨S152x256, .f32⟩ : BufTy).Contents (Elt F)))
  :: StableHlo.TRef.nullary (.of main_call0_cst_4 : StableHlo.TRef sig ⟨S_, .f32⟩) (constant S_ .f32 0x00000000#32)
  :: StableHlo.TRef.unary (.of main_call0_cst_4 : StableHlo.TRef sig ⟨S_, .f32⟩) (.of main_call0_v16 : StableHlo.TRef sig ⟨S7, .f32⟩) (broadcastInDim S7 ![] bcast_S_S7)
  :: StableHlo.TRef.nary (Ts := ![⟨S1, .f32⟩, ⟨S80, .f32⟩, ⟨S64, .f32⟩, ⟨S7, .f32⟩]) (Fin.cons (.of main_arg7 : StableHlo.TRef sig ⟨S1, .f32⟩) (Fin.cons (.of main_arg9 : StableHlo.TRef sig ⟨S80, .f32⟩) (Fin.cons (.of main_arg11 : StableHlo.TRef sig ⟨S64, .f32⟩) (Fin.cons (.of main_call0_v16 : StableHlo.TRef sig ⟨S7, .f32⟩) (fun k => k.elim0))))) (.of main_call0_v17 : StableHlo.TRef sig ⟨S152, .f32⟩) (fun u => (concatenate S152 0 [⟨S1, (u 0 : (⟨S1, .f32⟩ : BufTy).Contents (Elt F))⟩, ⟨S80, (u 1 : (⟨S80, .f32⟩ : BufTy).Contents (Elt F))⟩, ⟨S64, (u 2 : (⟨S64, .f32⟩ : BufTy).Contents (Elt F))⟩, ⟨S7, (u 3 : (⟨S7, .f32⟩ : BufTy).Contents (Elt F))⟩] concatenates_S1_S80_S64_S7_S152_d0 : (⟨S152, .f32⟩ : BufTy).Contents (Elt F)))
  :: StableHlo.TRef.reshape (.of main_call0_v17 : StableHlo.TRef sig ⟨S152, .f32⟩) (.of main_call0_v18 : StableHlo.TRef sig ⟨S152x1, .f32⟩) (rfl : (.f32 : EltTy) = .f32) shapeCasts_S152_S152x1
  :: StableHlo.TRef.nullary (.of main_call0_cst_5 : StableHlo.TRef sig ⟨S_, .f32⟩) (constant S_ .f32 0x00000000#32)
  :: StableHlo.TRef.unary (.of main_call0_cst_5 : StableHlo.TRef sig ⟨S_, .f32⟩) (.of main_call0_v19 : StableHlo.TRef sig ⟨S1x256, .f32⟩) (broadcastInDim S1x256 ![] bcast_S_S1x256)
  :: StableHlo.TRef.nullary (.of main_call0_cst_6 : StableHlo.TRef sig ⟨S_, .f32⟩) (constant S_ .f32 0x00000000#32)
  :: StableHlo.TRef.unary (.of main_call0_cst_6 : StableHlo.TRef sig ⟨S_, .f32⟩) (.of main_call0_v20 : StableHlo.TRef sig ⟨S71x256, .f32⟩) (broadcastInDim S71x256 ![] bcast_S_S71x256)
  :: StableHlo.TRef.nary (Ts := ![⟨S1x256, .f32⟩, ⟨S80x256, .f32⟩, ⟨S71x256, .f32⟩]) (Fin.cons (.of main_call0_v19 : StableHlo.TRef sig ⟨S1x256, .f32⟩) (Fin.cons (.of main_arg14 : StableHlo.TRef sig ⟨S80x256, .f32⟩) (Fin.cons (.of main_call0_v20 : StableHlo.TRef sig ⟨S71x256, .f32⟩) (fun k => k.elim0)))) (.of main_call0_v21 : StableHlo.TRef sig ⟨S152x256, .f32⟩) (fun u => (concatenate S152x256 0 [⟨S1x256, (u 0 : (⟨S1x256, .f32⟩ : BufTy).Contents (Elt F))⟩, ⟨S80x256, (u 1 : (⟨S80x256, .f32⟩ : BufTy).Contents (Elt F))⟩, ⟨S71x256, (u 2 : (⟨S71x256, .f32⟩ : BufTy).Contents (Elt F))⟩] concatenates_S1x256_S80x256_S71x256_S152x256_d0 : (⟨S152x256, .f32⟩ : BufTy).Contents (Elt F)))
  :: StableHlo.TRef.nullary (.of main_call0_cst_7 : StableHlo.TRef sig ⟨S_, .f32⟩) (constant S_ .f32 0x00000000#32)
  :: StableHlo.TRef.unary (.of main_call0_cst_7 : StableHlo.TRef sig ⟨S_, .f32⟩) (.of main_call0_v22 : StableHlo.TRef sig ⟨S80x256, .f32⟩) (broadcastInDim S80x256 ![] bcast_S_S80x256)
  :: StableHlo.TRef.nullary (.of main_call0_cst_8 : StableHlo.TRef sig ⟨S_, .f32⟩) (constant S_ .f32 0x00000000#32)
  :: StableHlo.TRef.unary (.of main_call0_cst_8 : StableHlo.TRef sig ⟨S_, .f32⟩) (.of main_call0_v23 : StableHlo.TRef sig ⟨S7x256, .f32⟩) (broadcastInDim S7x256 ![] bcast_S_S7x256)
  :: StableHlo.TRef.nary (Ts := ![⟨S1x256, .f32⟩, ⟨S80x256, .f32⟩, ⟨S64x256, .f32⟩, ⟨S7x256, .f32⟩]) (Fin.cons (.of main_arg12 : StableHlo.TRef sig ⟨S1x256, .f32⟩) (Fin.cons (.of main_call0_v22 : StableHlo.TRef sig ⟨S80x256, .f32⟩) (Fin.cons (.of main_arg16 : StableHlo.TRef sig ⟨S64x256, .f32⟩) (Fin.cons (.of main_call0_v23 : StableHlo.TRef sig ⟨S7x256, .f32⟩) (fun k => k.elim0))))) (.of main_call0_v24 : StableHlo.TRef sig ⟨S152x256, .f32⟩) (fun u => (concatenate S152x256 0 [⟨S1x256, (u 0 : (⟨S1x256, .f32⟩ : BufTy).Contents (Elt F))⟩, ⟨S80x256, (u 1 : (⟨S80x256, .f32⟩ : BufTy).Contents (Elt F))⟩, ⟨S64x256, (u 2 : (⟨S64x256, .f32⟩ : BufTy).Contents (Elt F))⟩, ⟨S7x256, (u 3 : (⟨S7x256, .f32⟩ : BufTy).Contents (Elt F))⟩] concatenates_S1x256_S80x256_S64x256_S7x256_S152x256_d0 : (⟨S152x256, .f32⟩ : BufTy).Contents (Elt F)))
  :: StableHlo.TRef.nullary (.of main_call0_cst_9 : StableHlo.TRef sig ⟨S_, .f32⟩) (constant S_ .f32 0x00000000#32)
  :: StableHlo.TRef.unary (.of main_call0_cst_9 : StableHlo.TRef sig ⟨S_, .f32⟩) (.of main_call0_v25 : StableHlo.TRef sig ⟨S7, .f32⟩) (broadcastInDim S7 ![] bcast_S_S7)
  :: StableHlo.TRef.nary (Ts := ![⟨S1, .f32⟩, ⟨S80, .f32⟩, ⟨S64, .f32⟩, ⟨S7, .f32⟩]) (Fin.cons (.of main_arg13 : StableHlo.TRef sig ⟨S1, .f32⟩) (Fin.cons (.of main_arg15 : StableHlo.TRef sig ⟨S80, .f32⟩) (Fin.cons (.of main_arg17 : StableHlo.TRef sig ⟨S64, .f32⟩) (Fin.cons (.of main_call0_v25 : StableHlo.TRef sig ⟨S7, .f32⟩) (fun k => k.elim0))))) (.of main_call0_v26 : StableHlo.TRef sig ⟨S152, .f32⟩) (fun u => (concatenate S152 0 [⟨S1, (u 0 : (⟨S1, .f32⟩ : BufTy).Contents (Elt F))⟩, ⟨S80, (u 1 : (⟨S80, .f32⟩ : BufTy).Contents (Elt F))⟩, ⟨S64, (u 2 : (⟨S64, .f32⟩ : BufTy).Contents (Elt F))⟩, ⟨S7, (u 3 : (⟨S7, .f32⟩ : BufTy).Contents (Elt F))⟩] concatenates_S1_S80_S64_S7_S152_d0 : (⟨S152, .f32⟩ : BufTy).Contents (Elt F)))
  :: StableHlo.TRef.reshape (.of main_call0_v26 : StableHlo.TRef sig ⟨S152, .f32⟩) (.of main_call0_v27 : StableHlo.TRef sig ⟨S152x1, .f32⟩) (rfl : (.f32 : EltTy) = .f32) shapeCasts_S152_S152x1
  :: StableHlo.TRef.nullary (.of main_call0_cst_10 : StableHlo.TRef sig ⟨S_, .f32⟩) (constant S_ .f32 0x00000000#32)
  :: StableHlo.TRef.unary (.of main_call0_cst_10 : StableHlo.TRef sig ⟨S_, .f32⟩) (.of main_call0_v28 : StableHlo.TRef sig ⟨S1x256, .f32⟩) (broadcastInDim S1x256 ![] bcast_S_S1x256)
  :: StableHlo.TRef.nullary (.of main_call0_cst_11 : StableHlo.TRef sig ⟨S_, .f32⟩) (constant S_ .f32 0x00000000#32)
  :: StableHlo.TRef.unary (.of main_call0_cst_11 : StableHlo.TRef sig ⟨S_, .f32⟩) (.of main_call0_v29 : StableHlo.TRef sig ⟨S71x256, .f32⟩) (broadcastInDim S71x256 ![] bcast_S_S71x256)
  :: StableHlo.TRef.nary (Ts := ![⟨S1x256, .f32⟩, ⟨S80x256, .f32⟩, ⟨S71x256, .f32⟩]) (Fin.cons (.of main_call0_v28 : StableHlo.TRef sig ⟨S1x256, .f32⟩) (Fin.cons (.of main_arg20 : StableHlo.TRef sig ⟨S80x256, .f32⟩) (Fin.cons (.of main_call0_v29 : StableHlo.TRef sig ⟨S71x256, .f32⟩) (fun k => k.elim0)))) (.of main_call0_v30 : StableHlo.TRef sig ⟨S152x256, .f32⟩) (fun u => (concatenate S152x256 0 [⟨S1x256, (u 0 : (⟨S1x256, .f32⟩ : BufTy).Contents (Elt F))⟩, ⟨S80x256, (u 1 : (⟨S80x256, .f32⟩ : BufTy).Contents (Elt F))⟩, ⟨S71x256, (u 2 : (⟨S71x256, .f32⟩ : BufTy).Contents (Elt F))⟩] concatenates_S1x256_S80x256_S71x256_S152x256_d0 : (⟨S152x256, .f32⟩ : BufTy).Contents (Elt F)))
  :: StableHlo.TRef.nullary (.of main_call0_cst_12 : StableHlo.TRef sig ⟨S_, .f32⟩) (constant S_ .f32 0x00000000#32)
  :: StableHlo.TRef.unary (.of main_call0_cst_12 : StableHlo.TRef sig ⟨S_, .f32⟩) (.of main_call0_v31 : StableHlo.TRef sig ⟨S80x256, .f32⟩) (broadcastInDim S80x256 ![] bcast_S_S80x256)
  :: StableHlo.TRef.nullary (.of main_call0_cst_13 : StableHlo.TRef sig ⟨S_, .f32⟩) (constant S_ .f32 0x00000000#32)
  :: StableHlo.TRef.unary (.of main_call0_cst_13 : StableHlo.TRef sig ⟨S_, .f32⟩) (.of main_call0_v32 : StableHlo.TRef sig ⟨S7x256, .f32⟩) (broadcastInDim S7x256 ![] bcast_S_S7x256)
  :: StableHlo.TRef.nary (Ts := ![⟨S1x256, .f32⟩, ⟨S80x256, .f32⟩, ⟨S64x256, .f32⟩, ⟨S7x256, .f32⟩]) (Fin.cons (.of main_arg18 : StableHlo.TRef sig ⟨S1x256, .f32⟩) (Fin.cons (.of main_call0_v31 : StableHlo.TRef sig ⟨S80x256, .f32⟩) (Fin.cons (.of main_arg22 : StableHlo.TRef sig ⟨S64x256, .f32⟩) (Fin.cons (.of main_call0_v32 : StableHlo.TRef sig ⟨S7x256, .f32⟩) (fun k => k.elim0))))) (.of main_call0_v33 : StableHlo.TRef sig ⟨S152x256, .f32⟩) (fun u => (concatenate S152x256 0 [⟨S1x256, (u 0 : (⟨S1x256, .f32⟩ : BufTy).Contents (Elt F))⟩, ⟨S80x256, (u 1 : (⟨S80x256, .f32⟩ : BufTy).Contents (Elt F))⟩, ⟨S64x256, (u 2 : (⟨S64x256, .f32⟩ : BufTy).Contents (Elt F))⟩, ⟨S7x256, (u 3 : (⟨S7x256, .f32⟩ : BufTy).Contents (Elt F))⟩] concatenates_S1x256_S80x256_S64x256_S7x256_S152x256_d0 : (⟨S152x256, .f32⟩ : BufTy).Contents (Elt F)))
  :: StableHlo.TRef.nullary (.of main_call0_cst_14 : StableHlo.TRef sig ⟨S_, .f32⟩) (constant S_ .f32 0x00000000#32)
  :: StableHlo.TRef.unary (.of main_call0_cst_14 : StableHlo.TRef sig ⟨S_, .f32⟩) (.of main_call0_v34 : StableHlo.TRef sig ⟨S7, .f32⟩) (broadcastInDim S7 ![] bcast_S_S7)
  :: StableHlo.TRef.nary (Ts := ![⟨S1, .f32⟩, ⟨S80, .f32⟩, ⟨S64, .f32⟩, ⟨S7, .f32⟩]) (Fin.cons (.of main_arg19 : StableHlo.TRef sig ⟨S1, .f32⟩) (Fin.cons (.of main_arg21 : StableHlo.TRef sig ⟨S80, .f32⟩) (Fin.cons (.of main_arg23 : StableHlo.TRef sig ⟨S64, .f32⟩) (Fin.cons (.of main_call0_v34 : StableHlo.TRef sig ⟨S7, .f32⟩) (fun k => k.elim0))))) (.of main_call0_v35 : StableHlo.TRef sig ⟨S152, .f32⟩) (fun u => (concatenate S152 0 [⟨S1, (u 0 : (⟨S1, .f32⟩ : BufTy).Contents (Elt F))⟩, ⟨S80, (u 1 : (⟨S80, .f32⟩ : BufTy).Contents (Elt F))⟩, ⟨S64, (u 2 : (⟨S64, .f32⟩ : BufTy).Contents (Elt F))⟩, ⟨S7, (u 3 : (⟨S7, .f32⟩ : BufTy).Contents (Elt F))⟩] concatenates_S1_S80_S64_S7_S152_d0 : (⟨S152, .f32⟩ : BufTy).Contents (Elt F)))
  :: StableHlo.TRef.reshape (.of main_call0_v35 : StableHlo.TRef sig ⟨S152, .f32⟩) (.of main_call0_v36 : StableHlo.TRef sig ⟨S152x1, .f32⟩) (rfl : (.f32 : EltTy) = .f32) shapeCasts_S152_S152x1
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.nary_bufs_sub .., StableHlo.nullary_bufs_sub .., StableHlo.unary_bufs_sub .., StableHlo.nullary_bufs_sub .., StableHlo.unary_bufs_sub .., StableHlo.nary_bufs_sub .., StableHlo.nullary_bufs_sub .., StableHlo.unary_bufs_sub .., StableHlo.nary_bufs_sub .., StableHlo.reshape_bufs_sub .., StableHlo.nullary_bufs_sub .., StableHlo.unary_bufs_sub .., StableHlo.nullary_bufs_sub .., StableHlo.unary_bufs_sub .., StableHlo.nary_bufs_sub .., StableHlo.nullary_bufs_sub .., StableHlo.unary_bufs_sub .., StableHlo.nullary_bufs_sub .., StableHlo.unary_bufs_sub .., StableHlo.nary_bufs_sub .., StableHlo.nullary_bufs_sub .., StableHlo.unary_bufs_sub .., StableHlo.nary_bufs_sub .., StableHlo.reshape_bufs_sub .., StableHlo.nullary_bufs_sub .., StableHlo.unary_bufs_sub .., StableHlo.nullary_bufs_sub .., StableHlo.unary_bufs_sub .., StableHlo.nary_bufs_sub .., StableHlo.nullary_bufs_sub .., StableHlo.unary_bufs_sub .., StableHlo.nullary_bufs_sub .., StableHlo.unary_bufs_sub .., StableHlo.nary_bufs_sub .., StableHlo.nullary_bufs_sub .., StableHlo.unary_bufs_sub .., StableHlo.nary_bufs_sub .., StableHlo.reshape_bufs_sub ..⟩
/-- 1 host operation of @kernel (main_call0), in order. -/
abbrev hostOps1 : List (HloOp τ sig (Elt F)) :=
  [ StableHlo.TRef.unary (.of main_call0_v37 : StableHlo.TRef sig ⟨S149x16x8400, .f32⟩) (.of main_v0 : StableHlo.TRef sig ⟨S16x8400x149, .f32⟩) (transpose S16x8400x149 [1, 2, 0] · transposes_S149x16x8400_S16x8400x149_1_2_0) ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  StableHlo.unary_bufs_sub ..
/-- This statement, from @kernel (main_call0), is the chain of its own items: each stretch of the function's operations aligned
    one at a time, every other item taken whole, then `chain_rfl`. -/
theorem main_chain_main_call0 : fn_kernel.body (F := F) (.of main_arg0) (.of main_arg1) (.of main_arg2) (.of main_arg3) (.of main_arg4) (.of main_arg5) (.of main_arg6) (.of main_arg7) (.of main_arg8) (.of main_arg9) (.of main_arg10) (.of main_arg11) (.of main_arg12) (.of main_arg13) (.of main_arg14) (.of main_arg15) (.of main_arg16) (.of main_arg17) (.of main_arg18) (.of main_arg19) (.of main_arg20) (.of main_arg21) (.of main_arg22) (.of main_arg23) main_call0 = (Pipeline.chain
  [ StableHlo.seq hostOps0,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  rewrite [StableHlo.chain_seq_cons, Pipeline.chain_cons, StableHlo.chain_seq_cons]
  chain_rfl

/-- `main_chain` with each call that gives several items as one item, so that every statement has its own item. -/
theorem main_chain_calls (c : Dev nD) : main (F := F) c = (Pipeline.chain
  [ fn_kernel.body (F := F) (.of main_arg0) (.of main_arg1) (.of main_arg2) (.of main_arg3) (.of main_arg4) (.of main_arg5) (.of main_arg6) (.of main_arg7) (.of main_arg8) (.of main_arg9) (.of main_arg10) (.of main_arg11) (.of main_arg12) (.of main_arg13) (.of main_arg14) (.of main_arg15) (.of main_arg16) (.of main_arg17) (.of main_arg18) (.of main_arg19) (.of main_arg20) (.of main_arg21) (.of main_arg22) (.of main_arg23) main_call0 ] : Prog (TpuEff nD τ sig (Elt F) (Pipeline.Sig Λ₀ (Fin 1) fun p => (pcfgs (F := F) p).Adm) .tc) PUnit) := by
  rewrite [Pipeline.chain_cons]
  chain_rfl

/-- `main` is the chain of its items (`Pipeline.chain`): operation stretches, regions, loops and branches in
    order, a module-local function called from it a stretch of its own or several items. It follows from
    `main_chain_calls`, in which each call that gives several items is one item, and from each such call's own chain, by
    the monad laws. -/
theorem main_chain (c : Dev nD) : main (F := F) c = (Pipeline.chain
  [ StableHlo.seq hostOps0,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  rewrite [main_chain_calls, main_chain_main_call0]
  simp only [Pipeline.chain, Pipeline.chainK, bind_assoc, pure_bind, bind_pure_unit]

end Cert.KernelIdeal.Gen

end
-- ==== Proof.Tiles.lean ====
module

public import proofs.«01_k».proof.Proof.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WritesUnit
public import Idealize.ShloMosaic.Lib.VecWindow
public import Idealize.ShloMosaic.Lib.ValueIdx
public import Idealize.ShloMosaic.Lib.ValueLayout

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

/-- The block of the result that a first-half grid point of the finest level fills. -/
abbrev winA (arg21 : Memref sig .tc .hbm S149x16x8400 .f32) (i : grid0.Coords) (h1 : k0_cond1 i = 1#1) (h2 : k0_cond2 i = 1#1) : Memref sig .tc .hbm S149x3200 .f32 :=
  (arg21.slice (Rect.unit (s := S149x16x8400) (k0_off2 i) S149x1x3200.size (k0_off2_inb i h1 h2)) (fun _ => rfl)).squeeze S149x3200 squeezes_S149x1x3200_S149x3200

/-- The block of the result that a second-half grid point of the finest level fills. -/
abbrev winB (arg21 : Memref sig .tc .hbm S149x16x8400 .f32) (i : grid0.Coords) (h1 : k0_cond1 i = 1#1) (h4 : k0_cond4 i = 1#1) : Memref sig .tc .hbm S149x3200 .f32 :=
  (arg21.slice (Rect.unit (s := S149x16x8400) (k0_off5 i) S149x1x3200.size (k0_off5_inb i h1 h4)) (fun _ => rfl)).squeeze S149x3200 squeezes_S149x1x3200_S149x3200

/-- The block of the result that a grid point of the two coarser levels fills. -/
abbrev winC (arg21 : Memref sig .tc .hbm S149x16x8400 .f32) (i : grid0.Coords) (h6 : k0_cond6 i = 1#1) : Memref sig .tc .hbm S149x2000 .f32 :=
  (arg21.slice (Rect.unit (s := S149x16x8400) (k0_off8 i) S149x1x2000.size (k0_off8_inb i h6)) (fun _ => rfl)).squeeze S149x2000 squeezes_S149x1x2000_S149x2000

/-- The image of one batch entry inside a coarsest-level feature map. -/
abbrev srcIn (m : Memref sig .tc .hbm S20x20x16x256 .f32) (i : grid0.Coords) (h1 : k0_cond1 i = 1#1) (h4 : k0_cond4 i = 1#1) : Memref sig .tc .hbm S20x20x256 .f32 :=
  (m.slice (Rect.unit (s := S20x20x16x256) (k0_off3 i) S20x20x1x256.size (k0_off3_inb i h1 h4)) (fun _ => rfl)).squeeze S20x20x256 squeezes_S20x20x1x256_S20x20x256

/-- A scratch tile as the matrix the transfer reads. -/
abbrev srcM (m : Memref sig .tc .vmem S1x149x3200 .f32) : Memref sig .tc .vmem S149x3200 .f32 :=
  (m.slice (Rect.unit (s := S1x149x3200) ![0, 0, 0] S1x149x3200.size inb_S1x149x3200_S1x149x3200_0_0_0) (fun _ => rfl)).squeeze S149x3200 squeezes_S1x149x3200_S149x3200

/-- The origin. -/
theorem zero3 : (![0, 0, 0] : Fin 3 → ℕ) = fun _ => 0 := by funext a; fin_cases a <;> rfl
/-- The origin. -/
theorem zero2 : (![0, 0] : Fin 2 → ℕ) = fun _ => 0 := by funext a; fin_cases a <;> rfl

/-- A load at a rank-3 table's whole box reads the table. -/
theorem ld3 {n0 n1 n2 : ℕ} (X : (⟨3, ![n0, n1, n2]⟩ : Shape).Idx → Elt F .f32)
    (inb : ∀ a : Fin 3, (![0, 0, 0] : Fin 3 → ℕ) a + (![n0, n1, n2] : Fin 3 → ℕ) a ≤ (![n0, n1, n2] : Fin 3 → ℕ) a) :
    View.ld (e' := .f32) (Val := Elt F) X (Rect.unit (s := ⟨3, ![n0, n1, n2]⟩) ![0, 0, 0] ![n0, n1, n2] inb) = X :=
  View.ld_unit_zero (S := ⟨3, ![n0, n1, n2]⟩) zero3 inb X

/-- A load at a matrix's whole box reads the matrix. -/
theorem ld2 {n0 n1 : ℕ} (X : (⟨2, ![n0, n1]⟩ : Shape).Idx → Elt F .f32)
    (inb : ∀ a : Fin 2, (![0, 0] : Fin 2 → ℕ) a + (![n0, n1] : Fin 2 → ℕ) a ≤ (![n0, n1] : Fin 2 → ℕ) a) :
    View.ld (e' := .f32) (Val := Elt F) X (Rect.unit (s := ⟨2, ![n0, n1]⟩) ![0, 0] ![n0, n1] inb) = X :=
  View.ld_unit_zero (S := ⟨2, ![n0, n1]⟩) zero2 inb X

/-- The matrix view of a scratch tile has the whole tile's elements. -/
theorem srcM_set (m : Memref sig .tc .vmem S1x149x3200 .f32) : (srcM m).view.set = m.view.set := by
  show ((m.view.slice _).reshape _ _).set = _
  rw [View.set_reshape, View.set_slice]
  have : (Rect.unit (s := S1x149x3200) ![0, 0, 0] S1x149x3200.size inb_S1x149x3200_S1x149x3200_0_0_0).set = Finset.univ := by
    rw [Finset.eq_univ_iff_forall]; intro x
    rw [Rect.mem_set_unit]; intro a; refine ⟨?_, ?_⟩ <;> fin_cases a <;> first | exact Nat.zero_le _ | exact lt_of_lt_of_le (x _).isLt (Nat.le_add_left _ _)
  rw [this]; rfl

/-- Held through the matrix view, the tile is held whole. -/
theorem srcM_back (c : Dev nD) (m : Memref sig .tc .vmem S1x149x3200 .f32) (f : Buf (Elt F) (m.view.loc (c : Thread nD τ))) :
    ((srcM m).view.loc (c : Thread nD τ) ↦[(srcM m).view.set]{fullShare} f : sProp 𝕄) ⊢ (m.view.loc (c : Thread nD τ) ↦[m.view.set]{fullShare} f) := by
  rw [srcM_set]

/-- Read as a matrix, the tile gives the tile's own element one plane down. -/
theorem srcM_read (m : Memref sig .tc .vmem S1x149x3200 .f32) (f : m.view.ty.Contents (Elt F)) (y : S149x3200.Idx) :
    (srcM m).view.read (Elt F) f y = m.view.read (Elt F) f (ix3 (0 : Fin 1) (y 0) (y 1)) := by
  rw [show (srcM m).view.read (Elt F) f y = _ from
    congrFun (Memref.read_squeeze_slice m _ (fun _ => rfl) squeezes_S1x149x3200_S149x3200 (by decide) f) y]
  rw [show y = ix2 (y 0) (y 1) from eq_ix2 y]
  refine (shapeCast_1ab_ab_apply _ _ _ _).trans ?_
  rw [View.readAt_eq_ld, View.ld_unit_zero (by funext a; fin_cases a <;> rfl)]

/-- A transfer in flight from a scratch tile into a block of the result: it delivers the block at contents that read
    as the table `T`, and the tile back. -/
def Fly (c : Dev nD) {S S' : Shape} (w : Memref sig .tc .hbm S .f32) (m : Memref sig .tc .vmem S' .f32) (d : DmaSem sig) (N : ℕ)
    (T : Vec F S .f32) : sProp 𝕄 :=
  iprop(∃ g, ∃ f, ⌜w.view.read (Elt F) g = T⌝ ∗ Transfers.Flight (countersEmb (U := Pipeline.UD sig nD τ)) (c : Thread nD τ) (.dma d) () N
    iprop((w.view.loc (c : Thread nD τ) ↦[w.view.set]{fullShare} g) ∗ (m.view.loc (c : Thread nD τ) ↦[m.view.set]{fullShare} f)))

/-- A transfer that returns the tile by its matrix view returns the whole tile. -/
theorem Fly_back (c : Dev nD) {S : Shape} (w : Memref sig .tc .hbm S .f32) (m : Memref sig .tc .vmem S1x149x3200 .f32) (d : DmaSem sig) (N : ℕ)
    (g : Buf (Elt F) (w.view.loc (c : Thread nD τ))) (f : Buf (Elt F) (m.view.loc (c : Thread nD τ))) :
    (Transfers.Flight (countersEmb (U := Pipeline.UD sig nD τ)) (c : Thread nD τ) (.dma d) () N
      iprop((w.view.loc (c : Thread nD τ) ↦[w.view.set]{fullShare} g) ∗ ((srcM m).view.loc (c : Thread nD τ) ↦[(srcM m).view.set]{fullShare} f)) : sProp 𝕄)
    ⊢ Transfers.Flight (countersEmb (U := Pipeline.UD sig nD τ)) (c : Thread nD τ) (.dma d) () N
      iprop((w.view.loc (c : Thread nD τ) ↦[w.view.set]{fullShare} g) ∗ (m.view.loc (c : Thread nD τ) ↦[m.view.set]{fullShare} f)) :=
  Transfers.Flight_mono _ _ (sep_mono .rfl (srcM_back c m f))

/-- A transfer in flight from an image into a scratch buffer: it delivers the buffer at contents that read as the
    table `T`, and the image back unchanged. -/
def FlyIn (c : Dev nD) {S S' : Shape} (p : Memref sig .tc .hbm S .f32) (m : Memref sig .tc .vmem S' .f32) (d : DmaSem sig) (N : ℕ)
    (V : Buf (Elt F) (p.view.loc (c : Thread nD τ))) (T : Vec F S' .f32) : sProp 𝕄 :=
  iprop(∃ f, ⌜m.view.read (Elt F) f = T⌝ ∗ Transfers.Flight (countersEmb (U := Pipeline.UD sig nD τ)) (c : Thread nD τ) (.dma d) () N
    iprop((m.view.loc (c : Thread nD τ) ↦[m.view.set]{fullShare} f) ∗ (p.view.loc (c : Thread nD τ) ↦[p.view.set]{fullShare} V)))

/-- A memref owned whole at contents nothing is said of. -/
def Held (c : Dev nD) {sp : Space} {S : Shape} (m : Memref sig .tc sp S .f32) : sProp 𝕄 :=
  iprop(∃ f : Buf (Elt F) (m.view.loc (c : Thread nD τ)), m.view.loc (c : Thread nD τ) ↦[m.view.set]{fullShare} f)

/-- A memref owned whole at contents that read as the table `T`. -/
def HeldAs (c : Dev nD) {sp : Space} {S : Shape} (m : Memref sig .tc sp S .f32) (T : Vec F S .f32) : sProp 𝕄 :=
  iprop(∃ f : Buf (Elt F) (m.view.loc (c : Thread nD τ)), ⌜m.view.read (Elt F) f = T⌝ ∗ m.view.loc (c : Thread nD τ) ↦[m.view.set]{fullShare} f)

/-- The tile a grid point of the finest level computes: class, kind and distance scores in its first 145 rows, boxes in
    the four behind. -/
def tileA (a1 : BitVec 32) (x2 x3 : Vec F S1x3200x256 .f32) (x8 x9 : Vec F S152x256 .f32) (x10 : Vec F S64x256 .f32)
    (x11 : Vec F S152x1 .f32) (x20 : Vec F S8x64 .f32) : Vec F S149x3200 .f32 := fun y =>
  if h : (y 0).val < 145 then k0_pay3 (k0_pay11 x2 x3 x8 x9 x11) (ix3 (0 : Fin 1) (⟨(y 0).val, h⟩ : Fin 145) (y 1))
  else k0_pay4 (k0_pay12 x3 x10 x11 x20) (k0_pay15 (F := F) 80#32 (k0_pay14 a1) 0#32)
    (k0_pay16 (F := F) (k0_pay13 a1)) (iota .tc S4x1 32 [0] iota_S4x1_d0_w32)
    (ix3 (0 : Fin 1) (⟨(y 0).val - 145, by have h149 : (y 0).val < 149 := (y 0).isLt; omega⟩ : Fin 4) (y 1))

/-- Two stores, the first 145 rows and the four behind, read as a matrix. -/
theorem tile_read (m : Memref sig .tc .vmem S1x149x3200 .f32) (f : m.view.ty.Contents (Elt F)) (w1 : Vec F S1x145x3200 .f32) (w2 : Vec F S1x4x3200 .f32)
    (y : S149x3200.Idx) :
    (srcM m).view.read (Elt F) (m.view.writes (Elt F) f
      [⟨Rect.unit (s := S1x149x3200) ![0, 145, 0] S1x4x3200.size inb_S1x149x3200_S1x4x3200_0_145_0, w2⟩,
       ⟨Rect.unit (s := S1x149x3200) ![0, 0, 0] S1x145x3200.size inb_S1x149x3200_S1x145x3200_0_0_0, w1⟩]) y
      = if h : (y 0).val < 145 then w1 (ix3 (0 : Fin 1) (⟨(y 0).val, h⟩ : Fin 145) (y 1))
        else w2 (ix3 (0 : Fin 1) (⟨(y 0).val - 145, by have h149 : (y 0).val < 149 := (y 0).isLt; omega⟩ : Fin 4) (y 1)) := by
  rw [srcM_read]
  by_cases h : (y 0).val < 145
  · rw [dif_pos h]
    refine (View.read_writes_cons_unit_of_not_mem _ _ _ _ _ _ rfl (1 : Fin 3) (Or.inl h)).trans ?_
    refine View.read_writes_cons_unit_of_mem _ _ _ _ _ _ _ rfl fun a => ?_
    fin_cases a <;> simp [ix3]
  · rw [dif_neg h]
    refine View.read_writes_cons_unit_of_mem _ _ _ _ _ _ _ rfl fun a => ?_
    fin_cases a
    · simp [ix3]
    · show (y 0).val = 145 + ((y 0).val - 145); omega
    · simp [ix3]

/-- The tile a grid point of the two coarser levels computes: columns 0 to 1599 the middle level's, 1600 to 1999 the
    coarsest one's; rows as in the finest level's tile. -/
def tileC (x4 x5 : Vec F S1x1600x256 .f32) (x12 x13 : Vec F S152x256 .f32) (x14 : Vec F S64x256 .f32) (x15 : Vec F S152x1 .f32)
    (x16 x17 : Vec F S152x256 .f32) (x18 : Vec F S64x256 .f32) (x19 : Vec F S152x1 .f32) (x20 : Vec F S8x64 .f32)
    (y25 y26 : Vec F S20x20x256 .f32) : Vec F S149x2000 .f32 := fun y =>
  if h : (y 0).val < 145 then
    if h' : (y 1).val < 1600 then k0_pay38 (k0_pay27 (k0_pay19 x4 x5 x12 x13 x15)) (ix2 (⟨(y 0).val, h⟩ : Fin 145) (⟨(y 1).val, h'⟩ : Fin 1600))
    else k0_pay39 (k0_pay30 y25 y26 x16 x17 x19) (ix2 (⟨(y 0).val, h⟩ : Fin 145) (⟨(y 1).val - 1600, by have h2 : (y 1).val < 2000 := (y 1).isLt; omega⟩ : Fin 400))
  else
    if h' : (y 1).val < 1600 then
      k0_pay7 (k0_pay26 (k0_pay20 x5 x14 x15 x20) (k0_pay24 (F := F) 40#32 k0_pay22 k0_pay23) (k0_pay25 (F := F) k0_pay21) (iota .tc S4x1 32 [0] iota_S4x1_d0_w32) 2#32 0#32)
        (ix2 (⟨(y 0).val - 145, by have h2 : (y 0).val < 149 := (y 0).isLt; omega⟩ : Fin 4) (⟨(y 1).val, h'⟩ : Fin 1600))
    else
      k0_pay8 (k0_pay37 (k0_pay31 y26 x18 x19 x20) (k0_pay35 (F := F) 20#32 k0_pay33 k0_pay34) (k0_pay36 (F := F) k0_pay32) (iota .tc S4x1 32 [0] iota_S4x1_d0_w32) 2#32 0#32)
        (ix2 (⟨(y 0).val - 145, by have h2 : (y 0).val < 149 := (y 0).isLt; omega⟩ : Fin 4) (⟨(y 1).val - 1600, by have h2 : (y 1).val < 2000 := (y 1).isLt; omega⟩ : Fin 400))

/-- Four stores, a quadrant each, read together. -/
theorem quad_read (m : Memref sig .tc .vmem S149x2000 .f32) (f : m.view.ty.Contents (Elt F)) (w1 : Vec F S145x1600 .f32) (w2 : Vec F S145x400 .f32)
    (w3 : Vec F S4x1600 .f32) (w4 : Vec F S4x400 .f32) (y : S149x2000.Idx) :
    m.view.read (Elt F) (m.view.writes (Elt F) f
      [⟨Rect.unit (s := S149x2000) ![145, 1600] S4x400.size inb_S149x2000_S4x400_145_1600, w4⟩,
       ⟨Rect.unit (s := S149x2000) ![145, 0] S4x1600.size inb_S149x2000_S4x1600_145_0, w3⟩,
       ⟨Rect.unit (s := S149x2000) ![0, 1600] S145x400.size inb_S149x2000_S145x400_0_1600, w2⟩,
       ⟨Rect.unit (s := S149x2000) ![0, 0] S145x1600.size inb_S149x2000_S145x1600_0_0, w1⟩]) y
      = if h : (y 0).val < 145 then
          if h' : (y 1).val < 1600 then w1 (ix2 (⟨(y 0).val, h⟩ : Fin 145) (⟨(y 1).val, h'⟩ : Fin 1600))
          else w2 (ix2 (⟨(y 0).val, h⟩ : Fin 145) (⟨(y 1).val - 1600, by have h2 : (y 1).val < 2000 := (y 1).isLt; omega⟩ : Fin 400))
        else
          if h' : (y 1).val < 1600 then
            w3 (ix2 (⟨(y 0).val - 145, by have h2 : (y 0).val < 149 := (y 0).isLt; omega⟩ : Fin 4) (⟨(y 1).val, h'⟩ : Fin 1600))
          else
            w4 (ix2 (⟨(y 0).val - 145, by have h2 : (y 0).val < 149 := (y 0).isLt; omega⟩ : Fin 4) (⟨(y 1).val - 1600, by have h2 : (y 1).val < 2000 := (y 1).isLt; omega⟩ : Fin 400)) := by
  by_cases h : (y 0).val < 145
  · rw [dif_pos h]
    refine (View.read_writes_cons_unit_of_not_mem _ _ _ _ _ _ rfl (0 : Fin 2) (Or.inl h)).trans ?_
    refine (View.read_writes_cons_unit_of_not_mem _ _ _ _ _ _ rfl (0 : Fin 2) (Or.inl h)).trans ?_
    by_cases h' : (y 1).val < 1600
    · rw [dif_pos h']
      refine (View.read_writes_cons_unit_of_not_mem _ _ _ _ _ _ rfl (1 : Fin 2) (Or.inl h')).trans ?_
      refine View.read_writes_cons_unit_of_mem _ _ _ _ _ _ _ rfl fun a => ?_
      fin_cases a <;> simp [ix2]
    · rw [dif_neg h']
      refine View.read_writes_cons_unit_of_mem _ _ _ _ _ _ _ rfl fun a => ?_
      fin_cases a
      · simp [ix2]
      · show (y 1).val = 1600 + ((y 1).val - 1600); omega
  · rw [dif_neg h]
    by_cases h' : (y 1).val < 1600
    · rw [dif_pos h']
      refine (View.read_writes_cons_unit_of_not_mem _ _ _ _ _ _ rfl (1 : Fin 2) (Or.inl h')).trans ?_
      refine View.read_writes_cons_unit_of_mem _ _ _ _ _ _ _ rfl fun a => ?_
      fin_cases a
      · show (y 0).val = 145 + ((y 0).val - 145); omega
      · simp [ix2]
    · rw [dif_neg h']
      refine View.read_writes_cons_unit_of_mem _ _ _ _ _ _ _ rfl fun a => ?_
      fin_cases a
      · show (y 0).val = 145 + ((y 0).val - 145); omega
      · show (y 1).val = 1600 + ((y 1).val - 1600); omega

end Cert.KernelIdeal.Hand
end
-- ==== Proof.Blocks.lean ====
module

public import proofs.«01_k».proof.Proof.Tiles

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

/-! ## The grid's points -/

/-- There are 48 grid points. -/
theorem lt48 (t : Fin grid0.N) : t.val < 48 := Nat.lt_of_lt_of_eq t.isLt N_0

/-- A tile of the finest level is due. -/
theorem cond1_iff : ∀ t : Fin grid0.N, k0_cond1 (grid0.coords t) = 1#1 ↔ t.val % 3 < 2 := by decide +kernel
/-- It is the first tile. -/
theorem cond2_iff : ∀ t : Fin grid0.N, k0_cond2 (grid0.coords t) = 1#1 ↔ t.val % 3 = 0 := by decide +kernel
/-- An earlier transfer of it is to be awaited. -/
theorem cond3_iff : ∀ t : Fin grid0.N, k0_cond3 (grid0.coords t) = 1#1 ↔ 3 ≤ t.val := by decide +kernel
/-- It is the second tile. -/
theorem cond4_iff : ∀ t : Fin grid0.N, k0_cond4 (grid0.coords t) = 1#1 ↔ t.val % 3 = 1 := by decide +kernel
/-- An earlier transfer of it is to be awaited. -/
theorem cond5_iff : ∀ t : Fin grid0.N, k0_cond5 (grid0.coords t) = 1#1 ↔ 3 ≤ t.val := by decide +kernel
/-- The coarser levels' tile is due. -/
theorem cond6_iff : ∀ t : Fin grid0.N, k0_cond6 (grid0.coords t) = 1#1 ↔ t.val % 3 = 2 := by decide +kernel
/-- An earlier transfer of it is to be awaited. -/
theorem cond7_iff : ∀ t : Fin grid0.N, k0_cond7 (grid0.coords t) = 1#1 ↔ 3 ≤ t.val := by decide +kernel
/-- It is the last image. -/
theorem cond8_iff : ∀ t : Fin grid0.N, k0_cond8 (grid0.coords t) = 1#1 ↔ 45 ≤ t.val := by decide +kernel
/-- Where the first tile goes. -/
theorem off2_eq : ∀ t : Fin grid0.N, k0_off2 (grid0.coords t) = ![0, t.val / 3, 0] := by decide +kernel
/-- Where the second tile goes. -/
theorem off5_eq : ∀ t : Fin grid0.N, k0_off5 (grid0.coords t) = ![0, t.val / 3, 3200] := by decide +kernel
/-- Where the coarser levels' tile goes. -/
theorem off8_eq : ∀ t : Fin grid0.N, k0_off8 (grid0.coords t) = ![0, t.val / 3, 6400] := by decide +kernel
/-- Where an image's coarsest map lies. -/
theorem off3_eq : ∀ t : Fin grid0.N, k0_off3 (grid0.coords t) = ![0, 0, t.val / 3, 0] := by decide +kernel
/-- The tile of a grid point. -/
theorem coord1_eq : ∀ t : Fin grid0.N, (grid0.coords t 1).val = t.val % 3 := by decide +kernel

/-! ## The blocks of the result, by batch entry -/

/-- The result as the launch holds it, rows first. -/
abbrev outM : Memref sig .tc .hbm S149x16x8400 .f32 := Memref.whole main_call0_v37

/-- The first tile fits. -/
theorem inbA (b : Fin 16) : ∀ a, (![0, b.val, 0] : Fin 3 → ℕ) a + S149x1x3200.size a ≤ S149x16x8400.size a := by revert b; decide
/-- The second tile fits. -/
theorem inbB (b : Fin 16) : ∀ a, (![0, b.val, 3200] : Fin 3 → ℕ) a + S149x1x3200.size a ≤ S149x16x8400.size a := by revert b; decide
/-- The coarser levels' tile fits. -/
theorem inbC (b : Fin 16) : ∀ a, (![0, b.val, 6400] : Fin 3 → ℕ) a + S149x1x2000.size a ≤ S149x16x8400.size a := by revert b; decide
/-- The map fits. -/
theorem inbS (b : Fin 16) : ∀ a, (![0, 0, b.val, 0] : Fin 4 → ℕ) a + S20x20x1x256.size a ≤ S20x20x16x256.size a := by revert b; decide

/-- Columns 0 to 3199 of batch entry `b`. -/
abbrev wA (b : Fin 16) : Memref sig .tc .hbm S149x3200 .f32 :=
  (outM.slice (Rect.unit (s := S149x16x8400) ![0, b.val, 0] S149x1x3200.size (inbA b)) (fun _ => rfl)).squeeze S149x3200 squeezes_S149x1x3200_S149x3200
/-- Columns 3200 to 6399. -/
abbrev wB (b : Fin 16) : Memref sig .tc .hbm S149x3200 .f32 :=
  (outM.slice (Rect.unit (s := S149x16x8400) ![0, b.val, 3200] S149x1x3200.size (inbB b)) (fun _ => rfl)).squeeze S149x3200 squeezes_S149x1x3200_S149x3200
/-- Columns 6400 to 8399. -/
abbrev wC (b : Fin 16) : Memref sig .tc .hbm S149x2000 .f32 :=
  (outM.slice (Rect.unit (s := S149x16x8400) ![0, b.val, 6400] S149x1x2000.size (inbC b)) (fun _ => rfl)).squeeze S149x2000 squeezes_S149x1x2000_S149x2000
/-- Batch entry `b`'s image in a coarsest-level feature map. -/
abbrev wS (m : Memref sig .tc .hbm S20x20x16x256 .f32) (b : Fin 16) : Memref sig .tc .hbm S20x20x256 .f32 :=
  (m.slice (Rect.unit (s := S20x20x16x256) ![0, 0, b.val, 0] S20x20x1x256.size (inbS b)) (fun _ => rfl)).squeeze S20x20x256 squeezes_S20x20x1x256_S20x20x256

/-- Slices at equal offsets are one memref. -/
theorem win_off {S S' S'' : Shape} (m : Memref sig .tc .hbm S .f32) {o o' : Fin S.rank → ℕ} (h : o = o') (hS : S.rank = S'.rank) (sz : Fin S.rank → ℕ)
    (i : ∀ a, o a + sz a ≤ S.size a) (i' : ∀ a, o' a + sz a ≤ S.size a) :
    m.slice (Rect.unit (s := S) o sz i) (fun _ => rfl) = m.slice (Rect.unit (s := S) o' sz i') (fun _ => rfl) := by
  subst h; rfl

/-- The first tile's window, by image. -/
theorem winA_eq (t : Fin grid0.N) (b : Fin 16) (hb : t.val / 3 = b.val) (h1 h2) : winA outM (grid0.coords t) h1 h2 = wA b := by
  have h : k0_off2 (grid0.coords t) = ![0, b.val, 0] := by rw [off2_eq, hb]
  unfold winA wA
  generalize k0_off2_inb (grid0.coords t) h1 h2 = q
  revert q; rw [h]; intro q; rfl
/-- The second tile's window, by image. -/
theorem winB_eq (t : Fin grid0.N) (b : Fin 16) (hb : t.val / 3 = b.val) (h1 h4) : winB outM (grid0.coords t) h1 h4 = wB b := by
  have h : k0_off5 (grid0.coords t) = ![0, b.val, 3200] := by rw [off5_eq, hb]
  unfold winB wB
  generalize k0_off5_inb (grid0.coords t) h1 h4 = q
  revert q; rw [h]; intro q; rfl
/-- The coarser tile's window, by image. -/
theorem winC_eq (t : Fin grid0.N) (b : Fin 16) (hb : t.val / 3 = b.val) (h6) : winC outM (grid0.coords t) h6 = wC b := by
  have h : k0_off8 (grid0.coords t) = ![0, b.val, 6400] := by rw [off8_eq, hb]
  unfold winC wC
  generalize k0_off8_inb (grid0.coords t) h6 = q
  revert q; rw [h]; intro q; rfl
/-- The map's window, by image. -/
theorem srcIn_eq (m : Memref sig .tc .hbm S20x20x16x256 .f32) (t : Fin grid0.N) (b : Fin 16) (hb : t.val / 3 = b.val) (h1 h4) :
    srcIn m (grid0.coords t) h1 h4 = wS m b := by
  have h : k0_off3 (grid0.coords t) = ![0, 0, b.val, 0] := by rw [off3_eq, hb]
  unfold srcIn wS
  generalize k0_off3_inb (grid0.coords t) h1 h4 = q
  revert q; rw [h]; intro q; rfl

/-- The grid point that fills an element of the result. -/
def ptOf (x : S149x16x8400.Idx) : Fin 48 :=
  ⟨(x 1).val * 3 + (x 2).val / 3200, by have h1 : (x 1).val < 16 := (x 1).isLt; have h2 : (x 2).val < 8400 := (x 2).isLt; omega⟩

/-- The elements a grid point fills. -/
def Wset (j : Fin 48) : Finset S149x16x8400.Idx := Finset.univ.filter fun x => ptOf x = j

/-- Which entries a block holds. -/
theorem mem_Wset (j : Fin 48) (x : S149x16x8400.Idx) : x ∈ Wset j ↔ (x 1).val * 3 + (x 2).val / 3200 = j.val := by
  unfold Wset; rw [Finset.mem_filter]; simp only [Finset.mem_univ, true_and, ptOf, Fin.ext_iff]

/-- The first tile's entries. -/
theorem wA_set (b : Fin 16) (j : Fin 48) (hj : j.val = 3 * b.val) : (wA b).view.set = Wset j := by
  show (((Memref.whole main_call0_v37).view.slice _).reshape _ _).set = _
  rw [View.set_reshape]
  refine (View.set_slice_whole main_call0_v37 _).trans ?_
  ext x
  rw [mem_Wset]
  refine (Rect.mem_set_unit ..).trans ?_
  have h0 : (x 0).val < 149 := (x 0).isLt
  have h1 : (x 1).val < 16 := (x 1).isLt
  have h2 : (x 2).val < 8400 := (x 2).isLt
  constructor
  · intro h
    have q1 := h 1; have q2 := h 2
    change b.val ≤ (x 1).val ∧ (x 1).val < b.val + 1 at q1
    change 0 ≤ (x 2).val ∧ (x 2).val < 0 + 3200 at q2
    omega
  · intro h a
    fin_cases a
    · show 0 ≤ (x 0).val ∧ (x 0).val < 0 + 149; omega
    · show b.val ≤ (x 1).val ∧ (x 1).val < b.val + 1; omega
    · show 0 ≤ (x 2).val ∧ (x 2).val < 0 + 3200; omega
/-- The second tile's entries. -/
theorem wB_set (b : Fin 16) (j : Fin 48) (hj : j.val = 3 * b.val + 1) : (wB b).view.set = Wset j := by
  show (((Memref.whole main_call0_v37).view.slice _).reshape _ _).set = _
  rw [View.set_reshape]
  refine (View.set_slice_whole main_call0_v37 _).trans ?_
  ext x
  rw [mem_Wset]
  refine (Rect.mem_set_unit ..).trans ?_
  have h0 : (x 0).val < 149 := (x 0).isLt
  have h1 : (x 1).val < 16 := (x 1).isLt
  have h2 : (x 2).val < 8400 := (x 2).isLt
  constructor
  · intro h
    have q1 := h 1; have q2 := h 2
    change b.val ≤ (x 1).val ∧ (x 1).val < b.val + 1 at q1
    change 3200 ≤ (x 2).val ∧ (x 2).val < 3200 + 3200 at q2
    omega
  · intro h a
    fin_cases a
    · show 0 ≤ (x 0).val ∧ (x 0).val < 0 + 149; omega
    · show b.val ≤ (x 1).val ∧ (x 1).val < b.val + 1; omega
    · show 3200 ≤ (x 2).val ∧ (x 2).val < 3200 + 3200; omega
/-- The coarser tile's entries. -/
theorem wC_set (b : Fin 16) (j : Fin 48) (hj : j.val = 3 * b.val + 2) : (wC b).view.set = Wset j := by
  show (((Memref.whole main_call0_v37).view.slice _).reshape _ _).set = _
  rw [View.set_reshape]
  refine (View.set_slice_whole main_call0_v37 _).trans ?_
  ext x
  rw [mem_Wset]
  refine (Rect.mem_set_unit ..).trans ?_
  have h0 : (x 0).val < 149 := (x 0).isLt
  have h1 : (x 1).val < 16 := (x 1).isLt
  have h2 : (x 2).val < 8400 := (x 2).isLt
  constructor
  · intro h
    have q1 := h 1; have q2 := h 2
    change b.val ≤ (x 1).val ∧ (x 1).val < b.val + 1 at q1
    change 6400 ≤ (x 2).val ∧ (x 2).val < 6400 + 2000 at q2
    omega
  · intro h a
    fin_cases a
    · show 0 ≤ (x 0).val ∧ (x 0).val < 0 + 149; omega
    · show b.val ≤ (x 1).val ∧ (x 1).val < b.val + 1; omega
    · show 6400 ≤ (x 2).val ∧ (x 2).val < 6400 + 2000; omega

/-! ## The result's contents, and what each block of them reads as -/

/-- The result made of three families of tiles. -/
def outOf (TA TB : Fin 16 → Vec F S149x3200 .f32) (TC : Fin 16 → Vec F S149x2000 .f32) : Vec F S149x16x8400 .f32 := fun x =>
  if h : (x 2).val < 3200 then TA ⟨(x 1).val, (x 1).isLt⟩ (ix2 (⟨(x 0).val, (x 0).isLt⟩ : Fin 149) (⟨(x 2).val, h⟩ : Fin 3200))
  else if h' : (x 2).val < 6400 then TB ⟨(x 1).val, (x 1).isLt⟩ (ix2 (⟨(x 0).val, (x 0).isLt⟩ : Fin 149) (⟨(x 2).val - 3200, by omega⟩ : Fin 3200))
  else TC ⟨(x 1).val, (x 1).isLt⟩ (ix2 (⟨(x 0).val, (x 0).isLt⟩ : Fin 149) (⟨(x 2).val - 6400, by have h2 : (x 2).val < 8400 := (x 2).isLt; omega⟩ : Fin 2000))

/-- Dropping a middle unit axis, entry by entry. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The middle axis may be dropped. -/
theorem cast3200 : (⟨3, ![149, 1, 3200]⟩ : Shape).ShapeCasts S149x3200 := by decide
/-- The middle axis may be dropped. -/
theorem cast2000 : (⟨3, ![149, 1, 2000]⟩ : Shape).ShapeCasts S149x2000 := by decide

/-- The first tile's window read. -/
theorem wA_read (b : Fin 16) (g : Vec F S149x16x8400 .f32) (y : S149x3200.Idx) :
    (wA b).view.read (Elt F) (g : outM.view.ty.Contents (Elt F)) y
      = g (ix3 (⟨(y 0).val, (y 0).isLt⟩ : Fin 149) b (⟨(y 1).val, by have h : (y 1).val < 3200 := (y 1).isLt; omega⟩ : Fin 8400)) := by
  rw [show (wA b).view.read (Elt F) (g : outM.view.ty.Contents (Elt F)) y = _ from
    congrFun (Memref.read_squeeze_slice outM _ (fun _ => rfl) squeezes_S149x1x3200_S149x3200 cast3200 g) y]
  rw [show y = ix2 (y 0) (y 1) from eq_ix2 y]
  refine (shapeCast_a1b_ab_apply _ _ _ _).trans ?_
  rw [View.readAt_eq_ld]
  refine congrArg g (funext fun a => Fin.ext ?_)
  fin_cases a
  · show 0 + 1 * (y 0).val = (y 0).val; omega
  · show b.val + 1 * 0 = b.val; omega
  · show 0 + 1 * (y 1).val = (y 1).val; omega
/-- The second tile's window read. -/
theorem wB_read (b : Fin 16) (g : Vec F S149x16x8400 .f32) (y : S149x3200.Idx) :
    (wB b).view.read (Elt F) (g : outM.view.ty.Contents (Elt F)) y
      = g (ix3 (⟨(y 0).val, (y 0).isLt⟩ : Fin 149) b (⟨3200 + (y 1).val, by have h : (y 1).val < 3200 := (y 1).isLt; omega⟩ : Fin 8400)) := by
  rw [show (wB b).view.read (Elt F) (g : outM.view.ty.Contents (Elt F)) y = _ from
    congrFun (Memref.read_squeeze_slice outM _ (fun _ => rfl) squeezes_S149x1x3200_S149x3200 cast3200 g) y]
  rw [show y = ix2 (y 0) (y 1) from eq_ix2 y]
  refine (shapeCast_a1b_ab_apply _ _ _ _).trans ?_
  rw [View.readAt_eq_ld]
  refine congrArg g (funext fun a => Fin.ext ?_)
  fin_cases a
  · show 0 + 1 * (y 0).val = (y 0).val; omega
  · show b.val + 1 * 0 = b.val; omega
  · show 3200 + 1 * (y 1).val = 3200 + (y 1).val; omega
/-- The coarser tile's window read. -/
theorem wC_read (b : Fin 16) (g : Vec F S149x16x8400 .f32) (y : S149x2000.Idx) :
    (wC b).view.read (Elt F) (g : outM.view.ty.Contents (Elt F)) y
      = g (ix3 (⟨(y 0).val, (y 0).isLt⟩ : Fin 149) b (⟨6400 + (y 1).val, by have h : (y 1).val < 2000 := (y 1).isLt; omega⟩ : Fin 8400)) := by
  rw [show (wC b).view.read (Elt F) (g : outM.view.ty.Contents (Elt F)) y = _ from
    congrFun (Memref.read_squeeze_slice outM _ (fun _ => rfl) squeezes_S149x1x2000_S149x2000 cast2000 g) y]
  rw [show y = ix2 (y 0) (y 1) from eq_ix2 y]
  refine (shapeCast_a1b_ab_apply _ _ _ _).trans ?_
  rw [View.readAt_eq_ld]
  refine congrArg g (funext fun a => Fin.ext ?_)
  fin_cases a
  · show 0 + 1 * (y 0).val = (y 0).val; omega
  · show b.val + 1 * 0 = b.val; omega
  · show 6400 + 1 * (y 1).val = 6400 + (y 1).val; omega

/-- Contents that read alike through a memref agree on its elements. -/
theorem eq_on_set {sp : Space} {S : Shape} (m : Memref sig .tc sp S .f32) (f g : m.view.ty.Contents (Elt F))
    (h : m.view.read (Elt F) f = m.view.read (Elt F) g) : ∀ x ∈ m.view.set, f x = g x := by
  intro x hx
  obtain ⟨y, -, rfl⟩ := Finset.mem_map.mp hx
  have := congrFun h y
  simpa [View.read] using this

variable (TA TB : Fin 16 → Vec F S149x3200 .f32) (TC : Fin 16 → Vec F S149x2000 .f32)

/-- The result read there is the tile. -/
theorem wA_outOf (b : Fin 16) : (wA b).view.read (Elt F) (outOf TA TB TC : outM.view.ty.Contents (Elt F)) = TA b := by
  funext y
  rw [wA_read]
  have h : (y 1).val < 3200 := (y 1).isLt
  unfold outOf
  rw [dif_pos (by exact h)]
  exact congrArg (TA b) (eq_ix2 y).symm
/-- The result read there is the tile. -/
theorem wB_outOf (b : Fin 16) : (wB b).view.read (Elt F) (outOf TA TB TC : outM.view.ty.Contents (Elt F)) = TB b := by
  funext y
  rw [wB_read]
  have h : (y 1).val < 3200 := (y 1).isLt
  unfold outOf
  rw [dif_neg (by show ¬ (3200 + (y 1).val < 3200); omega), dif_pos (by show 3200 + (y 1).val < 6400; omega)]
  refine congrArg (TB b) ?_
  conv_rhs => rw [eq_ix2 y]
  exact congrArg (ix2 (n0 := 149) (n1 := 3200) (y 0)) (Fin.ext (by show 3200 + (y 1).val - 3200 = (y 1).val; omega))
/-- The result read there is the tile. -/
theorem wC_outOf (b : Fin 16) : (wC b).view.read (Elt F) (outOf TA TB TC : outM.view.ty.Contents (Elt F)) = TC b := by
  funext y
  rw [wC_read]
  have h : (y 1).val < 2000 := (y 1).isLt
  unfold outOf
  rw [dif_neg (by show ¬ (6400 + (y 1).val < 3200); omega), dif_neg (by show ¬ (6400 + (y 1).val < 6400); omega)]
  refine congrArg (TC b) ?_
  conv_rhs => rw [eq_ix2 y]
  exact congrArg (ix2 (n0 := 149) (n1 := 2000) (y 0)) (Fin.ext (by show 6400 + (y 1).val - 6400 = (y 1).val; omega))

/-! ## The result between grid points: what is not in flight -/

/-- A block of the result, held at given contents. -/
abbrev Blk (c : Dev nD) (j : Fin 48) (f : Vec F S149x16x8400 .f32) : sProp 𝕄 :=
  (c : Thread nD τ).loc main_call0_v37 ↦[Wset j]{fullShare} f

variable (V G : Vec F S149x16x8400 .f32)

/-- Before point `p`: the blocks of points three or more back hold their values, those from `p` on the contents the
    launch found; the three between are in flight. -/
def Out (c : Dev nD) (p : ℕ) : sProp 𝕄 :=
  bigSep (Finset.univ.filter fun j : Fin 48 => j.val + 3 < p ∨ p ≤ j.val) fun j => Blk c j (if j.val < p then G else V)
/-- The same without point `p`'s own block. -/
def Mid (c : Dev nD) (p : ℕ) : sProp 𝕄 :=
  bigSep (Finset.univ.filter fun j : Fin 48 => j.val + 3 < p ∨ p < j.val) fun j => Blk c j (if j.val < p then G else V)

/-- At first nothing is written. -/
theorem Out_zero (c : Dev nD) : ((c : Thread nD τ).loc main_call0_v37 ↦{fullShare} V : sProp 𝕄) ⊢ Out V G c 0 := by
  unfold Out
  rw [Ring.pointsTo_blocks (ℓ := (c : Thread nD τ).loc main_call0_v37) Wset
    (fun j j' h => Finset.disjoint_left.mpr fun x hx hx' => h (Fin.ext ((mem_Wset _ _).mp hx ▸ (mem_Wset _ _).mp hx')))
    (Finset.eq_univ_iff_forall.mpr fun x => Finset.mem_biUnion.mpr ⟨ptOf x, Finset.mem_univ _, (mem_Wset _ _).mpr rfl⟩)]
  rw [Finset.filter_true_of_mem fun j _ => Or.inr (Nat.zero_le _)]
  exact Entails.of_eq (bigSep_congr fun j _ => by rw [if_neg (Nat.not_lt_zero _)])

/-- The block due next is taken out. -/
theorem Out_take (c : Dev nD) (j : Fin 48) : Out V G c j.val = iprop(Blk c j V ∗ Mid V G c j.val) := by
  unfold Out Mid
  rw [bigSep_erase (i := j) (Finset.mem_filter.mpr ⟨Finset.mem_univ _, Or.inr le_rfl⟩), if_neg (Nat.lt_irrefl _)]
  congr 2
  ext x; simp only [Finset.mem_erase, Finset.mem_filter, Finset.mem_univ, true_and, ne_eq, Fin.ext_iff]; omega

/-- The first three points give none back. -/
theorem Mid_early (c : Dev nD) (p : ℕ) (hp : p < 3) : Mid V G c p = Out V G c (p + 1) := by
  unfold Out Mid
  have e : (Finset.univ.filter fun j : Fin 48 => j.val + 3 < p ∨ p < j.val) = Finset.univ.filter fun j : Fin 48 => j.val + 3 < p + 1 ∨ p + 1 ≤ j.val := by
    ext x; simp only [Finset.mem_filter, Finset.mem_univ, true_and]; omega
  rw [e]
  refine bigSep_congr fun j hj => ?_
  have := (Finset.mem_filter.mp hj).2
  rw [if_neg (by omega), if_neg (by omega)]

/-- A written block is given back. -/
theorem Mid_put (c : Dev nD) (j : Fin 48) : iprop(Blk c j G ∗ Mid V G c (j.val + 3)) = Out V G c (j.val + 3 + 1) := by
  unfold Out Mid
  rw [bigSep_erase (s := Finset.univ.filter fun k : Fin 48 => k.val + 3 < j.val + 3 + 1 ∨ j.val + 3 + 1 ≤ k.val) (i := j)
    (Finset.mem_filter.mpr ⟨Finset.mem_univ _, Or.inl (Nat.lt_succ_self _)⟩), if_pos (by omega)]
  have e : (Finset.univ.filter fun k : Fin 48 => k.val + 3 < j.val + 3 ∨ j.val + 3 < k.val)
      = (Finset.univ.filter fun k : Fin 48 => k.val + 3 < j.val + 3 + 1 ∨ j.val + 3 + 1 ≤ k.val).erase j := by
    ext x; simp only [Finset.mem_erase, Finset.mem_filter, Finset.mem_univ, true_and, ne_eq, Fin.ext_iff]; omega
  rw [e]
  refine congrArg (fun Q : sProp 𝕄 => iprop(Blk c j G ∗ Q)) ?_
  refine bigSep_congr fun k hk => ?_
  have := (Finset.mem_filter.mp (Finset.mem_erase.mp hk).2).2
  by_cases h : k.val < j.val + 3
  · rw [if_pos h, if_pos (by omega)]
  · rw [if_neg h, if_neg (by omega)]

/-- The last four make the result whole. -/
theorem Mid_last (c : Dev nD) : iprop(Mid V G c 47 ∗ Blk c 44 G ∗ Blk c 45 G ∗ Blk c 46 G ∗ Blk c 47 G)
    ⊢ ((c : Thread nD τ).loc main_call0_v37 ↦{fullShare} G : sProp 𝕄) := by
  rw [Ring.pointsTo_blocks (ℓ := (c : Thread nD τ).loc main_call0_v37) Wset
    (fun j j' h => Finset.disjoint_left.mpr fun x hx hx' => h (Fin.ext ((mem_Wset _ _).mp hx ▸ (mem_Wset _ _).mp hx')))
    (Finset.eq_univ_iff_forall.mpr fun x => Finset.mem_biUnion.mpr ⟨ptOf x, Finset.mem_univ _, (mem_Wset _ _).mpr rfl⟩)]
  unfold Mid
  rw [bigSep_erase (s := Finset.univ) (i := (44 : Fin 48)) (Finset.mem_univ _),
    bigSep_erase (s := Finset.univ.erase (44 : Fin 48)) (i := (45 : Fin 48)) (by decide),
    bigSep_erase (s := (Finset.univ.erase (44 : Fin 48)).erase 45) (i := (46 : Fin 48)) (by decide),
    bigSep_erase (s := ((Finset.univ.erase (44 : Fin 48)).erase 45).erase 46) (i := (47 : Fin 48)) (by decide)]
  have e : (Finset.univ.filter fun j : Fin 48 => j.val + 3 < 47 ∨ 47 < j.val) = (((Finset.univ.erase (44 : Fin 48)).erase 45).erase 46).erase 47 := by
    decide
  rw [e, bigSep_congr (Φ := fun j : Fin 48 => Blk c j (if j.val < 47 then G else V)) (Ψ := fun j => Blk c j G) (fun j hj => by
    rw [← e] at hj; have := (Finset.mem_filter.mp hj).2; rw [if_pos (by omega)])]
  show _ ⊢ iprop(Blk c 44 G ∗ Blk c 45 G ∗ Blk c 46 G ∗ Blk c 47 G
    ∗ bigSep ((((Finset.univ.erase (44 : Fin 48)).erase 45).erase 46).erase 47) fun j => Blk c j G)
  iintro ⟨HM, H44, H45, H46, H47⟩
  isplitl [H44]
  · iexact H44
  isplitl [H45]
  · iexact H45
  isplitl [H46]
  · iexact H46
  isplitl [H47]
  · iexact H47
  iexact HM

end Cert.KernelIdeal.Hand
end
-- ==== Proof.Data.lean ====
module

public import proofs.«01_k».proof.Proof.Blocks
public import Idealize.ShloMosaic.Lib.Pipeline.FrameSuffixV

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## What the launch finds, and the tiles it makes of it -/

/-- The buffers as the launch finds them: after the host lines before it. -/
abbrev V₀ (c : Dev nD) : Valuation τ sig (Elt F) := StableHlo.after hostOps0 (fun b => m (c, b))
abbrev V (c : Dev nD) (b : Ref sig .tc) : Buf (Elt F) ((c : Thread nD τ).loc b) := V₀ m c (Proc.devRef .tc b)

/-- A window's block at a grid point, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The grid point of batch entry `b` and stage `s`. -/
abbrev pt (b : Fin 16) (s : Fin 3) : Fin cfg0.N := ⟨3 * b.val + s.val, by
  have h : cfg0.N = 48 := N_0
  have := b.isLt; have := s.isLt; omega⟩

/-- The coarsest level's two maps. -/
abbrev a6 : Memref sig .tc .hbm S20x20x16x256 .f32 := Memref.whole main_call0_v8
abbrev a7 : Memref sig .tc .hbm S20x20x16x256 .f32 := Memref.whole main_call0_v9

/-- The tile of the finest level's first half, of its second half, and of the two coarser levels, for batch entry `b`. -/
def TA (c : Dev nD) (b : Fin 16) : Vec F S149x3200 .f32 :=
  tileA (BitVec.ofNat 32 (grid0.coords (pt b 0) 1).val) (iblk m c 0 (pt b 0)) (iblk m c 1 (pt b 0)) (iblk m c 4 (pt b 0)) (iblk m c 5 (pt b 0))
    (iblk m c 6 (pt b 0)) (iblk m c 7 (pt b 0)) (iblk m c 16 (pt b 0))
def TB (c : Dev nD) (b : Fin 16) : Vec F S149x3200 .f32 :=
  tileA (BitVec.ofNat 32 (grid0.coords (pt b 1) 1).val) (iblk m c 0 (pt b 1)) (iblk m c 1 (pt b 1)) (iblk m c 4 (pt b 1)) (iblk m c 5 (pt b 1))
    (iblk m c 6 (pt b 1)) (iblk m c 7 (pt b 1)) (iblk m c 16 (pt b 1))
/-- Batch entry `b`'s images in the coarsest level's maps. -/
def T6 (c : Dev nD) (b : Fin 16) : Vec F S20x20x256 .f32 := (wS a6 b).view.read (Elt F) (V m c main_call0_v8)
def T7 (c : Dev nD) (b : Fin 16) : Vec F S20x20x256 .f32 := (wS a7 b).view.read (Elt F) (V m c main_call0_v9)
def TC (c : Dev nD) (b : Fin 16) : Vec F S149x2000 .f32 :=
  tileC (iblk m c 2 (pt b 2)) (iblk m c 3 (pt b 2)) (iblk m c 8 (pt b 2)) (iblk m c 9 (pt b 2)) (iblk m c 10 (pt b 2)) (iblk m c 11 (pt b 2))
    (iblk m c 12 (pt b 2)) (iblk m c 13 (pt b 2)) (iblk m c 14 (pt b 2)) (iblk m c 15 (pt b 2)) (iblk m c 16 (pt b 2)) (T6 m c b) (T7 m c b)

/-- The result the launch leaves. -/
def G37 (c : Dev nD) : Vec F S149x16x8400 .f32 := outOf (TA m c) (TB m c) (TC m c)
/-- The result's contents as the launch finds it. -/
abbrev V37 (c : Dev nD) : Vec F S149x16x8400 .f32 := V m c main_call0_v37

/-! ## The invariant between grid points -/

abbrev sc0 : Memref sig .tc .vmem S1x149x3200 .f32 := Memref.whole cc0_scratch0
abbrev sc1 : Memref sig .tc .vmem S1x149x3200 .f32 := Memref.whole cc0_scratch1
abbrev sc2 : Memref sig .tc .vmem S149x2000 .f32 := Memref.whole cc0_scratch2
abbrev sc3 : Memref sig .tc .vmem S20x20x256 .f32 := Memref.whole cc0_scratch3
abbrev sc4 : Memref sig .tc .vmem S20x20x256 .f32 := Memref.whole cc0_scratch4

/-- Batch entry number `k`. -/
abbrev bq (k : ℕ) : Fin 16 := Fin.ofNat 16 k

/-- Each of the three scratch tiles: idle, or its block's transfer in flight. -/
def Slot0 (c : Dev nD) (p : ℕ) : sProp 𝕄 :=
  if p < 1 ∨ 47 < p then iprop(Held c sc0 ∗ semVal ((c : Thread nD τ), SemLoc.dma 21) 0)
  else Fly c (wA (bq ((p - 1) / 3))) sc0 21 59600 (TA m c (bq ((p - 1) / 3)))
def Slot1 (c : Dev nD) (p : ℕ) : sProp 𝕄 :=
  if p < 2 ∨ 47 < p then iprop(Held c sc1 ∗ semVal ((c : Thread nD τ), SemLoc.dma 22) 0)
  else Fly c (wB (bq ((p - 2) / 3))) sc1 22 59600 (TB m c (bq ((p - 2) / 3)))
def Slot2 (c : Dev nD) (p : ℕ) : sProp 𝕄 :=
  if p < 3 ∨ 47 < p then iprop(Held c sc2 ∗ semVal ((c : Thread nD τ), SemLoc.dma 23) 0)
  else Fly c (wC (bq ((p - 3) / 3))) sc2 23 38144 (TC m c (bq ((p - 3) / 3)))
/-- A coarsest-level map, whole or without one batch entry's image. -/
abbrev Map6 (c : Dev nD) : sProp 𝕄 := (c : Thread nD τ).loc main_call0_v8 ↦{fullShare} V m c main_call0_v8
abbrev Map7 (c : Dev nD) : sProp 𝕄 := (c : Thread nD τ).loc main_call0_v9 ↦{fullShare} V m c main_call0_v9
abbrev Rest6 (c : Dev nD) (b : Fin 16) : sProp 𝕄 := (c : Thread nD τ).loc main_call0_v8 ↦[Finset.univ \ (wS a6 b).view.set]{fullShare} V m c main_call0_v8
abbrev Rest7 (c : Dev nD) (b : Fin 16) : sProp 𝕄 := (c : Thread nD τ).loc main_call0_v9 ↦[Finset.univ \ (wS a7 b).view.set]{fullShare} V m c main_call0_v9
/-- The coarsest level's maps and their scratch buffers, at rest. -/
abbrev InIdle (c : Dev nD) : sProp 𝕄 :=
  iprop(Map6 m c ∗ Held c sc3 ∗ semVal ((c : Thread nD τ), SemLoc.dma 24) 0 ∗ Map7 m c ∗ Held c sc4 ∗ semVal ((c : Thread nD τ), SemLoc.dma 25) 0)
/-- The same with batch entry `b`'s two images on their way into the scratch buffers. -/
abbrev InFly (c : Dev nD) (b : Fin 16) : sProp 𝕄 :=
  iprop(FlyIn c (wS a6 b) sc3 24 12800 (V m c main_call0_v8) (T6 m c b) ∗ Rest6 m c b
    ∗ FlyIn c (wS a7 b) sc4 25 12800 (V m c main_call0_v9) (T7 m c b) ∗ Rest7 m c b)
def In (c : Dev nD) (p : ℕ) : sProp 𝕄 := if p % 3 = 2 then InFly m c (bq (p / 3)) else InIdle m c
/-- The result: at the end whole, before that what is not in flight. -/
def OutP (c : Dev nD) (p : ℕ) : sProp 𝕄 :=
  if 47 < p then ((c : Thread nD τ).loc main_call0_v37 ↦{fullShare} G37 m c : sProp 𝕄) else Out (V37 m c) (G37 m c) c p
/-- The invariant before grid point `p`. -/
def Inv (c : Dev nD) (p : ℕ) : sProp 𝕄 :=
  iprop(OutP m c p ∗ Slot0 m c p ∗ Slot1 m c p ∗ Slot2 m c p ∗ In m c p)

/-- The proof data: the arrays as the launch finds them, each window's block left in place, the invariant, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨_ + 17, h⟩ => absurd h (Nat.not_lt.2 (Nat.le_add_left _ _))
  Φ t := Inv m c t.val
  q _ := fullShare
  owed _ := 0

/-- What a point finds in this window. -/
theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_8 {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_9 {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_10 {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_11 {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_12 {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_13 {c : Dev nD} (dat : Dat τ (Elt F) Unit ℕ (Pipeline.UD sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_14 {c : Dev nD} (dat : Dat τ (Elt F) Unit ℕ (Pipeline.UD sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_15 {c : Dev nD} (dat : Dat τ (Elt F) Unit ℕ (Pipeline.UD sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- What a point finds in this window. -/
theorem before_16 {c : Dev nD} (dat : Dat τ (Elt F) Unit ℕ (Pipeline.UD sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- What a point leaves there. -/
theorem after_0 (c : Dev nD) (t : Fin cfg0.N) : (dats m 0 c).after 0 t = iblk m c 0 t := by dsimp only [dats]
/-- What a point leaves there. -/
theorem after_1 (c : Dev nD) (t : Fin cfg0.N) : (dats m 0 c).after 1 t = iblk m c 1 t := by dsimp only [dats]
/-- What a point leaves there. -/
theorem after_2 (c : Dev nD) (t : Fin cfg0.N) : (dats m 0 c).after 2 t = iblk m c 2 t := by dsimp only [dats]
/-- What a point leaves there. -/
theorem after_3 (c : Dev nD) (t : Fin cfg0.N) : (dats m 0 c).after 3 t = iblk m c 3 t := by dsimp only [dats]
/-- What a point leaves there. -/
theorem after_4 (c : Dev nD) (t : Fin cfg0.N) : (dats m 0 c).after 4 t = iblk m c 4 t := by dsimp only [dats]
/-- What a point leaves there. -/
theorem after_5 (c : Dev nD) (t : Fin cfg0.N) : (dats m 0 c).after 5 t = iblk m c 5 t := by dsimp only [dats]
/-- What a point leaves there. -/
theorem after_6 (c : Dev nD) (t : Fin cfg0.N) : (dats m 0 c).after 6 t = iblk m c 6 t := by dsimp only [dats]
/-- What a point leaves there. -/
theorem after_7 (c : Dev nD) (t : Fin cfg0.N) : (dats m 0 c).after 7 t = iblk m c 7 t := by dsimp only [dats]
/-- What a point leaves there. -/
theorem after_8 (c : Dev nD) (t : Fin cfg0.N) : (dats m 0 c).after 8 t = iblk m c 8 t := by dsimp only [dats]
/-- What a point leaves there. -/
theorem after_9 (c : Dev nD) (t : Fin cfg0.N) : (dats m 0 c).after 9 t = iblk m c 9 t := by dsimp only [dats]
/-- What a point leaves there. -/
theorem after_10 (c : Dev nD) (t : Fin cfg0.N) : (dats m 0 c).after 10 t = iblk m c 10 t := by dsimp only [dats]
/-- What a point leaves there. -/
theorem after_11 (c : Dev nD) (t : Fin cfg0.N) : (dats m 0 c).after 11 t = iblk m c 11 t := by dsimp only [dats]
/-- What a point leaves there. -/
theorem after_12 (c : Dev nD) (t : Fin cfg0.N) : (dats m 0 c).after 12 t = iblk m c 12 t := by dsimp only [dats]
/-- What a point leaves there. -/
theorem after_13 (c : Dev nD) (t : Fin cfg0.N) : (dats m 0 c).after 13 t = iblk m c 13 t := by dsimp only [dats]
/-- What a point leaves there. -/
theorem after_14 (c : Dev nD) (t : Fin cfg0.N) : (dats m 0 c).after 14 t = iblk m c 14 t := by dsimp only [dats]
/-- What a point leaves there. -/
theorem after_15 (c : Dev nD) (t : Fin cfg0.N) : (dats m 0 c).after 15 t = iblk m c 15 t := by dsimp only [dats]
/-- What a point leaves there. -/
theorem after_16 (c : Dev nD) (t : Fin cfg0.N) : (dats m 0 c).after 16 t = iblk m c 16 t := by dsimp only [dats]
/-- What a window starts from. -/
theorem A_eq (c : Dev nD) (w : Fin cfg0.W) : (dats m 0 c).A w = V m c (Pipeline.arrRef spec0 w) := by dsimp only [dats]

/-! ## The launch's cells and buffers -/

abbrev osem0 : Fin 5 → SemLoc sig := fun j => (![SemLoc.dma 21, SemLoc.dma 22, SemLoc.dma 23, SemLoc.dma 24, SemLoc.dma 25] : Fin 5 → SemLoc sig) j
/-- The kernel's own counters. -/
theorem ownSemFacts0 : Pipeline.OwnSemFacts spec0 osem0 := by decide
/-- The kernel's own counters, listed. -/
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 21) 0 ∗ semVal ((c : Thread nD τ), SemLoc.dma 22) 0 ∗ semVal ((c : Thread nD τ), SemLoc.dma 23) 0
          ∗ semVal ((c : Thread nD τ), SemLoc.dma 24) 0 ∗ semVal ((c : Thread nD τ), SemLoc.dma 25) 0) := by
  rw [Pipeline.ownSems0_eq_of_list c osem0 [0, 1, 2, 3, 4] (by decide) (by decide)]; rfl
/-- The buffers the body's transfers read, and the one they write. -/
def H0 : Finset (Ref sig .tc) := {main_call0_v8, main_call0_v9}
def R0 : Finset (Ref sig .tc) := {main_call0_v37}
/-- The maps are outside the windows. -/
theorem H0_sub : H0 ⊆ Pipeline.restRefs sig spec0 := by decide
/-- So is the result. -/
theorem R0_sub : R0 ⊆ Pipeline.restRefs sig spec0 \ H0 := by decide

/-- The result's contents at the launch's end, by buffer. -/
def G (c : Dev nD) (b : Ref sig .tc) : Buf (Elt F) ((c : Thread nD τ).loc b) :=
  if h : b = main_call0_v37 then by subst h; exact G37 m c else V m c b
/-- What the result ends as. -/
theorem G_out (c : Dev nD) : G m c main_call0_v37 = G37 m c := by unfold G; rw [dif_pos rfl]

/-- A scratch buffer is held whole. -/
theorem held_whole0 (c : Dev nD) : (Held c sc0 : sProp 𝕄) = iprop(∃ f : Buf (Elt F) ((c : Thread nD τ).loc cc0_scratch0), ((c : Thread nD τ).loc cc0_scratch0) ↦{fullShare} f) := by
  unfold Held; rw [show sc0.view.set = Finset.univ from View.set_whole _]
/-- A scratch buffer is held whole. -/
theorem held_whole1 (c : Dev nD) : (Held c sc1 : sProp 𝕄) = iprop(∃ f : Buf (Elt F) ((c : Thread nD τ).loc cc0_scratch1), ((c : Thread nD τ).loc cc0_scratch1) ↦{fullShare} f) := by
  unfold Held; rw [show sc1.view.set = Finset.univ from View.set_whole _]
/-- A scratch buffer is held whole. -/
theorem held_whole2 (c : Dev nD) : (Held c sc2 : sProp 𝕄) = iprop(∃ f : Buf (Elt F) ((c : Thread nD τ).loc cc0_scratch2), ((c : Thread nD τ).loc cc0_scratch2) ↦{fullShare} f) := by
  unfold Held; rw [show sc2.view.set = Finset.univ from View.set_whole _]
/-- A scratch buffer is held whole. -/
theorem held_whole3 (c : Dev nD) : (Held c sc3 : sProp 𝕄) = iprop(∃ f : Buf (Elt F) ((c : Thread nD τ).loc cc0_scratch3), ((c : Thread nD τ).loc cc0_scratch3) ↦{fullShare} f) := by
  unfold Held; rw [show sc3.view.set = Finset.univ from View.set_whole _]
/-- A scratch buffer is held whole. -/
theorem held_whole4 (c : Dev nD) : (Held c sc4 : sProp 𝕄) = iprop(∃ f : Buf (Elt F) ((c : Thread nD τ).loc cc0_scratch4), ((c : Thread nD τ).loc cc0_scratch4) ↦{fullShare} f) := by
  unfold Held; rw [show sc4.view.set = Finset.univ from View.set_whole _]

/-- What the launch hands over, listed. -/
theorem PhiDRV_eq (c : Dev nD) (G' : (c : Dev nD) → (b : Ref sig .tc) → Buf (Elt F) ((c : Thread nD τ).loc b)) :
    (Pipeline.ΦDRV osem0 spec0 H0 R0 (V m) G' c : sProp 𝕄)
      = iprop((Held c sc0 ∗ Held c sc1 ∗ Held c sc2 ∗ Held c sc3 ∗ Held c sc4)
          ∗ (semVal ((c : Thread nD τ), SemLoc.dma 21) 0 ∗ semVal ((c : Thread nD τ), SemLoc.dma 22) 0 ∗ semVal ((c : Thread nD τ), SemLoc.dma 23) 0
            ∗ semVal ((c : Thread nD τ), SemLoc.dma 24) 0 ∗ semVal ((c : Thread nD τ), SemLoc.dma 25) 0)
          ∗ (Map6 m c ∗ Map7 m c)
          ∗ ((c : Thread nD τ).loc main_call0_v37 ↦{fullShare} G' c main_call0_v37)) := by
  unfold Pipeline.ΦDRV
  rw [scopedRest0_eq, ownSems_eq, BI.bigSep_eq_bigSepL_of_eq (S := H0) [main_call0_v8, main_call0_v9] (by decide) (by decide),
    BI.bigSep_eq_bigSepL_of_eq (S := R0) [main_call0_v37] (by decide) (by decide),
    held_whole0, held_whole1, held_whole2, held_whole3, held_whole4]
  rfl

/-- The launch enters the invariant; -/
theorem inv_in (c : Dev nD) : (Pipeline.ΦDRV osem0 spec0 H0 R0 (V m) (V m) c : sProp 𝕄) ⊢ Inv m c 0 := by
  rw [PhiDRV_eq]
  unfold Inv OutP Slot0 Slot1 Slot2 In
  rw [if_neg (by decide), if_pos (by decide), if_pos (by decide), if_pos (by decide), if_neg (by decide)]
  iintro ⟨⟨H0, H1, H2, H3, H4⟩, ⟨Q0, Q1, Q2, Q3, Q4⟩, ⟨M6, M7⟩, HO⟩
  isplitl [HO]
  · iapply (Out_zero (V37 m c) (G37 m c) c)
    iexact HO
  isplitl [H0 Q0]
  · isplitl [H0]
    · iexact H0
    iexact Q0
  isplitl [H1 Q1]
  · isplitl [H1]
    · iexact H1
    iexact Q1
  isplitl [H2 Q2]
  · isplitl [H2]
    · iexact H2
    iexact Q2
  isplitl [M6]
  · iexact M6
  isplitl [H3]
  · iexact H3
  isplitl [Q3]
  · iexact Q3
  isplitl [M7]
  · iexact M7
  isplitl [H4]
  · iexact H4
  iexact Q4

/-- after the last grid point it gives everything back, the result at its values. -/
theorem inv_out (c : Dev nD) : Inv m c 48 ⊢ (Pipeline.ΦDRV osem0 spec0 H0 R0 (V m) (G m) c : sProp 𝕄) := by
  rw [PhiDRV_eq, G_out]
  unfold Inv OutP Slot0 Slot1 Slot2 In
  rw [if_pos (by decide), if_pos (by decide), if_pos (by decide), if_pos (by decide), if_neg (by decide)]
  iintro ⟨HO, ⟨H0, Q0⟩, ⟨H1, Q1⟩, ⟨H2, Q2⟩, M6, H3, Q3, M7, H4, Q4⟩
  isplitl [H0 H1 H2 H3 H4]
  · isplitl [H0]
    · iexact H0
    isplitl [H1]
    · iexact H1
    isplitl [H2]
    · iexact H2
    isplitl [H3]
    · iexact H3
    iexact H4
  isplitl [Q0 Q1 Q2 Q3 Q4]
  · isplitl [Q0]
    · iexact Q0
    isplitl [Q1]
    · iexact Q1
    isplitl [Q2]
    · iexact Q2
    isplitl [Q3]
    · iexact Q3
    iexact Q4
  isplitl [M6 M7]
  · isplitl [M6]
    · iexact M6
    iexact M7
  iexact HO

end Cert.KernelIdeal.Hand
end
-- ==== Proof.Moves.lean ====
module

public import proofs.«01_k».proof.Proof.Data

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ)

/-! ## Passing between a window as a grid point names it and as a batch entry's block -/

/-- The first window's entries. -/
theorem winA_set (t : Fin grid0.N) (b : Fin 16) (j : Fin 48) (hj : j.val = 3 * b.val) (hb : t.val / 3 = b.val) (h1 h2) :
    (winA outM (grid0.coords t) h1 h2).view.set = Wset j := by
  have h : k0_off2 (grid0.coords t) = ![0, b.val, 0] := by rw [off2_eq, hb]
  unfold winA
  generalize k0_off2_inb (grid0.coords t) h1 h2 = q
  revert q; rw [h]; intro q; exact wA_set b j hj
/-- The block to write, as the transfer needs it. -/
theorem blkA_in (c : Dev nD) (b : Fin 16) (j : Fin 48) (hj : j.val = 3 * b.val) (t : Fin grid0.N) (hb : t.val / 3 = b.val) (h1 h2) (f : Vec F S149x16x8400 .f32) :
    (Blk c j f : sProp 𝕄) ⊢ (winA outM (grid0.coords t) h1 h2).view.loc (c : Thread nD τ) ↦[(winA outM (grid0.coords t) h1 h2).view.set]{fullShare} f := by
  rw [show (winA outM (grid0.coords t) h1 h2).view.set = Wset j from winA_set t b j hj hb h1 h2]
/-- The second window's entries. -/
theorem winB_set (t : Fin grid0.N) (b : Fin 16) (j : Fin 48) (hj : j.val = 3 * b.val + 1) (hb : t.val / 3 = b.val) (h1 h4) :
    (winB outM (grid0.coords t) h1 h4).view.set = Wset j := by
  have h : k0_off5 (grid0.coords t) = ![0, b.val, 3200] := by rw [off5_eq, hb]
  unfold winB
  generalize k0_off5_inb (grid0.coords t) h1 h4 = q
  revert q; rw [h]; intro q; exact wB_set b j hj
/-- The block to write, as the transfer needs it. -/
theorem blkB_in (c : Dev nD) (b : Fin 16) (j : Fin 48) (hj : j.val = 3 * b.val + 1) (t : Fin grid0.N) (hb : t.val / 3 = b.val) (h1 h4) (f : Vec F S149x16x8400 .f32) :
    (Blk c j f : sProp 𝕄) ⊢ (winB outM (grid0.coords t) h1 h4).view.loc (c : Thread nD τ) ↦[(winB outM (grid0.coords t) h1 h4).view.set]{fullShare} f := by
  rw [show (winB outM (grid0.coords t) h1 h4).view.set = Wset j from winB_set t b j hj hb h1 h4]
/-- The third window's entries. -/
theorem winC_set (t : Fin grid0.N) (b : Fin 16) (j : Fin 48) (hj : j.val = 3 * b.val + 2) (hb : t.val / 3 = b.val) (h6) :
    (winC outM (grid0.coords t) h6).view.set = Wset j := by
  have h : k0_off8 (grid0.coords t) = ![0, b.val, 6400] := by rw [off8_eq, hb]
  unfold winC
  generalize k0_off8_inb (grid0.coords t) h6 = q
  revert q; rw [h]; intro q; exact wC_set b j hj
/-- The block to write, as the transfer needs it. -/
theorem blkC_in (c : Dev nD) (b : Fin 16) (j : Fin 48) (hj : j.val = 3 * b.val + 2) (t : Fin grid0.N) (hb : t.val / 3 = b.val) (h6) (f : Vec F S149x16x8400 .f32) :
    (Blk c j f : sProp 𝕄) ⊢ (winC outM (grid0.coords t) h6).view.loc (c : Thread nD τ) ↦[(winC outM (grid0.coords t) h6).view.set]{fullShare} f := by
  rw [show (winC outM (grid0.coords t) h6).view.set = Wset j from winC_set t b j hj hb h6]

/-- The transfer under way, by image. -/
theorem flyA_out (c : Dev nD) (b : Fin 16) (t : Fin grid0.N) (hb : t.val / 3 = b.val) (h1 h2) {S' : Shape} (q : Memref sig .tc .vmem S' .f32) (d N) (T : Vec F S149x3200 .f32) :
    (Fly c (winA outM (grid0.coords t) h1 h2) q d N T : sProp 𝕄) ⊢ Fly c (wA b) q d N T := Entails.of_eq (by rw [winA_eq t b hb])
/-- The transfer under way, by image. -/
theorem flyB_out (c : Dev nD) (b : Fin 16) (t : Fin grid0.N) (hb : t.val / 3 = b.val) (h1 h4) {S' : Shape} (q : Memref sig .tc .vmem S' .f32) (d N) (T : Vec F S149x3200 .f32) :
    (Fly c (winB outM (grid0.coords t) h1 h4) q d N T : sProp 𝕄) ⊢ Fly c (wB b) q d N T := Entails.of_eq (by rw [winB_eq t b hb])
/-- The transfer under way, by image. -/
theorem flyC_out (c : Dev nD) (b : Fin 16) (t : Fin grid0.N) (hb : t.val / 3 = b.val) (h6) {S' : Shape} (q : Memref sig .tc .vmem S' .f32) (d N) (T : Vec F S149x2000 .f32) :
    (Fly c (winC outM (grid0.coords t) h6) q d N T : sProp 𝕄) ⊢ Fly c (wC b) q d N T := Entails.of_eq (by rw [winC_eq t b hb])
/-- The written block, by image. -/
theorem heldC_out (c : Dev nD) (b : Fin 16) (t : Fin grid0.N) (hb : t.val / 3 = b.val) (h6) (T : Vec F S149x2000 .f32) :
    (HeldAs c (winC outM (grid0.coords t) h6) T : sProp 𝕄) ⊢ HeldAs c (wC b) T := Entails.of_eq (by rw [winC_eq t b hb])

/-- A block that came back reading as its tile holds the result's values. -/
theorem heldA (c : Dev nD) (b : Fin 16) (j : Fin 48) (hj : j.val = 3 * b.val) : (HeldAs c (wA b) (TA m c b) : sProp 𝕄) ⊢ Blk c j (G37 m c) := by
  unfold HeldAs
  iintro ⟨%f, %e, H⟩
  have e2 := eq_on_set (wA b) f (G37 m c) (e.trans (wA_outOf _ _ _ b).symm)
  have e3 : ((wA b).view.loc (c : Thread nD τ) ↦[(wA b).view.set]{fullShare} f : sProp 𝕄) = Blk c j (G37 m c) := by
    rw [pointsTo_congr e2, wA_set b j hj]
  rw [← e3]
  iexact H
/-- The written block is its part of the result. -/
theorem heldB (c : Dev nD) (b : Fin 16) (j : Fin 48) (hj : j.val = 3 * b.val + 1) : (HeldAs c (wB b) (TB m c b) : sProp 𝕄) ⊢ Blk c j (G37 m c) := by
  unfold HeldAs
  iintro ⟨%f, %e, H⟩
  have e2 := eq_on_set (wB b) f (G37 m c) (e.trans (wB_outOf _ _ _ b).symm)
  have e3 : ((wB b).view.loc (c : Thread nD τ) ↦[(wB b).view.set]{fullShare} f : sProp 𝕄) = Blk c j (G37 m c) := by
    rw [pointsTo_congr e2, wB_set b j hj]
  rw [← e3]
  iexact H
/-- The written block is its part of the result. -/
theorem heldC (c : Dev nD) (b : Fin 16) (j : Fin 48) (hj : j.val = 3 * b.val + 2) : (HeldAs c (wC b) (TC m c b) : sProp 𝕄) ⊢ Blk c j (G37 m c) := by
  unfold HeldAs
  iintro ⟨%f, %e, H⟩
  have e2 := eq_on_set (wC b) f (G37 m c) (e.trans (wC_outOf _ _ _ b).symm)
  have e3 : ((wC b).view.loc (c : Thread nD τ) ↦[(wC b).view.set]{fullShare} f : sProp 𝕄) = Blk c j (G37 m c) := by
    rw [pointsTo_congr e2, wC_set b j hj]
  rw [← e3]
  iexact H

/-- One image of a map beside the rest of the map, and the map whole. -/
theorem map6_split (c : Dev nD) (b : Fin 16) : (Map6 m c : sProp 𝕄) ⊣⊢ iprop(((wS a6 b).view.loc (c : Thread nD τ) ↦[(wS a6 b).view.set]{fullShare} V m c main_call0_v8) ∗ Rest6 m c b) :=
  pointsTo_split_subset (Finset.subset_univ _)
/-- A map is an image's part and the rest. -/
theorem map7_split (c : Dev nD) (b : Fin 16) : (Map7 m c : sProp 𝕄) ⊣⊢ iprop(((wS a7 b).view.loc (c : Thread nD τ) ↦[(wS a7 b).view.set]{fullShare} V m c main_call0_v9) ∗ Rest7 m c b) :=
  pointsTo_split_subset (Finset.subset_univ _)

/-- An image's part, as the transfer needs it. -/
theorem src_in (c : Dev nD) (M : Memref sig .tc .hbm S20x20x16x256 .f32) (b : Fin 16) (t : Fin grid0.N) (hb : t.val / 3 = b.val) (h1 h4)
    (f : Buf (Elt F) (M.view.loc (c : Thread nD τ))) :
    ((wS M b).view.loc (c : Thread nD τ) ↦[(wS M b).view.set]{fullShare} f : sProp 𝕄)
      ⊢ ((srcIn M (grid0.coords t) h1 h4).view.loc (c : Thread nD τ) ↦[(srcIn M (grid0.coords t) h1 h4).view.set]{fullShare} f) := by
  have h : k0_off3 (grid0.coords t) = ![0, 0, b.val, 0] := by rw [off3_eq, hb]
  unfold srcIn wS
  generalize k0_off3_inb (grid0.coords t) h1 h4 = z
  revert z; rw [h]; intro z; exact Laws.entails_refl _
/-- The transfer in, by image. -/
theorem flyIn_out (c : Dev nD) (M : Memref sig .tc .hbm S20x20x16x256 .f32) (b : Fin 16) (t : Fin grid0.N) (hb : t.val / 3 = b.val) (h1 h4)
    (q : Memref sig .tc .vmem S20x20x256 .f32) (d N) (f : Buf (Elt F) (M.view.loc (c : Thread nD τ))) :
    (FlyIn c (srcIn M (grid0.coords t) h1 h4) q d N f ((srcIn M (grid0.coords t) h1 h4).view.read (Elt F) f) : sProp 𝕄)
      ⊢ FlyIn c (wS M b) q d N f ((wS M b).view.read (Elt F) f) := by
  have h : k0_off3 (grid0.coords t) = ![0, 0, b.val, 0] := by rw [off3_eq, hb]
  unfold srcIn wS
  generalize k0_off3_inb (grid0.coords t) h1 h4 = z
  revert z; rw [h]; intro z; exact Laws.entails_refl _

/-! ## The invariant's pieces at each kind of grid point -/

/-- The image of a number. -/
theorem bq_eq (k : ℕ) (b : Fin 16) (h : k = b.val) : bq k = b := by
  subst h; exact Fin.ext (Nat.mod_eq_of_lt b.isLt)

/-- Before the end. -/
theorem OutP_lt (c : Dev nD) (p : ℕ) (h : p < 48) : OutP m c p = Out (V37 m c) (G37 m c) c p := if_neg (by omega)
/-- At the end. -/
theorem OutP_end (c : Dev nD) : OutP m c 48 = ((c : Thread nD τ).loc main_call0_v37 ↦{fullShare} G37 m c : sProp 𝕄) := if_pos (by omega)
/-- The first buffer at rest. -/
theorem Slot0_idle (c : Dev nD) (p : ℕ) (h : p < 1 ∨ 47 < p) : Slot0 m c p = iprop(Held c sc0 ∗ semVal ((c : Thread nD τ), SemLoc.dma 21) 0) := if_pos h
/-- The second buffer at rest. -/
theorem Slot1_idle (c : Dev nD) (p : ℕ) (h : p < 2 ∨ 47 < p) : Slot1 m c p = iprop(Held c sc1 ∗ semVal ((c : Thread nD τ), SemLoc.dma 22) 0) := if_pos h
/-- The third buffer at rest. -/
theorem Slot2_idle (c : Dev nD) (p : ℕ) (h : p < 3 ∨ 47 < p) : Slot2 m c p = iprop(Held c sc2 ∗ semVal ((c : Thread nD τ), SemLoc.dma 23) 0) := if_pos h
/-- The first buffer being sent. -/
theorem Slot0_fly (c : Dev nD) (p : ℕ) (b : Fin 16) (h : ¬ (p < 1 ∨ 47 < p)) (hb : (p - 1) / 3 = b.val) :
    Slot0 m c p = Fly c (wA b) sc0 21 59600 (TA m c b) := by unfold Slot0; rw [if_neg h, bq_eq _ b hb]
/-- The second buffer being sent. -/
theorem Slot1_fly (c : Dev nD) (p : ℕ) (b : Fin 16) (h : ¬ (p < 2 ∨ 47 < p)) (hb : (p - 2) / 3 = b.val) :
    Slot1 m c p = Fly c (wB b) sc1 22 59600 (TB m c b) := by unfold Slot1; rw [if_neg h, bq_eq _ b hb]
/-- The third buffer being sent. -/
theorem Slot2_fly (c : Dev nD) (p : ℕ) (b : Fin 16) (h : ¬ (p < 3 ∨ 47 < p)) (hb : (p - 3) / 3 = b.val) :
    Slot2 m c p = Fly c (wC b) sc2 23 38144 (TC m c b) := by unfold Slot2; rw [if_neg h, bq_eq _ b hb]
/-- No map is on its way. -/
theorem In_idle (c : Dev nD) (p : ℕ) (h : ¬ p % 3 = 2) : In m c p = InIdle m c := if_neg h
/-- An image's maps are on their way. -/
theorem In_fly (c : Dev nD) (p : ℕ) (b : Fin 16) (h : p % 3 = 2) (hb : p / 3 = b.val) : In m c p = InFly m c b := by
  unfold In; rw [if_pos h, bq_eq _ b hb]
/-- A slot whose tile is untouched between two grid points. -/
theorem Slot0_keep (c : Dev nD) (p : ℕ) (h : p % 3 ≠ 0) (hp : p < 47) : Slot0 m c (p + 1) = Slot0 m c p := by
  unfold Slot0
  rw [if_neg (by omega), if_neg (by omega), show (p + 1 - 1) / 3 = (p - 1) / 3 from by omega]
/-- Other points leave it alone. -/
theorem Slot1_keep (c : Dev nD) (p : ℕ) (h : p % 3 ≠ 1) (hp : p < 47) : Slot1 m c (p + 1) = Slot1 m c p := by
  unfold Slot1
  by_cases h2 : p < 2
  · rw [if_pos (by omega), if_pos (by omega)]
  · rw [if_neg (by omega), if_neg (by omega), show (p + 1 - 2) / 3 = (p - 2) / 3 from by omega]
/-- Other points leave it alone. -/
theorem Slot2_keep (c : Dev nD) (p : ℕ) (h : p % 3 ≠ 2) (hp : p < 47) : Slot2 m c (p + 1) = Slot2 m c p := by
  unfold Slot2
  by_cases h2 : p < 3
  · rw [if_pos (by omega), if_pos (by omega)]
  · rw [if_neg (by omega), if_neg (by omega), show (p + 1 - 3) / 3 = (p - 3) / 3 from by omega]

end Cert.KernelIdeal.Hand
end
-- ==== Proof.Sides.lean ====
module

public import proofs.«01_k».proof.Proof.Moves

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ)

/-- What the body finds at a grid point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

end Cert.KernelIdeal.Hand
end
-- ==== Proof.RunA.lean ====
module

public import proofs.«01_k».proof.Proof.Tiles

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (c : Dev nD) (i : grid0.Coords)
variable (arg2 : Memref sig .tc .vmem S1x3200x256 .f32) (harg2 : arg2.IsWhole)
variable (arg3 : Memref sig .tc .vmem S1x3200x256 .f32) (harg3 : arg3.IsWhole)
variable (arg4 : Memref sig .tc .vmem S1x1600x256 .f32) (harg4 : arg4.IsWhole)
variable (arg5 : Memref sig .tc .vmem S1x1600x256 .f32) (harg5 : arg5.IsWhole)
variable (arg6 : Memref sig .tc .hbm S20x20x16x256 .f32) (harg6 : arg6.IsWhole)
variable (arg7 : Memref sig .tc .hbm S20x20x16x256 .f32) (harg7 : arg7.IsWhole)
variable (arg8 : Memref sig .tc .vmem S152x256 .f32) (harg8 : arg8.IsWhole)
variable (arg9 : Memref sig .tc .vmem S152x256 .f32) (harg9 : arg9.IsWhole)
variable (arg10 : Memref sig .tc .vmem S64x256 .f32) (harg10 : arg10.IsWhole)
variable (arg11 : Memref sig .tc .vmem S152x1 .f32) (harg11 : arg11.IsWhole)
variable (arg12 : Memref sig .tc .vmem S152x256 .f32) (harg12 : arg12.IsWhole)
variable (arg13 : Memref sig .tc .vmem S152x256 .f32) (harg13 : arg13.IsWhole)
variable (arg14 : Memref sig .tc .vmem S64x256 .f32) (harg14 : arg14.IsWhole)
variable (arg15 : Memref sig .tc .vmem S152x1 .f32) (harg15 : arg15.IsWhole)
variable (arg16 : Memref sig .tc .vmem S152x256 .f32) (harg16 : arg16.IsWhole)
variable (arg17 : Memref sig .tc .vmem S152x256 .f32) (harg17 : arg17.IsWhole)
variable (arg18 : Memref sig .tc .vmem S64x256 .f32) (harg18 : arg18.IsWhole)
variable (arg19 : Memref sig .tc .vmem S152x1 .f32) (harg19 : arg19.IsWhole)
variable (arg20 : Memref sig .tc .vmem S8x64 .f32) (harg20 : arg20.IsWhole)
variable (arg21 : Memref sig .tc .hbm S149x16x8400 .f32) (harg21 : arg21.IsWhole)
variable (arg22 : Memref sig .tc .vmem S1x149x3200 .f32) (harg22 : arg22.IsWhole)
variable (arg23 : Memref sig .tc .vmem S1x149x3200 .f32) (harg23 : arg23.IsWhole)
variable (arg24 : Memref sig .tc .vmem S149x2000 .f32) (harg24 : arg24.IsWhole)
variable (arg25 : Memref sig .tc .vmem S20x20x256 .f32) (harg25 : arg25.IsWhole)
variable (arg26 : Memref sig .tc .vmem S20x20x256 .f32) (harg26 : arg26.IsWhole)

/-- The body at the first tile of the first image. -/
theorem runA0 (h1 : k0_cond1 i = 1#1) (h2 : k0_cond2 i = 1#1) (h3 : ¬ k0_cond3 i = 1#1)
    (h4 : ¬ k0_cond4 i = 1#1) (h6 : ¬ k0_cond6 i = 1#1)
    (x2 : Vec F S1x3200x256 .f32) (x3 : Vec F S1x3200x256 .f32) (x8 : Vec F S152x256 .f32) (x9 : Vec F S152x256 .f32) (x10 : Vec F S64x256 .f32) (x11 : Vec F S152x1 .f32) (x20 : Vec F S8x64 .f32)
    (fo : Buf (Elt F) ((winA arg21 i h1 h2).view.loc (c : Thread nD τ))) (W : Waits sig Unit) (K : PUnit → sProp 𝕄) :
    iprop(owns (c : Thread nD τ) arg2 fullShare x2
        ∗ owns (c : Thread nD τ) arg3 fullShare x3
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg20 fullShare x20
        ∗ Held c arg22
        ∗ semVal ((c : Thread nD τ), SemLoc.dma 21) 0
        ∗ ((winA arg21 i h1 h2).view.loc (c : Thread nD τ) ↦[(winA arg21 i h1 h2).view.set]{fullShare} fo)
        ∗ owes (c : Thread nD τ) 0 W ∗ ((owns (c : Thread nD τ) arg2 fullShare x2
        ∗ owns (c : Thread nD τ) arg3 fullShare x3
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg20 fullShare x20
        ∗ Fly c (winA arg21 i h1 h2) arg22 21 59600 (tileA (BitVec.ofNat 32 (i 1).val) x2 x3 x8 x9 x10 x11 x20)
          ∗ (∃ W', owes (c : Thread nD τ) 0 W')) -∗ K ⟨⟩))
      ⊢ wp frame (wpE (defs₀ (F := F)) Variants.none c none) Set.univ
          (cc0_multi_level_pred i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch5 cc0_scratch6) K := by
  rw [cc0_multi_level_pred_eq_skeleton]
  unfold cc0_multi_level_pred_skel
  simp -zeta -proj only [k0_part1_eq_skeleton, k0_part2_eq_skeleton]
  unfold owns Held Fly
  iintro ⟨⟨%f2, %e2, H2⟩, ⟨%f3, %e3, H3⟩, ⟨%f8, %e8, H8⟩, ⟨%f9, %e9, H9⟩, ⟨%f10, %e10, H10⟩, ⟨%f11, %e11, H11⟩, ⟨%f20, %e20, H20⟩, ⟨%fs, HS⟩, Hq, Ho, HW, Hk⟩
  sl_exec
  sl_step
  iapply Hk
  isplitl [H2]
  · iexists f2; isplitr
    · ipureintro; exact e2
    · iexact H2
  isplitl [H3]
  · iexists f3; isplitr
    · ipureintro; exact e3
    · iexact H3
  isplitl [H8]
  · iexists f8; isplitr
    · ipureintro; exact e8
    · iexact H8
  isplitl [H9]
  · iexists f9; isplitr
    · ipureintro; exact e9
    · iexact H9
  isplitl [H10]
  · iexists f10; isplitr
    · ipureintro; exact e10
    · iexact H10
  isplitl [H11]
  · iexists f11; isplitr
    · ipureintro; exact e11
    · iexact H11
  isplitl [H20]
  · iexists f20; isplitr
    · ipureintro; exact e20
    · iexact H20
  isplitl [Hq]
  · ihave Hq := (Fly_back c (winA arg21 i h1 h2) arg22 _ _ _ _) $$ Hq
    iexists _; iexists _; isplitr
    swap
    · iexact Hq
    · ipureintro
      refine (View.read_writes_whole _ _ _).trans ?_
      subst e2 e3 e8 e9 e10 e11 e20
      sl_unfold_words
      funext y
      refine (tile_read _ _ _ _ _).trans ?_
      simp only [View.readAt_eq_ld, ld3, ld2]
      rfl
  iexists _; iexact HW

/-- The body at the first tile of a later image. -/
theorem runA1 (h1 : k0_cond1 i = 1#1) (h2 : k0_cond2 i = 1#1) (h3 : k0_cond3 i = 1#1)
    (h4 : ¬ k0_cond4 i = 1#1) (h6 : ¬ k0_cond6 i = 1#1)
    (x2 : Vec F S1x3200x256 .f32) (x3 : Vec F S1x3200x256 .f32) (x8 : Vec F S152x256 .f32) (x9 : Vec F S152x256 .f32) (x10 : Vec F S64x256 .f32) (x11 : Vec F S152x1 .f32) (x20 : Vec F S8x64 .f32)
    (fo : Buf (Elt F) ((winA arg21 i h1 h2).view.loc (c : Thread nD τ))) (w' : Memref sig .tc .hbm S149x3200 .f32) (T' : Vec F S149x3200 .f32) (W : Waits sig Unit) (K : PUnit → sProp 𝕄) :
    iprop(owns (c : Thread nD τ) arg2 fullShare x2
        ∗ owns (c : Thread nD τ) arg3 fullShare x3
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg20 fullShare x20
        ∗ Fly c w' arg22 21 59600 T'
        ∗ ((winA arg21 i h1 h2).view.loc (c : Thread nD τ) ↦[(winA arg21 i h1 h2).view.set]{fullShare} fo)
        ∗ owes (c : Thread nD τ) 0 W ∗ ((owns (c : Thread nD τ) arg2 fullShare x2
        ∗ owns (c : Thread nD τ) arg3 fullShare x3
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg20 fullShare x20
        ∗ HeldAs c w' T'
        ∗ Fly c (winA arg21 i h1 h2) arg22 21 59600 (tileA (BitVec.ofNat 32 (i 1).val) x2 x3 x8 x9 x10 x11 x20)
          ∗ (∃ W', owes (c : Thread nD τ) 0 W')) -∗ K ⟨⟩))
      ⊢ wp frame (wpE (defs₀ (F := F)) Variants.none c none) Set.univ
          (cc0_multi_level_pred i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch5 cc0_scratch6) K := by
  rw [cc0_multi_level_pred_eq_skeleton]
  unfold cc0_multi_level_pred_skel
  simp -zeta -proj only [k0_part1_eq_skeleton, k0_part2_eq_skeleton]
  unfold owns Fly
  iintro ⟨⟨%f2, %e2, H2⟩, ⟨%f3, %e3, H3⟩, ⟨%f8, %e8, H8⟩, ⟨%f9, %e9, H9⟩, ⟨%f10, %e10, H10⟩, ⟨%f11, %e11, H11⟩, ⟨%f20, %e20, H20⟩, ⟨%g', %fs, %e', Hq⟩, Ho, HW, Hk⟩
  sl_exec
  sl_step
  iapply Hk
  isplitl [H2]
  · iexists f2; isplitr
    · ipureintro; exact e2
    · iexact H2
  isplitl [H3]
  · iexists f3; isplitr
    · ipureintro; exact e3
    · iexact H3
  isplitl [H8]
  · iexists f8; isplitr
    · ipureintro; exact e8
    · iexact H8
  isplitl [H9]
  · iexists f9; isplitr
    · ipureintro; exact e9
    · iexact H9
  isplitl [H10]
  · iexists f10; isplitr
    · ipureintro; exact e10
    · iexact H10
  isplitl [H11]
  · iexists f11; isplitr
    · ipureintro; exact e11
    · iexact H11
  isplitl [H20]
  · iexists f20; isplitr
    · ipureintro; exact e20
    · iexact H20
  isplitl [Hq_dst]
  · unfold HeldAs; iexists g'; isplitr
    · ipureintro; exact e'
    · iexact Hq_dst
  isplitl [Hq]
  · ihave Hq := (Fly_back c (winA arg21 i h1 h2) arg22 _ _ _ _) $$ Hq
    iexists _; iexists _; isplitr
    swap
    · iexact Hq
    · ipureintro
      refine (View.read_writes_whole _ _ _).trans ?_
      subst e2 e3 e8 e9 e10 e11 e20
      sl_unfold_words
      funext y
      refine (tile_read _ _ _ _ _).trans ?_
      simp only [View.readAt_eq_ld, ld3, ld2]
      rfl
  iexists _; iexact HW

end Cert.KernelIdeal.Hand
end
-- ==== Proof.StepA0.lean ====
module

public import proofs.«01_k».proof.Proof.Sides
public import proofs.«01_k».proof.Proof.RunA

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ)

set_option maxHeartbeats 4000000 in
/-- The step at the first tile of the first image. -/
theorem stepA0 (c : Dev nD) (b : Fin 16) (h0 : b.val = 0) :
    bodyPre m c (pt b 0) ⊢ wp frame (wpE (defs₀ (F := F)) Variants.none c none) Set.univ (bodyAt0 (pt b 0)) (fun _ => bodyPost m c (pt b 0)) := by
  have hlt : b.val < 16 := b.isLt
  have h1 : k0_cond1 (grid0.coords (pt b 0)) = 1#1 := (cond1_iff (pt b 0)).mpr (by show (3 * b.val + 0) % 3 < 2; omega)
  have h2 : k0_cond2 (grid0.coords (pt b 0)) = 1#1 := (cond2_iff (pt b 0)).mpr (by show (3 * b.val + 0) % 3 = 0; omega)
  have h3 : ¬ k0_cond3 (grid0.coords (pt b 0)) = 1#1 := fun h => by have := (cond3_iff (pt b 0)).mp h; change 3 ≤ 3 * b.val + 0 at this; omega
  have h4 : ¬ k0_cond4 (grid0.coords (pt b 0)) = 1#1 := fun h => by have := (cond4_iff (pt b 0)).mp h; change (3 * b.val + 0) % 3 = 1 at this; omega
  have h6 : ¬ k0_cond6 (grid0.coords (pt b 0)) = 1#1 := fun h => by have := (cond6_iff (pt b 0)).mp h; change (3 * b.val + 0) % 3 = 2 at this; omega
  have hq : (pt b 0).val / 3 = b.val := by show (3 * b.val + 0) / 3 = b.val; omega
  have hj : (⟨3 * b.val + 0, by omega⟩ : Fin 48).val = 3 * b.val := rfl
  unfold bodyPre bodyPost bodyAt0
  rw [after_0]
  rw [after_1]
  rw [after_2]
  rw [after_3]
  rw [after_4]
  rw [after_5]
  rw [after_6]
  rw [after_7]
  rw [after_8]
  rw [after_9]
  rw [after_10]
  rw [after_11]
  rw [after_12]
  rw [after_13]
  rw [after_14]
  rw [after_15]
  rw [after_16]
  unfold Dat.owesAt Pipeline.owesWithin
  rw [show (dats m 0 c).Φ (pt b 0).castSucc = Inv m c (3 * b.val + 0) from rfl, show (dats m 0 c).Φ (pt b 0).succ = Inv m c (3 * b.val + 0 + 1) from rfl,
    show (dats m 0 c).owed (pt b 0).castSucc = 0 from rfl, show (dats m 0 c).owed (pt b 0).succ = 0 from rfl]
  unfold Inv
  rw [OutP_lt m c (3 * b.val + 0) (by omega), Out_take (V37 m c) (G37 m c) c ⟨3 * b.val + 0, by omega⟩]
  rw [Slot0_idle m c (3 * b.val + 0) (by omega)]
  rw [In_idle m c (3 * b.val + 0) (by omega)]
  rw [OutP_lt m c (3 * b.val + 0 + 1) (by omega), Slot0_fly m c (3 * b.val + 0 + 1) b (by omega) (by omega), Slot1_keep m c (3 * b.val + 0) (by omega) (by omega), Slot2_keep m c (3 * b.val + 0) (by omega) (by omega), In_idle m c (3 * b.val + 0 + 1) (by omega)]
  simp only [before_0 m (dats m 0 c) (A_eq m c _) (after_0 m c)]
  simp only [before_1 m (dats m 0 c) (A_eq m c _) (after_1 m c)]
  simp only [before_2 m (dats m 0 c) (A_eq m c _) (after_2 m c)]
  simp only [before_3 m (dats m 0 c) (A_eq m c _) (after_3 m c)]
  simp only [before_4 m (dats m 0 c) (A_eq m c _) (after_4 m c)]
  simp only [before_5 m (dats m 0 c) (A_eq m c _) (after_5 m c)]
  simp only [before_6 m (dats m 0 c) (A_eq m c _) (after_6 m c)]
  simp only [before_7 m (dats m 0 c) (A_eq m c _) (after_7 m c)]
  simp only [before_8 m (dats m 0 c) (A_eq m c _) (after_8 m c)]
  simp only [before_9 m (dats m 0 c) (A_eq m c _) (after_9 m c)]
  simp only [before_10 m (dats m 0 c) (A_eq m c _) (after_10 m c)]
  simp only [before_11 m (dats m 0 c) (A_eq m c _) (after_11 m c)]
  simp only [before_12 m (dats m 0 c) (A_eq m c _) (after_12 m c)]
  simp only [before_13 m (dats m 0 c) (A_eq m c _) (after_13 m c)]
  simp only [before_14 m (dats m 0 c) (A_eq m c _) (after_14 m c)]
  simp only [before_15 m (dats m 0 c) (A_eq m c _) (after_15 m c)]
  simp only [before_16 m (dats m 0 c) (A_eq m c _) (after_16 m c)]
  iintro ⟨⟨⟨HB, HM⟩, ⟨HS, HQ⟩, H1, H2, HI⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, ⟨%d15, W15⟩, ⟨%d16, W16⟩⟩
  ihave HB := (blkA_in c b _ hj (pt b 0) hq h1 h2 (V37 m c)) $$ HB
  iapply (runA0 c (grid0.coords (pt b 0)) _ _ _ _ _ _ _ _ _ _ _ _ _ _ _ _ _ _ _ _ _ _ _ _ _ _ _ _ _ _ _ _ _ _ _ _ _ _ _ _ _ _ _ _ _ _ _ _ _ _ h1 h2 h3 h4 h6 _ _ _ _ _ _ _ (V37 m c) W _)
  isplitl [W0]
  · iexact W0
  isplitl [W1]
  · iexact W1
  isplitl [W4]
  · iexact W4
  isplitl [W5]
  · iexact W5
  isplitl [W6]
  · iexact W6
  isplitl [W7]
  · iexact W7
  isplitl [W16]
  · iexact W16
  isplitl [HS]
  · iexact HS
  isplitl [HQ]
  · iexact HQ
  isplitl [HB]
  · iexact HB
  isplitl [HW]
  · iexact HW
  iintro ⟨W0, W1, W4, W5, W6, W7, W16, HF, ⟨%W', HW⟩⟩
  ihave HF := (flyA_out c b (pt b 0) hq h1 h2 sc0 21 59600 _) $$ HF
  isplitl [HM HF H1 H2 HI]
  · isplitl [HM]
    · rw [← Mid_early (V37 m c) (G37 m c) c (3 * b.val + 0) (by omega)]
      iexact HM
    isplitl [HF]
    · unfold TA; iexact HF
    isplitl [H1]
    · iexact H1
    isplitl [H2]
    · iexact H2
    iexact HI
  isplitl [HW]
  · iexists W'; isplitr
    · ipureintro; exact fun _ _ => Or.inl trivial
    · iexact HW
  isplitl [W0]
  · iexact W0
  isplitl [W1]
  · iexact W1
  isplitl [W2]
  · iexact W2
  isplitl [W3]
  · iexact W3
  isplitl [W4]
  · iexact W4
  isplitl [W5]
  · iexact W5
  isplitl [W6]
  · iexact W6
  isplitl [W7]
  · iexact W7
  isplitl [W8]
  · iexact W8
  isplitl [W9]
  · iexact W9
  isplitl [W10]
  · iexact W10
  isplitl [W11]
  · iexact W11
  isplitl [W12]
  · iexact W12
  isplitl [W13]
  · iexact W13
  isplitl [W14]
  · iexact W14
  isplitl [W15]
  · iexact W15
  iexact W16

end Cert.KernelIdeal.Hand
end
-- ==== Proof.StepA1.lean ====
module

public import proofs.«01_k».proof.Proof.Sides
public import proofs.«01_k».proof.Proof.RunA

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ)

set_option maxHeartbeats 4000000 in
/-- The step at the first tile of a later image. -/
theorem stepA1 (c : Dev nD) (b : Fin 16) (h0 : b.val ≠ 0) :
    bodyPre m c (pt b 0) ⊢ wp frame (wpE (defs₀ (F := F)) Variants.none c none) Set.univ (bodyAt0 (pt b 0)) (fun _ => bodyPost m c (pt b 0)) := by
  have hlt : b.val < 16 := b.isLt
  have h1 : k0_cond1 (grid0.coords (pt b 0)) = 1#1 := (cond1_iff (pt b 0)).mpr (by show (3 * b.val + 0) % 3 < 2; omega)
  have h2 : k0_cond2 (grid0.coords (pt b 0)) = 1#1 := (cond2_iff (pt b 0)).mpr (by show (3 * b.val + 0) % 3 = 0; omega)
  have h3 : k0_cond3 (grid0.coords (pt b 0)) = 1#1 := (cond3_iff (pt b 0)).mpr (by show 3 ≤ 3 * b.val + 0; omega)
  have h4 : ¬ k0_cond4 (grid0.coords (pt b 0)) = 1#1 := fun h => by have := (cond4_iff (pt b 0)).mp h; change (3 * b.val + 0) % 3 = 1 at this; omega
  have h6 : ¬ k0_cond6 (grid0.coords (pt b 0)) = 1#1 := fun h => by have := (cond6_iff (pt b 0)).mp h; change (3 * b.val + 0) % 3 = 2 at this; omega
  have hq : (pt b 0).val / 3 = b.val := by show (3 * b.val + 0) / 3 = b.val; omega
  have hj : (⟨3 * b.val + 0, by omega⟩ : Fin 48).val = 3 * b.val := rfl
  have hb' : b.val - 1 < 16 := by omega
  have hj' : (⟨3 * (b.val - 1), by omega⟩ : Fin 48).val = 3 * (⟨b.val - 1, hb'⟩ : Fin 16).val := rfl
  unfold bodyPre bodyPost bodyAt0
  rw [after_0]
  rw [after_1]
  rw [after_2]
  rw [after_3]
  rw [after_4]
  rw [after_5]
  rw [after_6]
  rw [after_7]
  rw [after_8]
  rw [after_9]
  rw [after_10]
  rw [after_11]
  rw [after_12]
  rw [after_13]
  rw [after_14]
  rw [after_15]
  rw [after_16]
  unfold Dat.owesAt Pipeline.owesWithin
  rw [show (dats m 0 c).Φ (pt b 0).castSucc = Inv m c (3 * b.val + 0) from rfl, show (dats m 0 c).Φ (pt b 0).succ = Inv m c (3 * b.val + 0 + 1) from rfl,
    show (dats m 0 c).owed (pt b 0).castSucc = 0 from rfl, show (dats m 0 c).owed (pt b 0).succ = 0 from rfl]
  unfold Inv
  rw [OutP_lt m c (3 * b.val + 0) (by omega), Out_take (V37 m c) (G37 m c) c ⟨3 * b.val + 0, by omega⟩]
  rw [Slot0_fly m c (3 * b.val + 0) ⟨b.val - 1, hb'⟩ (by omega) (by show (3 * b.val + 0 - 1) / 3 = b.val - 1; omega)]
  rw [In_idle m c (3 * b.val + 0) (by omega)]
  rw [OutP_lt m c (3 * b.val + 0 + 1) (by omega), Slot0_fly m c (3 * b.val + 0 + 1) b (by omega) (by omega), Slot1_keep m c (3 * b.val + 0) (by omega) (by omega), Slot2_keep m c (3 * b.val + 0) (by omega) (by omega), In_idle m c (3 * b.val + 0 + 1) (by omega)]
  simp only [before_0 m (dats m 0 c) (A_eq m c _) (after_0 m c)]
  simp only [before_1 m (dats m 0 c) (A_eq m c _) (after_1 m c)]
  simp only [before_2 m (dats m 0 c) (A_eq m c _) (after_2 m c)]
  simp only [before_3 m (dats m 0 c) (A_eq m c _) (after_3 m c)]
  simp only [before_4 m (dats m 0 c) (A_eq m c _) (after_4 m c)]
  simp only [before_5 m (dats m 0 c) (A_eq m c _) (after_5 m c)]
  simp only [before_6 m (dats m 0 c) (A_eq m c _) (after_6 m c)]
  simp only [before_7 m (dats m 0 c) (A_eq m c _) (after_7 m c)]
  simp only [before_8 m (dats m 0 c) (A_eq m c _) (after_8 m c)]
  simp only [before_9 m (dats m 0 c) (A_eq m c _) (after_9 m c)]
  simp only [before_10 m (dats m 0 c) (A_eq m c _) (after_10 m c)]
  simp only [before_11 m (dats m 0 c) (A_eq m c _) (after_11 m c)]
  simp only [before_12 m (dats m 0 c) (A_eq m c _) (after_12 m c)]
  simp only [before_13 m (dats m 0 c) (A_eq m c _) (after_13 m c)]
  simp only [before_14 m (dats m 0 c) (A_eq m c _) (after_14 m c)]
  simp only [before_15 m (dats m 0 c) (A_eq m c _) (after_15 m c)]
  simp only [before_16 m (dats m 0 c) (A_eq m c _) (after_16 m c)]
  iintro ⟨⟨⟨HB, HM⟩, HF, H1, H2, HI⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, ⟨%d15, W15⟩, ⟨%d16, W16⟩⟩
  ihave HB := (blkA_in c b _ hj (pt b 0) hq h1 h2 (V37 m c)) $$ HB
  iapply (runA1 c (grid0.coords (pt b 0)) _ _ _ _ _ _ _ _ _ _ _ _ _ _ _ _ _ _ _ _ _ _ _ _ _ _ _ _ _ _ _ _ _ _ _ _ _ _ _ _ _ _ _ _ _ _ _ _ _ _ h1 h2 h3 h4 h6 _ _ _ _ _ _ _ (V37 m c) (wA ⟨b.val - 1, hb'⟩) (TA m c ⟨b.val - 1, hb'⟩) W _)
  isplitl [W0]
  · iexact W0
  isplitl [W1]
  · iexact W1
  isplitl [W4]
  · iexact W4
  isplitl [W5]
  · iexact W5
  isplitl [W6]
  · iexact W6
  isplitl [W7]
  · iexact W7
  isplitl [W16]
  · iexact W16
  isplitl [HF]
  · iexact HF
  isplitl [HB]
  · iexact HB
  isplitl [HW]
  · iexact HW
  iintro ⟨W0, W1, W4, W5, W6, W7, W16, HP, HF, ⟨%W', HW⟩⟩
  ihave HF := (flyA_out c b (pt b 0) hq h1 h2 sc0 21 59600 _) $$ HF
  ihave HP := (heldA m c ⟨b.val - 1, hb'⟩ _ hj') $$ HP
  isplitl [HP HM HF H1 H2 HI]
  · isplitl [HP HM]
    · rw [show 3 * b.val + 0 + 1 = 3 * (b.val - 1) + 3 + 1 from by omega, ← Mid_put (V37 m c) (G37 m c) c ⟨3 * (b.val - 1), by omega⟩]
      isplitl [HP]
      · iexact HP
      rw [show 3 * (b.val - 1) + 3 = 3 * b.val + 0 from by omega]
      iexact HM
    isplitl [HF]
    · unfold TA; iexact HF
    isplitl [H1]
    · iexact H1
    isplitl [H2]
    · iexact H2
    iexact HI
  isplitl [HW]
  · iexists W'; isplitr
    · ipureintro; exact fun _ _ => Or.inl trivial
    · iexact HW
  isplitl [W0]
  · iexact W0
  isplitl [W1]
  · iexact W1
  isplitl [W2]
  · iexact W2
  isplitl [W3]
  · iexact W3
  isplitl [W4]
  · iexact W4
  isplitl [W5]
  · iexact W5
  isplitl [W6]
  · iexact W6
  isplitl [W7]
  · iexact W7
  isplitl [W8]
  · iexact W8
  isplitl [W9]
  · iexact W9
  isplitl [W10]
  · iexact W10
  isplitl [W11]
  · iexact W11
  isplitl [W12]
  · iexact W12
  isplitl [W13]
  · iexact W13
  isplitl [W14]
  · iexact W14
  isplitl [W15]
  · iexact W15
  iexact W16

end Cert.KernelIdeal.Hand
end
-- ==== Proof.RunB.lean ====
module

public import proofs.«01_k».proof.Proof.Tiles

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (c : Dev nD) (i : grid0.Coords)
variable (arg2 : Memref sig .tc .vmem S1x3200x256 .f32) (harg2 : arg2.IsWhole)
variable (arg3 : Memref sig .tc .vmem S1x3200x256 .f32) (harg3 : arg3.IsWhole)
variable (arg4 : Memref sig .tc .vmem S1x1600x256 .f32) (harg4 : arg4.IsWhole)
variable (arg5 : Memref sig .tc .vmem S1x1600x256 .f32) (harg5 : arg5.IsWhole)
variable (arg6 : Memref sig .tc .hbm S20x20x16x256 .f32) (harg6 : arg6.IsWhole)
variable (arg7 : Memref sig .tc .hbm S20x20x16x256 .f32) (harg7 : arg7.IsWhole)
variable (arg8 : Memref sig .tc .vmem S152x256 .f32) (harg8 : arg8.IsWhole)
variable (arg9 : Memref sig .tc .vmem S152x256 .f32) (harg9 : arg9.IsWhole)
variable (arg10 : Memref sig .tc .vmem S64x256 .f32) (harg10 : arg10.IsWhole)
variable (arg11 : Memref sig .tc .vmem S152x1 .f32) (harg11 : arg11.IsWhole)
variable (arg12 : Memref sig .tc .vmem S152x256 .f32) (harg12 : arg12.IsWhole)
variable (arg13 : Memref sig .tc .vmem S152x256 .f32) (harg13 : arg13.IsWhole)
variable (arg14 : Memref sig .tc .vmem S64x256 .f32) (harg14 : arg14.IsWhole)
variable (arg15 : Memref sig .tc .vmem S152x1 .f32) (harg15 : arg15.IsWhole)
variable (arg16 : Memref sig .tc .vmem S152x256 .f32) (harg16 : arg16.IsWhole)
variable (arg17 : Memref sig .tc .vmem S152x256 .f32) (harg17 : arg17.IsWhole)
variable (arg18 : Memref sig .tc .vmem S64x256 .f32) (harg18 : arg18.IsWhole)
variable (arg19 : Memref sig .tc .vmem S152x1 .f32) (harg19 : arg19.IsWhole)
variable (arg20 : Memref sig .tc .vmem S8x64 .f32) (harg20 : arg20.IsWhole)
variable (arg21 : Memref sig .tc .hbm S149x16x8400 .f32) (harg21 : arg21.IsWhole)
variable (arg22 : Memref sig .tc .vmem S1x149x3200 .f32) (harg22 : arg22.IsWhole)
variable (arg23 : Memref sig .tc .vmem S1x149x3200 .f32) (harg23 : arg23.IsWhole)
variable (arg24 : Memref sig .tc .vmem S149x2000 .f32) (harg24 : arg24.IsWhole)
variable (arg25 : Memref sig .tc .vmem S20x20x256 .f32) (harg25 : arg25.IsWhole)
variable (arg26 : Memref sig .tc .vmem S20x20x256 .f32) (harg26 : arg26.IsWhole)

/-- The body at the second tile of the first image. -/
theorem runB0 (h1 : k0_cond1 i = 1#1) (h2 : ¬ k0_cond2 i = 1#1) (h4 : k0_cond4 i = 1#1)
    (h5 : ¬ k0_cond5 i = 1#1) (h6 : ¬ k0_cond6 i = 1#1)
    (x2 : Vec F S1x3200x256 .f32) (x3 : Vec F S1x3200x256 .f32) (x8 : Vec F S152x256 .f32) (x9 : Vec F S152x256 .f32) (x10 : Vec F S64x256 .f32) (x11 : Vec F S152x1 .f32) (x20 : Vec F S8x64 .f32)
    (fo : Buf (Elt F) ((winB arg21 i h1 h4).view.loc (c : Thread nD τ)))
    (V6 : Buf (Elt F) ((srcIn arg6 i h1 h4).view.loc (c : Thread nD τ))) (V7 : Buf (Elt F) ((srcIn arg7 i h1 h4).view.loc (c : Thread nD τ))) (W : Waits sig Unit) (K : PUnit → sProp 𝕄) :
    iprop(owns (c : Thread nD τ) arg2 fullShare x2
        ∗ owns (c : Thread nD τ) arg3 fullShare x3
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg20 fullShare x20
        ∗ Held c arg23
        ∗ semVal ((c : Thread nD τ), SemLoc.dma 22) 0
        ∗ ((winB arg21 i h1 h4).view.loc (c : Thread nD τ) ↦[(winB arg21 i h1 h4).view.set]{fullShare} fo)
        ∗ ((srcIn arg6 i h1 h4).view.loc (c : Thread nD τ) ↦[(srcIn arg6 i h1 h4).view.set]{fullShare} V6)
        ∗ Held c arg25
        ∗ semVal ((c : Thread nD τ), SemLoc.dma 24) 0
        ∗ ((srcIn arg7 i h1 h4).view.loc (c : Thread nD τ) ↦[(srcIn arg7 i h1 h4).view.set]{fullShare} V7)
        ∗ Held c arg26
        ∗ semVal ((c : Thread nD τ), SemLoc.dma 25) 0
        ∗ owes (c : Thread nD τ) 0 W ∗ ((owns (c : Thread nD τ) arg2 fullShare x2
        ∗ owns (c : Thread nD τ) arg3 fullShare x3
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg20 fullShare x20
        ∗ FlyIn c (srcIn arg6 i h1 h4) arg25 24 12800 V6 ((srcIn arg6 i h1 h4).view.read (Elt F) V6)
        ∗ FlyIn c (srcIn arg7 i h1 h4) arg26 25 12800 V7 ((srcIn arg7 i h1 h4).view.read (Elt F) V7)
        ∗ Fly c (winB arg21 i h1 h4) arg23 22 59600 (tileA (BitVec.ofNat 32 (i 1).val) x2 x3 x8 x9 x10 x11 x20)
          ∗ (∃ W', owes (c : Thread nD τ) 0 W')) -∗ K ⟨⟩))
      ⊢ wp frame (wpE (defs₀ (F := F)) Variants.none c none) Set.univ
          (cc0_multi_level_pred i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch5 cc0_scratch6) K := by
  rw [cc0_multi_level_pred_eq_skeleton]
  unfold cc0_multi_level_pred_skel
  simp -zeta -proj only [k0_part1_eq_skeleton, k0_part2_eq_skeleton]
  unfold owns Held Fly
  iintro ⟨⟨%f2, %e2, H2⟩, ⟨%f3, %e3, H3⟩, ⟨%f8, %e8, H8⟩, ⟨%f9, %e9, H9⟩, ⟨%f10, %e10, H10⟩, ⟨%f11, %e11, H11⟩, ⟨%f20, %e20, H20⟩, ⟨%fs, HS⟩, Hq, Ho, Hp6, ⟨%f25, H25⟩, Hq24, Hp7, ⟨%f26, H26⟩, Hq25, HW, Hk⟩
  sl_exec
  sl_step
  iapply Hk
  isplitl [H2]
  · iexists f2; isplitr
    · ipureintro; exact e2
    · iexact H2
  isplitl [H3]
  · iexists f3; isplitr
    · ipureintro; exact e3
    · iexact H3
  isplitl [H8]
  · iexists f8; isplitr
    · ipureintro; exact e8
    · iexact H8
  isplitl [H9]
  · iexists f9; isplitr
    · ipureintro; exact e9
    · iexact H9
  isplitl [H10]
  · iexists f10; isplitr
    · ipureintro; exact e10
    · iexact H10
  isplitl [H11]
  · iexists f11; isplitr
    · ipureintro; exact e11
    · iexact H11
  isplitl [H20]
  · iexists f20; isplitr
    · ipureintro; exact e20
    · iexact H20
  isplitl [Hq24]
  · unfold FlyIn; iexists _; isplitr
    swap
    · iexact Hq24
    · ipureintro; exact View.read_writes_whole _ _ _
  isplitl [Hq25]
  · unfold FlyIn; iexists _; isplitr
    swap
    · iexact Hq25
    · ipureintro; exact View.read_writes_whole _ _ _
  isplitl [Hq]
  · ihave Hq := (Fly_back c (winB arg21 i h1 h4) arg23 _ _ _ _) $$ Hq
    iexists _; iexists _; isplitr
    swap
    · iexact Hq
    · ipureintro
      refine (View.read_writes_whole _ _ _).trans ?_
      subst e2 e3 e8 e9 e10 e11 e20
      sl_unfold_words
      funext y
      refine (tile_read _ _ _ _ _).trans ?_
      simp only [View.readAt_eq_ld, ld3, ld2]
      rfl
  iexists _; iexact HW

/-- The body at the second tile of a later image. -/
theorem runB1 (h1 : k0_cond1 i = 1#1) (h2 : ¬ k0_cond2 i = 1#1) (h4 : k0_cond4 i = 1#1)
    (h5 : k0_cond5 i = 1#1) (h6 : ¬ k0_cond6 i = 1#1)
    (x2 : Vec F S1x3200x256 .f32) (x3 : Vec F S1x3200x256 .f32) (x8 : Vec F S152x256 .f32) (x9 : Vec F S152x256 .f32) (x10 : Vec F S64x256 .f32) (x11 : Vec F S152x1 .f32) (x20 : Vec F S8x64 .f32)
    (fo : Buf (Elt F) ((winB arg21 i h1 h4).view.loc (c : Thread nD τ))) (w' : Memref sig .tc .hbm S149x3200 .f32) (T' : Vec F S149x3200 .f32)
    (V6 : Buf (Elt F) ((srcIn arg6 i h1 h4).view.loc (c : Thread nD τ))) (V7 : Buf (Elt F) ((srcIn arg7 i h1 h4).view.loc (c : Thread nD τ))) (W : Waits sig Unit) (K : PUnit → sProp 𝕄) :
    iprop(owns (c : Thread nD τ) arg2 fullShare x2
        ∗ owns (c : Thread nD τ) arg3 fullShare x3
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg20 fullShare x20
        ∗ Fly c w' arg23 22 59600 T'
        ∗ ((winB arg21 i h1 h4).view.loc (c : Thread nD τ) ↦[(winB arg21 i h1 h4).view.set]{fullShare} fo)
        ∗ ((srcIn arg6 i h1 h4).view.loc (c : Thread nD τ) ↦[(srcIn arg6 i h1 h4).view.set]{fullShare} V6)
        ∗ Held c arg25
        ∗ semVal ((c : Thread nD τ), SemLoc.dma 24) 0
        ∗ ((srcIn arg7 i h1 h4).view.loc (c : Thread nD τ) ↦[(srcIn arg7 i h1 h4).view.set]{fullShare} V7)
        ∗ Held c arg26
        ∗ semVal ((c : Thread nD τ), SemLoc.dma 25) 0
        ∗ owes (c : Thread nD τ) 0 W ∗ ((owns (c : Thread nD τ) arg2 fullShare x2
        ∗ owns (c : Thread nD τ) arg3 fullShare x3
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg20 fullShare x20
        ∗ HeldAs c w' T'
        ∗ FlyIn c (srcIn arg6 i h1 h4) arg25 24 12800 V6 ((srcIn arg6 i h1 h4).view.read (Elt F) V6)
        ∗ FlyIn c (srcIn arg7 i h1 h4) arg26 25 12800 V7 ((srcIn arg7 i h1 h4).view.read (Elt F) V7)
        ∗ Fly c (winB arg21 i h1 h4) arg23 22 59600 (tileA (BitVec.ofNat 32 (i 1).val) x2 x3 x8 x9 x10 x11 x20)
          ∗ (∃ W', owes (c : Thread nD τ) 0 W')) -∗ K ⟨⟩))
      ⊢ wp frame (wpE (defs₀ (F := F)) Variants.none c none) Set.univ
          (cc0_multi_level_pred i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch5 cc0_scratch6) K := by
  rw [cc0_multi_level_pred_eq_skeleton]
  unfold cc0_multi_level_pred_skel
  simp -zeta -proj only [k0_part1_eq_skeleton, k0_part2_eq_skeleton]
  unfold owns Held Fly
  iintro ⟨⟨%f2, %e2, H2⟩, ⟨%f3, %e3, H3⟩, ⟨%f8, %e8, H8⟩, ⟨%f9, %e9, H9⟩, ⟨%f10, %e10, H10⟩, ⟨%f11, %e11, H11⟩, ⟨%f20, %e20, H20⟩, ⟨%g', %fs, %e', Hq⟩, Ho, Hp6, ⟨%f25, H25⟩, Hq24, Hp7, ⟨%f26, H26⟩, Hq25, HW, Hk⟩
  sl_exec
  sl_step
  iapply Hk
  isplitl [H2]
  · iexists f2; isplitr
    · ipureintro; exact e2
    · iexact H2
  isplitl [H3]
  · iexists f3; isplitr
    · ipureintro; exact e3
    · iexact H3
  isplitl [H8]
  · iexists f8; isplitr
    · ipureintro; exact e8
    · iexact H8
  isplitl [H9]
  · iexists f9; isplitr
    · ipureintro; exact e9
    · iexact H9
  isplitl [H10]
  · iexists f10; isplitr
    · ipureintro; exact e10
    · iexact H10
  isplitl [H11]
  · iexists f11; isplitr
    · ipureintro; exact e11
    · iexact H11
  isplitl [H20]
  · iexists f20; isplitr
    · ipureintro; exact e20
    · iexact H20
  isplitl [Hq_dst]
  · unfold HeldAs; iexists g'; isplitr
    · ipureintro; exact e'
    · iexact Hq_dst
  isplitl [Hq24]
  · unfold FlyIn; iexists _; isplitr
    swap
    · iexact Hq24
    · ipureintro; exact View.read_writes_whole _ _ _
  isplitl [Hq25]
  · unfold FlyIn; iexists _; isplitr
    swap
    · iexact Hq25
    · ipureintro; exact View.read_writes_whole _ _ _
  isplitl [Hq]
  · ihave Hq := (Fly_back c (winB arg21 i h1 h4) arg23 _ _ _ _) $$ Hq
    iexists _; iexists _; isplitr
    swap
    · iexact Hq
    · ipureintro
      refine (View.read_writes_whole _ _ _).trans ?_
      subst e2 e3 e8 e9 e10 e11 e20
      sl_unfold_words
      funext y
      refine (tile_read _ _ _ _ _).trans ?_
      simp only [View.readAt_eq_ld, ld3, ld2]
      rfl
  iexists _; iexact HW

end Cert.KernelIdeal.Hand
end
-- ==== Proof.StepB0.lean ====
module

public import proofs.«01_k».proof.Proof.Sides
public import proofs.«01_k».proof.Proof.RunB

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ)

set_option maxHeartbeats 4000000 in
/-- The step at the second tile of the first image. -/
theorem stepB0 (c : Dev nD) (b : Fin 16) (h0 : b.val = 0) :
    bodyPre m c (pt b 1) ⊢ wp frame (wpE (defs₀ (F := F)) Variants.none c none) Set.univ (bodyAt0 (pt b 1)) (fun _ => bodyPost m c (pt b 1)) := by
  have hlt : b.val < 16 := b.isLt
  have h1 : k0_cond1 (grid0.coords (pt b 1)) = 1#1 := (cond1_iff (pt b 1)).mpr (by show (3 * b.val + 1) % 3 < 2; omega)
  have h2 : ¬ k0_cond2 (grid0.coords (pt b 1)) = 1#1 := fun h => by have := (cond2_iff (pt b 1)).mp h; change (3 * b.val + 1) % 3 = 0 at this; omega
  have h4 : k0_cond4 (grid0.coords (pt b 1)) = 1#1 := (cond4_iff (pt b 1)).mpr (by show (3 * b.val + 1) % 3 = 1; omega)
  have h5 : ¬ k0_cond5 (grid0.coords (pt b 1)) = 1#1 := fun h => by have := (cond5_iff (pt b 1)).mp h; change 3 ≤ 3 * b.val + 1 at this; omega
  have h6 : ¬ k0_cond6 (grid0.coords (pt b 1)) = 1#1 := fun h => by have := (cond6_iff (pt b 1)).mp h; change (3 * b.val + 1) % 3 = 2 at this; omega
  have hq : (pt b 1).val / 3 = b.val := by show (3 * b.val + 1) / 3 = b.val; omega
  have hj : (⟨3 * b.val + 1, by omega⟩ : Fin 48).val = 3 * b.val + 1 := rfl
  unfold bodyPre bodyPost bodyAt0
  rw [after_0]
  rw [after_1]
  rw [after_2]
  rw [after_3]
  rw [after_4]
  rw [after_5]
  rw [after_6]
  rw [after_7]
  rw [after_8]
  rw [after_9]
  rw [after_10]
  rw [after_11]
  rw [after_12]
  rw [after_13]
  rw [after_14]
  rw [after_15]
  rw [after_16]
  unfold Dat.owesAt Pipeline.owesWithin
  rw [show (dats m 0 c).Φ (pt b 1).castSucc = Inv m c (3 * b.val + 1) from rfl, show (dats m 0 c).Φ (pt b 1).succ = Inv m c (3 * b.val + 1 + 1) from rfl,
    show (dats m 0 c).owed (pt b 1).castSucc = 0 from rfl, show (dats m 0 c).owed (pt b 1).succ = 0 from rfl]
  unfold Inv
  rw [OutP_lt m c (3 * b.val + 1) (by omega), Out_take (V37 m c) (G37 m c) c ⟨3 * b.val + 1, by omega⟩]
  rw [Slot1_idle m c (3 * b.val + 1) (by omega)]
  rw [In_idle m c (3 * b.val + 1) (by omega)]
  rw [OutP_lt m c (3 * b.val + 1 + 1) (by omega), Slot1_fly m c (3 * b.val + 1 + 1) b (by omega) (by omega), Slot0_keep m c (3 * b.val + 1) (by omega) (by omega), Slot2_keep m c (3 * b.val + 1) (by omega) (by omega), In_fly m c (3 * b.val + 1 + 1) b (by omega) (by omega)]
  simp only [before_0 m (dats m 0 c) (A_eq m c _) (after_0 m c)]
  simp only [before_1 m (dats m 0 c) (A_eq m c _) (after_1 m c)]
  simp only [before_2 m (dats m 0 c) (A_eq m c _) (after_2 m c)]
  simp only [before_3 m (dats m 0 c) (A_eq m c _) (after_3 m c)]
  simp only [before_4 m (dats m 0 c) (A_eq m c _) (after_4 m c)]
  simp only [before_5 m (dats m 0 c) (A_eq m c _) (after_5 m c)]
  simp only [before_6 m (dats m 0 c) (A_eq m c _) (after_6 m c)]
  simp only [before_7 m (dats m 0 c) (A_eq m c _) (after_7 m c)]
  simp only [before_8 m (dats m 0 c) (A_eq m c _) (after_8 m c)]
  simp only [before_9 m (dats m 0 c) (A_eq m c _) (after_9 m c)]
  simp only [before_10 m (dats m 0 c) (A_eq m c _) (after_10 m c)]
  simp only [before_11 m (dats m 0 c) (A_eq m c _) (after_11 m c)]
  simp only [before_12 m (dats m 0 c) (A_eq m c _) (after_12 m c)]
  simp only [before_13 m (dats m 0 c) (A_eq m c _) (after_13 m c)]
  simp only [before_14 m (dats m 0 c) (A_eq m c _) (after_14 m c)]
  simp only [before_15 m (dats m 0 c) (A_eq m c _) (after_15 m c)]
  simp only [before_16 m (dats m 0 c) (A_eq m c _) (after_16 m c)]
  iintro ⟨⟨⟨HB, HM⟩, H0, ⟨HS, HQ⟩, H2, HI6, HI3, HIq, HI7, HI4, HIr⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, ⟨%d15, W15⟩, ⟨%d16, W16⟩⟩
  ihave HB := (blkB_in c b _ hj (pt b 1) hq h1 h4 (V37 m c)) $$ HB
  ihave ⟨HI6, HR6⟩ := (map6_split m c b).1 $$ HI6
  ihave ⟨HI7, HR7⟩ := (map7_split m c b).1 $$ HI7
  ihave HI6 := (src_in c a6 b (pt b 1) hq h1 h4 (V m c main_call0_v8)) $$ HI6
  ihave HI7 := (src_in c a7 b (pt b 1) hq h1 h4 (V m c main_call0_v9)) $$ HI7
  iapply (runB0 c (grid0.coords (pt b 1)) _ _ _ _ _ _ _ _ a6 _ a7 _ _ _ _ _ _ _ _ _ _ _ _ _ _ _ _ _ _ _ _ _ _ _ _ _ _ _ _ _ _ _ _ _ _ _ _ _ _ _ h1 h2 h4 h5 h6 _ _ _ _ _ _ _ (V37 m c) (V m c main_call0_v8) (V m c main_call0_v9) W _)
  isplitl [W0]
  · iexact W0
  isplitl [W1]
  · iexact W1
  isplitl [W4]
  · iexact W4
  isplitl [W5]
  · iexact W5
  isplitl [W6]
  · iexact W6
  isplitl [W7]
  · iexact W7
  isplitl [W16]
  · iexact W16
  isplitl [HS]
  · iexact HS
  isplitl [HQ]
  · iexact HQ
  isplitl [HB]
  · iexact HB
  isplitl [HI6]
  · iexact HI6
  isplitl [HI3]
  · iexact HI3
  isplitl [HIq]
  · iexact HIq
  isplitl [HI7]
  · iexact HI7
  isplitl [HI4]
  · iexact HI4
  isplitl [HIr]
  · iexact HIr
  isplitl [HW]
  · iexact HW
  iintro ⟨W0, W1, W4, W5, W6, W7, W16, HI6, HI7, HF, ⟨%W', HW⟩⟩
  ihave HF := (flyB_out c b (pt b 1) hq h1 h4 sc1 22 59600 _) $$ HF
  ihave HI6 := (flyIn_out c a6 b (pt b 1) hq h1 h4 sc3 24 12800 (V m c main_call0_v8)) $$ HI6
  ihave HI7 := (flyIn_out c a7 b (pt b 1) hq h1 h4 sc4 25 12800 (V m c main_call0_v9)) $$ HI7
  isplitl [HM H0 HF H2 HI6 HR6 HI7 HR7]
  · isplitl [HM]
    · rw [← Mid_early (V37 m c) (G37 m c) c (3 * b.val + 1) (by omega)]
      iexact HM
    isplitl [H0]
    · iexact H0
    isplitl [HF]
    · unfold TB; iexact HF
    isplitl [H2]
    · iexact H2
    isplitl [HI6]
    · unfold T6; iexact HI6
    isplitl [HR6]
    · iexact HR6
    isplitl [HI7]
    · unfold T7; iexact HI7
    iexact HR7
  isplitl [HW]
  · iexists W'; isplitr
    · ipureintro; exact fun _ _ => Or.inl trivial
    · iexact HW
  isplitl [W0]
  · iexact W0
  isplitl [W1]
  · iexact W1
  isplitl [W2]
  · iexact W2
  isplitl [W3]
  · iexact W3
  isplitl [W4]
  · iexact W4
  isplitl [W5]
  · iexact W5
  isplitl [W6]
  · iexact W6
  isplitl [W7]
  · iexact W7
  isplitl [W8]
  · iexact W8
  isplitl [W9]
  · iexact W9
  isplitl [W10]
  · iexact W10
  isplitl [W11]
  · iexact W11
  isplitl [W12]
  · iexact W12
  isplitl [W13]
  · iexact W13
  isplitl [W14]
  · iexact W14
  isplitl [W15]
  · iexact W15
  iexact W16

end Cert.KernelIdeal.Hand
end
-- ==== Proof.StepB1.lean ====
module

public import proofs.«01_k».proof.Proof.Sides
public import proofs.«01_k».proof.Proof.RunB

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ)

set_option maxHeartbeats 4000000 in
/-- The step at the second tile of a later image. -/
theorem stepB1 (c : Dev nD) (b : Fin 16) (h0 : b.val ≠ 0) :
    bodyPre m c (pt b 1) ⊢ wp frame (wpE (defs₀ (F := F)) Variants.none c none) Set.univ (bodyAt0 (pt b 1)) (fun _ => bodyPost m c (pt b 1)) := by
  have hlt : b.val < 16 := b.isLt
  have h1 : k0_cond1 (grid0.coords (pt b 1)) = 1#1 := (cond1_iff (pt b 1)).mpr (by show (3 * b.val + 1) % 3 < 2; omega)
  have h2 : ¬ k0_cond2 (grid0.coords (pt b 1)) = 1#1 := fun h => by have := (cond2_iff (pt b 1)).mp h; change (3 * b.val + 1) % 3 = 0 at this; omega
  have h4 : k0_cond4 (grid0.coords (pt b 1)) = 1#1 := (cond4_iff (pt b 1)).mpr (by show (3 * b.val + 1) % 3 = 1; omega)
  have h5 : k0_cond5 (grid0.coords (pt b 1)) = 1#1 := (cond5_iff (pt b 1)).mpr (by show 3 ≤ 3 * b.val + 1; omega)
  have h6 : ¬ k0_cond6 (grid0.coords (pt b 1)) = 1#1 := fun h => by have := (cond6_iff (pt b 1)).mp h; change (3 * b.val + 1) % 3 = 2 at this; omega
  have hq : (pt b 1).val / 3 = b.val := by show (3 * b.val + 1) / 3 = b.val; omega
  have hj : (⟨3 * b.val + 1, by omega⟩ : Fin 48).val = 3 * b.val + 1 := rfl
  have hb' : b.val - 1 < 16 := by omega
  have hj' : (⟨3 * (b.val - 1) + 1, by omega⟩ : Fin 48).val = 3 * (⟨b.val - 1, hb'⟩ : Fin 16).val + 1 := rfl
  unfold bodyPre bodyPost bodyAt0
  rw [after_0]
  rw [after_1]
  rw [after_2]
  rw [after_3]
  rw [after_4]
  rw [after_5]
  rw [after_6]
  rw [after_7]
  rw [after_8]
  rw [after_9]
  rw [after_10]
  rw [after_11]
  rw [after_12]
  rw [after_13]
  rw [after_14]
  rw [after_15]
  rw [after_16]
  unfold Dat.owesAt Pipeline.owesWithin
  rw [show (dats m 0 c).Φ (pt b 1).castSucc = Inv m c (3 * b.val + 1) from rfl, show (dats m 0 c).Φ (pt b 1).succ = Inv m c (3 * b.val + 1 + 1) from rfl,
    show (dats m 0 c).owed (pt b 1).castSucc = 0 from rfl, show (dats m 0 c).owed (pt b 1).succ = 0 from rfl]
  unfold Inv
  rw [OutP_lt m c (3 * b.val + 1) (by omega), Out_take (V37 m c) (G37 m c) c ⟨3 * b.val + 1, by omega⟩]
  rw [Slot1_fly m c (3 * b.val + 1) ⟨b.val - 1, hb'⟩ (by omega) (by show (3 * b.val + 1 - 2) / 3 = b.val - 1; omega)]
  rw [In_idle m c (3 * b.val + 1) (by omega)]
  rw [OutP_lt m c (3 * b.val + 1 + 1) (by omega), Slot1_fly m c (3 * b.val + 1 + 1) b (by omega) (by omega), Slot0_keep m c (3 * b.val + 1) (by omega) (by omega), Slot2_keep m c (3 * b.val + 1) (by omega) (by omega), In_fly m c (3 * b.val + 1 + 1) b (by omega) (by omega)]
  simp only [before_0 m (dats m 0 c) (A_eq m c _) (after_0 m c)]
  simp only [before_1 m (dats m 0 c) (A_eq m c _) (after_1 m c)]
  simp only [before_2 m (dats m 0 c) (A_eq m c _) (after_2 m c)]
  simp only [before_3 m (dats m 0 c) (A_eq m c _) (after_3 m c)]
  simp only [before_4 m (dats m 0 c) (A_eq m c _) (after_4 m c)]
  simp only [before_5 m (dats m 0 c) (A_eq m c _) (after_5 m c)]
  simp only [before_6 m (dats m 0 c) (A_eq m c _) (after_6 m c)]
  simp only [before_7 m (dats m 0 c) (A_eq m c _) (after_7 m c)]
  simp only [before_8 m (dats m 0 c) (A_eq m c _) (after_8 m c)]
  simp only [before_9 m (dats m 0 c) (A_eq m c _) (after_9 m c)]
  simp only [before_10 m (dats m 0 c) (A_eq m c _) (after_10 m c)]
  simp only [before_11 m (dats m 0 c) (A_eq m c _) (after_11 m c)]
  simp only [before_12 m (dats m 0 c) (A_eq m c _) (after_12 m c)]
  simp only [before_13 m (dats m 0 c) (A_eq m c _) (after_13 m c)]
  simp only [before_14 m (dats m 0 c) (A_eq m c _) (after_14 m c)]
  simp only [before_15 m (dats m 0 c) (A_eq m c _) (after_15 m c)]
  simp only [before_16 m (dats m 0 c) (A_eq m c _) (after_16 m c)]
  iintro ⟨⟨⟨HB, HM⟩, H0, HF, H2, HI6, HI3, HIq, HI7, HI4, HIr⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, ⟨%d15, W15⟩, ⟨%d16, W16⟩⟩
  ihave HB := (blkB_in c b _ hj (pt b 1) hq h1 h4 (V37 m c)) $$ HB
  ihave ⟨HI6, HR6⟩ := (map6_split m c b).1 $$ HI6
  ihave ⟨HI7, HR7⟩ := (map7_split m c b).1 $$ HI7
  ihave HI6 := (src_in c a6 b (pt b 1) hq h1 h4 (V m c main_call0_v8)) $$ HI6
  ihave HI7 := (src_in c a7 b (pt b 1) hq h1 h4 (V m c main_call0_v9)) $$ HI7
  iapply (runB1 c (grid0.coords (pt b 1)) _ _ _ _ _ _ _ _ a6 _ a7 _ _ _ _ _ _ _ _ _ _ _ _ _ _ _ _ _ _ _ _ _ _ _ _ _ _ _ _ _ _ _ _ _ _ _ _ _ _ _ h1 h2 h4 h5 h6 _ _ _ _ _ _ _ (V37 m c) (wB ⟨b.val - 1, hb'⟩) (TB m c ⟨b.val - 1, hb'⟩) (V m c main_call0_v8) (V m c main_call0_v9) W _)
  isplitl [W0]
  · iexact W0
  isplitl [W1]
  · iexact W1
  isplitl [W4]
  · iexact W4
  isplitl [W5]
  · iexact W5
  isplitl [W6]
  · iexact W6
  isplitl [W7]
  · iexact W7
  isplitl [W16]
  · iexact W16
  isplitl [HF]
  · iexact HF
  isplitl [HB]
  · iexact HB
  isplitl [HI6]
  · iexact HI6
  isplitl [HI3]
  · iexact HI3
  isplitl [HIq]
  · iexact HIq
  isplitl [HI7]
  · iexact HI7
  isplitl [HI4]
  · iexact HI4
  isplitl [HIr]
  · iexact HIr
  isplitl [HW]
  · iexact HW
  iintro ⟨W0, W1, W4, W5, W6, W7, W16, HP, HI6, HI7, HF, ⟨%W', HW⟩⟩
  ihave HF := (flyB_out c b (pt b 1) hq h1 h4 sc1 22 59600 _) $$ HF
  ihave HI6 := (flyIn_out c a6 b (pt b 1) hq h1 h4 sc3 24 12800 (V m c main_call0_v8)) $$ HI6
  ihave HI7 := (flyIn_out c a7 b (pt b 1) hq h1 h4 sc4 25 12800 (V m c main_call0_v9)) $$ HI7
  ihave HP := (heldB m c ⟨b.val - 1, hb'⟩ _ hj') $$ HP
  isplitl [HP HM H0 HF H2 HI6 HR6 HI7 HR7]
  · isplitl [HP HM]
    · rw [show 3 * b.val + 1 + 1 = 3 * (b.val - 1) + 1 + 3 + 1 from by omega, ← Mid_put (V37 m c) (G37 m c) c ⟨3 * (b.val - 1) + 1, by omega⟩]
      isplitl [HP]
      · iexact HP
      rw [show 3 * (b.val - 1) + 1 + 3 = 3 * b.val + 1 from by omega]
      iexact HM
    isplitl [H0]
    · iexact H0
    isplitl [HF]
    · unfold TB; iexact HF
    isplitl [H2]
    · iexact H2
    isplitl [HI6]
    · unfold T6; iexact HI6
    isplitl [HR6]
    · iexact HR6
    isplitl [HI7]
    · unfold T7; iexact HI7
    iexact HR7
  isplitl [HW]
  · iexists W'; isplitr
    · ipureintro; exact fun _ _ => Or.inl trivial
    · iexact HW
  isplitl [W0]
  · iexact W0
  isplitl [W1]
  · iexact W1
  isplitl [W2]
  · iexact W2
  isplitl [W3]
  · iexact W3
  isplitl [W4]
  · iexact W4
  isplitl [W5]
  · iexact W5
  isplitl [W6]
  · iexact W6
  isplitl [W7]
  · iexact W7
  isplitl [W8]
  · iexact W8
  isplitl [W9]
  · iexact W9
  isplitl [W10]
  · iexact W10
  isplitl [W11]
  · iexact W11
  isplitl [W12]
  · iexact W12
  isplitl [W13]
  · iexact W13
  isplitl [W14]
  · iexact W14
  isplitl [W15]
  · iexact W15
  iexact W16

end Cert.KernelIdeal.Hand
end
-- ==== Proof.RunC.lean ====
module

public import proofs.«01_k».proof.Proof.Tiles

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (c : Dev nD) (i : grid0.Coords)
variable (arg2 : Memref sig .tc .vmem S1x3200x256 .f32) (harg2 : arg2.IsWhole)
variable (arg3 : Memref sig .tc .vmem S1x3200x256 .f32) (harg3 : arg3.IsWhole)
variable (arg4 : Memref sig .tc .vmem S1x1600x256 .f32) (harg4 : arg4.IsWhole)
variable (arg5 : Memref sig .tc .vmem S1x1600x256 .f32) (harg5 : arg5.IsWhole)
variable (arg6 : Memref sig .tc .hbm S20x20x16x256 .f32) (harg6 : arg6.IsWhole)
variable (arg7 : Memref sig .tc .hbm S20x20x16x256 .f32) (harg7 : arg7.IsWhole)
variable (arg8 : Memref sig .tc .vmem S152x256 .f32) (harg8 : arg8.IsWhole)
variable (arg9 : Memref sig .tc .vmem S152x256 .f32) (harg9 : arg9.IsWhole)
variable (arg10 : Memref sig .tc .vmem S64x256 .f32) (harg10 : arg10.IsWhole)
variable (arg11 : Memref sig .tc .vmem S152x1 .f32) (harg11 : arg11.IsWhole)
variable (arg12 : Memref sig .tc .vmem S152x256 .f32) (harg12 : arg12.IsWhole)
variable (arg13 : Memref sig .tc .vmem S152x256 .f32) (harg13 : arg13.IsWhole)
variable (arg14 : Memref sig .tc .vmem S64x256 .f32) (harg14 : arg14.IsWhole)
variable (arg15 : Memref sig .tc .vmem S152x1 .f32) (harg15 : arg15.IsWhole)
variable (arg16 : Memref sig .tc .vmem S152x256 .f32) (harg16 : arg16.IsWhole)
variable (arg17 : Memref sig .tc .vmem S152x256 .f32) (harg17 : arg17.IsWhole)
variable (arg18 : Memref sig .tc .vmem S64x256 .f32) (harg18 : arg18.IsWhole)
variable (arg19 : Memref sig .tc .vmem S152x1 .f32) (harg19 : arg19.IsWhole)
variable (arg20 : Memref sig .tc .vmem S8x64 .f32) (harg20 : arg20.IsWhole)
variable (arg21 : Memref sig .tc .hbm S149x16x8400 .f32) (harg21 : arg21.IsWhole)
variable (arg22 : Memref sig .tc .vmem S1x149x3200 .f32) (harg22 : arg22.IsWhole)
variable (arg23 : Memref sig .tc .vmem S1x149x3200 .f32) (harg23 : arg23.IsWhole)
variable (arg24 : Memref sig .tc .vmem S149x2000 .f32) (harg24 : arg24.IsWhole)
variable (arg25 : Memref sig .tc .vmem S20x20x256 .f32) (harg25 : arg25.IsWhole)
variable (arg26 : Memref sig .tc .vmem S20x20x256 .f32) (harg26 : arg26.IsWhole)

/-- The body at the coarser tile of the first image. -/
theorem runC0 (h1 : ¬ k0_cond1 i = 1#1) (h6 : k0_cond6 i = 1#1)
    (h7 : ¬ k0_cond7 i = 1#1) (h8 : ¬ k0_cond8 i = 1#1)
    (x4 : Vec F S1x1600x256 .f32) (x5 : Vec F S1x1600x256 .f32) (x12 : Vec F S152x256 .f32) (x13 : Vec F S152x256 .f32) (x14 : Vec F S64x256 .f32) (x15 : Vec F S152x1 .f32) (x16 : Vec F S152x256 .f32) (x17 : Vec F S152x256 .f32) (x18 : Vec F S64x256 .f32) (x19 : Vec F S152x1 .f32) (x20 : Vec F S8x64 .f32)
    (fo : Buf (Elt F) ((winC arg21 i h6).view.loc (c : Thread nD τ)))
    (p6 : Memref sig .tc .hbm S20x20x256 .f32) (V6 : Buf (Elt F) (p6.view.loc (c : Thread nD τ))) (T6 : Vec F S20x20x256 .f32)
    (p7 : Memref sig .tc .hbm S20x20x256 .f32) (V7 : Buf (Elt F) (p7.view.loc (c : Thread nD τ))) (T7 : Vec F S20x20x256 .f32) (W : Waits sig Unit) (K : PUnit → sProp 𝕄) :
    iprop(owns (c : Thread nD τ) arg4 fullShare x4
        ∗ owns (c : Thread nD τ) arg5 fullShare x5
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ FlyIn c p6 arg25 24 12800 V6 T6
        ∗ FlyIn c p7 arg26 25 12800 V7 T7
        ∗ Held c arg24
        ∗ semVal ((c : Thread nD τ), SemLoc.dma 23) 0
        ∗ ((winC arg21 i h6).view.loc (c : Thread nD τ) ↦[(winC arg21 i h6).view.set]{fullShare} fo)
        ∗ owes (c : Thread nD τ) 0 W ∗ ((owns (c : Thread nD τ) arg4 fullShare x4
        ∗ owns (c : Thread nD τ) arg5 fullShare x5
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ (p6.view.loc (c : Thread nD τ) ↦[p6.view.set]{fullShare} V6)
        ∗ Held c arg25
        ∗ semVal ((c : Thread nD τ), SemLoc.dma 24) 0
        ∗ (p7.view.loc (c : Thread nD τ) ↦[p7.view.set]{fullShare} V7)
        ∗ Held c arg26
        ∗ semVal ((c : Thread nD τ), SemLoc.dma 25) 0
        ∗ Fly c (winC arg21 i h6) arg24 23 38144 (tileC x4 x5 x12 x13 x14 x15 x16 x17 x18 x19 x20 T6 T7)
          ∗ (∃ W', owes (c : Thread nD τ) 0 W')) -∗ K ⟨⟩))
      ⊢ wp frame (wpE (defs₀ (F := F)) Variants.none c none) Set.univ
          (cc0_multi_level_pred i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch5 cc0_scratch6) K := by
  rw [cc0_multi_level_pred_eq_skeleton]
  unfold cc0_multi_level_pred_skel
  simp -zeta -proj only [k0_part3_eq_skeleton, k0_part4_eq_skeleton, k0_part5_eq_skeleton, k0_part6_eq_skeleton, k0_part7_eq_skeleton, k0_part8_eq_skeleton]
  unfold owns FlyIn Held Fly
  iintro ⟨⟨%f4, %e4, H4⟩, ⟨%f5, %e5, H5⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f25, %e25, Hq24⟩, ⟨%f26, %e26, Hq25⟩, ⟨%fs, HS⟩, Hq, Ho, HW, Hk⟩
  sl_exec
  sl_step
  iapply Hk
  isplitl [H4]
  · iexists f4; isplitr
    · ipureintro; exact e4
    · iexact H4
  isplitl [H5]
  · iexists f5; isplitr
    · ipureintro; exact e5
    · iexact H5
  isplitl [H12]
  · iexists f12; isplitr
    · ipureintro; exact e12
    · iexact H12
  isplitl [H13]
  · iexists f13; isplitr
    · ipureintro; exact e13
    · iexact H13
  isplitl [H14]
  · iexists f14; isplitr
    · ipureintro; exact e14
    · iexact H14
  isplitl [H15]
  · iexists f15; isplitr
    · ipureintro; exact e15
    · iexact H15
  isplitl [H16]
  · iexists f16; isplitr
    · ipureintro; exact e16
    · iexact H16
  isplitl [H17]
  · iexists f17; isplitr
    · ipureintro; exact e17
    · iexact H17
  isplitl [H18]
  · iexists f18; isplitr
    · ipureintro; exact e18
    · iexact H18
  isplitl [H19]
  · iexists f19; isplitr
    · ipureintro; exact e19
    · iexact H19
  isplitl [H20]
  · iexists f20; isplitr
    · ipureintro; exact e20
    · iexact H20
  isplitl [Hq24_src]
  · iexact Hq24_src
  isplitl [Hq24_dst]
  · iexists _; iexact Hq24_dst
  isplitl [Hq24]
  · iexact Hq24
  isplitl [Hq25_src]
  · iexact Hq25_src
  isplitl [Hq25_dst]
  · iexists _; iexact Hq25_dst
  isplitl [Hq25]
  · iexact Hq25
  isplitl [Hq]
  · iexists _; iexists _; isplitr
    swap
    · iexact Hq
    · ipureintro
      refine (View.read_writes_whole _ _ _).trans ?_
      subst e4 e5 e12 e13 e14 e15 e16 e17 e18 e19 e20 e25 e26
      sl_unfold_words
      funext y
      refine (quad_read _ _ _ _ _ _ _).trans ?_
      simp only [View.readAt_eq_ld, ld3, ld2]
      rfl
  iexists _; iexact HW

end Cert.KernelIdeal.Hand
end
-- ==== Proof.StepC0.lean ====
module

public import proofs.«01_k».proof.Proof.Sides
public import proofs.«01_k».proof.Proof.RunC

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ)

set_option maxHeartbeats 4000000 in
/-- The step at the coarser tile of the first image. -/
theorem stepC0 (c : Dev nD) (b : Fin 16) (h0 : b.val = 0) :
    bodyPre m c (pt b 2) ⊢ wp frame (wpE (defs₀ (F := F)) Variants.none c none) Set.univ (bodyAt0 (pt b 2)) (fun _ => bodyPost m c (pt b 2)) := by
  have hlt : b.val < 16 := b.isLt
  have h1 : ¬ k0_cond1 (grid0.coords (pt b 2)) = 1#1 := fun h => by have := (cond1_iff (pt b 2)).mp h; change (3 * b.val + 2) % 3 < 2 at this; omega
  have h6 : k0_cond6 (grid0.coords (pt b 2)) = 1#1 := (cond6_iff (pt b 2)).mpr (by show (3 * b.val + 2) % 3 = 2; omega)
  have h7 : ¬ k0_cond7 (grid0.coords (pt b 2)) = 1#1 := fun h => by have := (cond7_iff (pt b 2)).mp h; change 3 ≤ 3 * b.val + 2 at this; omega
  have h8 : ¬ k0_cond8 (grid0.coords (pt b 2)) = 1#1 := fun h => by have := (cond8_iff (pt b 2)).mp h; change 45 ≤ 3 * b.val + 2 at this; omega
  have hq : (pt b 2).val / 3 = b.val := by show (3 * b.val + 2) / 3 = b.val; omega
  have hj : (⟨3 * b.val + 2, by omega⟩ : Fin 48).val = 3 * b.val + 2 := rfl
  unfold bodyPre bodyPost bodyAt0
  rw [after_0]
  rw [after_1]
  rw [after_2]
  rw [after_3]
  rw [after_4]
  rw [after_5]
  rw [after_6]
  rw [after_7]
  rw [after_8]
  rw [after_9]
  rw [after_10]
  rw [after_11]
  rw [after_12]
  rw [after_13]
  rw [after_14]
  rw [after_15]
  rw [after_16]
  unfold Dat.owesAt Pipeline.owesWithin
  rw [show (dats m 0 c).Φ (pt b 2).castSucc = Inv m c (3 * b.val + 2) from rfl, show (dats m 0 c).Φ (pt b 2).succ = Inv m c (3 * b.val + 2 + 1) from rfl,
    show (dats m 0 c).owed (pt b 2).castSucc = 0 from rfl, show (dats m 0 c).owed (pt b 2).succ = 0 from rfl]
  unfold Inv
  rw [OutP_lt m c (3 * b.val + 2) (by omega), Out_take (V37 m c) (G37 m c) c ⟨3 * b.val + 2, by omega⟩]
  rw [Slot2_idle m c (3 * b.val + 2) (by omega)]
  rw [In_fly m c (3 * b.val + 2) b (by omega) (by omega)]
  rw [OutP_lt m c (3 * b.val + 2 + 1) (by omega), Slot2_fly m c (3 * b.val + 2 + 1) b (by omega) (by omega), Slot0_keep m c (3 * b.val + 2) (by omega) (by omega), Slot1_keep m c (3 * b.val + 2) (by omega) (by omega), In_idle m c (3 * b.val + 2 + 1) (by omega)]
  simp only [before_0 m (dats m 0 c) (A_eq m c _) (after_0 m c)]
  simp only [before_1 m (dats m 0 c) (A_eq m c _) (after_1 m c)]
  simp only [before_2 m (dats m 0 c) (A_eq m c _) (after_2 m c)]
  simp only [before_3 m (dats m 0 c) (A_eq m c _) (after_3 m c)]
  simp only [before_4 m (dats m 0 c) (A_eq m c _) (after_4 m c)]
  simp only [before_5 m (dats m 0 c) (A_eq m c _) (after_5 m c)]
  simp only [before_6 m (dats m 0 c) (A_eq m c _) (after_6 m c)]
  simp only [before_7 m (dats m 0 c) (A_eq m c _) (after_7 m c)]
  simp only [before_8 m (dats m 0 c) (A_eq m c _) (after_8 m c)]
  simp only [before_9 m (dats m 0 c) (A_eq m c _) (after_9 m c)]
  simp only [before_10 m (dats m 0 c) (A_eq m c _) (after_10 m c)]
  simp only [before_11 m (dats m 0 c) (A_eq m c _) (after_11 m c)]
  simp only [before_12 m (dats m 0 c) (A_eq m c _) (after_12 m c)]
  simp only [before_13 m (dats m 0 c) (A_eq m c _) (after_13 m c)]
  simp only [before_14 m (dats m 0 c) (A_eq m c _) (after_14 m c)]
  simp only [before_15 m (dats m 0 c) (A_eq m c _) (after_15 m c)]
  simp only [before_16 m (dats m 0 c) (A_eq m c _) (after_16 m c)]
  iintro ⟨⟨⟨HB, HM⟩, H0, H1, ⟨HS, HQ⟩, HI6, HR6, HI7, HR7⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, ⟨%d15, W15⟩, ⟨%d16, W16⟩⟩
  ihave HB := (blkC_in c b _ hj (pt b 2) hq h6 (V37 m c)) $$ HB
  iapply (runC0 c (grid0.coords (pt b 2)) _ _ _ _ _ _ _ _ _ _ _ _ _ _ _ _ _ _ _ _ _ _ _ _ _ _ _ _ _ _ _ _ _ _ _ _ _ _ _ _ _ _ _ _ _ _ _ _ _ _ h1 h6 h7 h8 _ _ _ _ _ _ _ _ _ _ _ (V37 m c) (wS a6 b) (V m c main_call0_v8) (T6 m c b) (wS a7 b) (V m c main_call0_v9) (T7 m c b) W _)
  isplitl [W2]
  · iexact W2
  isplitl [W3]
  · iexact W3
  isplitl [W8]
  · iexact W8
  isplitl [W9]
  · iexact W9
  isplitl [W10]
  · iexact W10
  isplitl [W11]
  · iexact W11
  isplitl [W12]
  · iexact W12
  isplitl [W13]
  · iexact W13
  isplitl [W14]
  · iexact W14
  isplitl [W15]
  · iexact W15
  isplitl [W16]
  · iexact W16
  isplitl [HI6]
  · iexact HI6
  isplitl [HI7]
  · iexact HI7
  isplitl [HS]
  · iexact HS
  isplitl [HQ]
  · iexact HQ
  isplitl [HB]
  · iexact HB
  isplitl [HW]
  · iexact HW
  iintro ⟨W2, W3, W8, W9, W10, W11, W12, W13, W14, W15, W16, HI6, HI3, HIq, HI7, HI4, HIr, HF, ⟨%W', HW⟩⟩
  ihave HI6 := (map6_split m c b).2 $$ [HI6 HR6]
  · isplitl [HI6]
    · iexact HI6
    · iexact HR6
  ihave HI7 := (map7_split m c b).2 $$ [HI7 HR7]
  · isplitl [HI7]
    · iexact HI7
    · iexact HR7
  ihave HF := (flyC_out c b (pt b 2) hq h6 sc2 23 38144 _) $$ HF
  isplitl [HM H0 H1 HF HI6 HI3 HIq HI7 HI4 HIr]
  · isplitl [HM]
    · rw [← Mid_early (V37 m c) (G37 m c) c (3 * b.val + 2) (by omega)]
      iexact HM
    isplitl [H0]
    · iexact H0
    isplitl [H1]
    · iexact H1
    isplitl [HF]
    · unfold TC; iexact HF
    isplitl [HI6]
    · iexact HI6
    isplitl [HI3]
    · iexact HI3
    isplitl [HIq]
    · iexact HIq
    isplitl [HI7]
    · iexact HI7
    isplitl [HI4]
    · iexact HI4
    iexact HIr
  isplitl [HW]
  · iexists W'; isplitr
    · ipureintro; exact fun _ _ => Or.inl trivial
    · iexact HW
  isplitl [W0]
  · iexact W0
  isplitl [W1]
  · iexact W1
  isplitl [W2]
  · iexact W2
  isplitl [W3]
  · iexact W3
  isplitl [W4]
  · iexact W4
  isplitl [W5]
  · iexact W5
  isplitl [W6]
  · iexact W6
  isplitl [W7]
  · iexact W7
  isplitl [W8]
  · iexact W8
  isplitl [W9]
  · iexact W9
  isplitl [W10]
  · iexact W10
  isplitl [W11]
  · iexact W11
  isplitl [W12]
  · iexact W12
  isplitl [W13]
  · iexact W13
  isplitl [W14]
  · iexact W14
  isplitl [W15]
  · iexact W15
  iexact W16

end Cert.KernelIdeal.Hand
end
-- ==== Proof.RunD.lean ====
module

public import proofs.«01_k».proof.Proof.Tiles

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (c : Dev nD) (i : grid0.Coords)
variable (arg2 : Memref sig .tc .vmem S1x3200x256 .f32) (harg2 : arg2.IsWhole)
variable (arg3 : Memref sig .tc .vmem S1x3200x256 .f32) (harg3 : arg3.IsWhole)
variable (arg4 : Memref sig .tc .vmem S1x1600x256 .f32) (harg4 : arg4.IsWhole)
variable (arg5 : Memref sig .tc .vmem S1x1600x256 .f32) (harg5 : arg5.IsWhole)
variable (arg6 : Memref sig .tc .hbm S20x20x16x256 .f32) (harg6 : arg6.IsWhole)
variable (arg7 : Memref sig .tc .hbm S20x20x16x256 .f32) (harg7 : arg7.IsWhole)
variable (arg8 : Memref sig .tc .vmem S152x256 .f32) (harg8 : arg8.IsWhole)
variable (arg9 : Memref sig .tc .vmem S152x256 .f32) (harg9 : arg9.IsWhole)
variable (arg10 : Memref sig .tc .vmem S64x256 .f32) (harg10 : arg10.IsWhole)
variable (arg11 : Memref sig .tc .vmem S152x1 .f32) (harg11 : arg11.IsWhole)
variable (arg12 : Memref sig .tc .vmem S152x256 .f32) (harg12 : arg12.IsWhole)
variable (arg13 : Memref sig .tc .vmem S152x256 .f32) (harg13 : arg13.IsWhole)
variable (arg14 : Memref sig .tc .vmem S64x256 .f32) (harg14 : arg14.IsWhole)
variable (arg15 : Memref sig .tc .vmem S152x1 .f32) (harg15 : arg15.IsWhole)
variable (arg16 : Memref sig .tc .vmem S152x256 .f32) (harg16 : arg16.IsWhole)
variable (arg17 : Memref sig .tc .vmem S152x256 .f32) (harg17 : arg17.IsWhole)
variable (arg18 : Memref sig .tc .vmem S64x256 .f32) (harg18 : arg18.IsWhole)
variable (arg19 : Memref sig .tc .vmem S152x1 .f32) (harg19 : arg19.IsWhole)
variable (arg20 : Memref sig .tc .vmem S8x64 .f32) (harg20 : arg20.IsWhole)
variable (arg21 : Memref sig .tc .hbm S149x16x8400 .f32) (harg21 : arg21.IsWhole)
variable (arg22 : Memref sig .tc .vmem S1x149x3200 .f32) (harg22 : arg22.IsWhole)
variable (arg23 : Memref sig .tc .vmem S1x149x3200 .f32) (harg23 : arg23.IsWhole)
variable (arg24 : Memref sig .tc .vmem S149x2000 .f32) (harg24 : arg24.IsWhole)
variable (arg25 : Memref sig .tc .vmem S20x20x256 .f32) (harg25 : arg25.IsWhole)
variable (arg26 : Memref sig .tc .vmem S20x20x256 .f32) (harg26 : arg26.IsWhole)

/-- The body at the coarser tile of an image in between. -/
theorem runC1 (h1 : ¬ k0_cond1 i = 1#1) (h6 : k0_cond6 i = 1#1)
    (h7 : k0_cond7 i = 1#1) (h8 : ¬ k0_cond8 i = 1#1)
    (x4 : Vec F S1x1600x256 .f32) (x5 : Vec F S1x1600x256 .f32) (x12 : Vec F S152x256 .f32) (x13 : Vec F S152x256 .f32) (x14 : Vec F S64x256 .f32) (x15 : Vec F S152x1 .f32) (x16 : Vec F S152x256 .f32) (x17 : Vec F S152x256 .f32) (x18 : Vec F S64x256 .f32) (x19 : Vec F S152x1 .f32) (x20 : Vec F S8x64 .f32)
    (fo : Buf (Elt F) ((winC arg21 i h6).view.loc (c : Thread nD τ)))
    (p6 : Memref sig .tc .hbm S20x20x256 .f32) (V6 : Buf (Elt F) (p6.view.loc (c : Thread nD τ))) (T6 : Vec F S20x20x256 .f32)
    (p7 : Memref sig .tc .hbm S20x20x256 .f32) (V7 : Buf (Elt F) (p7.view.loc (c : Thread nD τ))) (T7 : Vec F S20x20x256 .f32)
    (w' : Memref sig .tc .hbm S149x2000 .f32) (T' : Vec F S149x2000 .f32) (W : Waits sig Unit) (K : PUnit → sProp 𝕄) :
    iprop(owns (c : Thread nD τ) arg4 fullShare x4
        ∗ owns (c : Thread nD τ) arg5 fullShare x5
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ FlyIn c p6 arg25 24 12800 V6 T6
        ∗ FlyIn c p7 arg26 25 12800 V7 T7
        ∗ Fly c w' arg24 23 38144 T'
        ∗ ((winC arg21 i h6).view.loc (c : Thread nD τ) ↦[(winC arg21 i h6).view.set]{fullShare} fo)
        ∗ owes (c : Thread nD τ) 0 W ∗ ((owns (c : Thread nD τ) arg4 fullShare x4
        ∗ owns (c : Thread nD τ) arg5 fullShare x5
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ (p6.view.loc (c : Thread nD τ) ↦[p6.view.set]{fullShare} V6)
        ∗ Held c arg25
        ∗ semVal ((c : Thread nD τ), SemLoc.dma 24) 0
        ∗ (p7.view.loc (c : Thread nD τ) ↦[p7.view.set]{fullShare} V7)
        ∗ Held c arg26
        ∗ semVal ((c : Thread nD τ), SemLoc.dma 25) 0
        ∗ HeldAs c w' T'
        ∗ Fly c (winC arg21 i h6) arg24 23 38144 (tileC x4 x5 x12 x13 x14 x15 x16 x17 x18 x19 x20 T6 T7)
          ∗ (∃ W', owes (c : Thread nD τ) 0 W')) -∗ K ⟨⟩))
      ⊢ wp frame (wpE (defs₀ (F := F)) Variants.none c none) Set.univ
          (cc0_multi_level_pred i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch5 cc0_scratch6) K := by
  rw [cc0_multi_level_pred_eq_skeleton]
  unfold cc0_multi_level_pred_skel
  simp -zeta -proj only [k0_part3_eq_skeleton, k0_part4_eq_skeleton, k0_part5_eq_skeleton, k0_part6_eq_skeleton, k0_part7_eq_skeleton, k0_part8_eq_skeleton]
  unfold owns FlyIn Held Fly
  iintro ⟨⟨%f4, %e4, H4⟩, ⟨%f5, %e5, H5⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f25, %e25, Hq24⟩, ⟨%f26, %e26, Hq25⟩, ⟨%g', %fs, %e', Hq⟩, Ho, HW, Hk⟩
  sl_exec
  sl_step
  iapply Hk
  isplitl [H4]
  · iexists f4; isplitr
    · ipureintro; exact e4
    · iexact H4
  isplitl [H5]
  · iexists f5; isplitr
    · ipureintro; exact e5
    · iexact H5
  isplitl [H12]
  · iexists f12; isplitr
    · ipureintro; exact e12
    · iexact H12
  isplitl [H13]
  · iexists f13; isplitr
    · ipureintro; exact e13
    · iexact H13
  isplitl [H14]
  · iexists f14; isplitr
    · ipureintro; exact e14
    · iexact H14
  isplitl [H15]
  · iexists f15; isplitr
    · ipureintro; exact e15
    · iexact H15
  isplitl [H16]
  · iexists f16; isplitr
    · ipureintro; exact e16
    · iexact H16
  isplitl [H17]
  · iexists f17; isplitr
    · ipureintro; exact e17
    · iexact H17
  isplitl [H18]
  · iexists f18; isplitr
    · ipureintro; exact e18
    · iexact H18
  isplitl [H19]
  · iexists f19; isplitr
    · ipureintro; exact e19
    · iexact H19
  isplitl [H20]
  · iexists f20; isplitr
    · ipureintro; exact e20
    · iexact H20
  isplitl [Hq24_src]
  · iexact Hq24_src
  isplitl [Hq24_dst]
  · iexists _; iexact Hq24_dst
  isplitl [Hq24]
  · iexact Hq24
  isplitl [Hq25_src]
  · iexact Hq25_src
  isplitl [Hq25_dst]
  · iexists _; iexact Hq25_dst
  isplitl [Hq25]
  · iexact Hq25
  isplitl [Hq_dst]
  · unfold HeldAs; iexists g'; isplitr
    · ipureintro; exact e'
    · iexact Hq_dst
  isplitl [Hq]
  · iexists _; iexists _; isplitr
    swap
    · iexact Hq
    · ipureintro
      refine (View.read_writes_whole _ _ _).trans ?_
      subst e4 e5 e12 e13 e14 e15 e16 e17 e18 e19 e20 e25 e26
      sl_unfold_words
      funext y
      refine (quad_read _ _ _ _ _ _ _).trans ?_
      simp only [View.readAt_eq_ld, ld3, ld2]
      rfl
  iexists _; iexact HW

end Cert.KernelIdeal.Hand
end
-- ==== Proof.StepC1.lean ====
module

public import proofs.«01_k».proof.Proof.Sides
public import proofs.«01_k».proof.Proof.RunD

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ)

set_option maxHeartbeats 4000000 in
/-- The step at the coarser tile of an image in between. -/
theorem stepC1 (c : Dev nD) (b : Fin 16) (h0 : b.val ≠ 0) (h15 : b.val ≠ 15) :
    bodyPre m c (pt b 2) ⊢ wp frame (wpE (defs₀ (F := F)) Variants.none c none) Set.univ (bodyAt0 (pt b 2)) (fun _ => bodyPost m c (pt b 2)) := by
  have hlt : b.val < 16 := b.isLt
  have h1 : ¬ k0_cond1 (grid0.coords (pt b 2)) = 1#1 := fun h => by have := (cond1_iff (pt b 2)).mp h; change (3 * b.val + 2) % 3 < 2 at this; omega
  have h6 : k0_cond6 (grid0.coords (pt b 2)) = 1#1 := (cond6_iff (pt b 2)).mpr (by show (3 * b.val + 2) % 3 = 2; omega)
  have h7 : k0_cond7 (grid0.coords (pt b 2)) = 1#1 := (cond7_iff (pt b 2)).mpr (by show 3 ≤ 3 * b.val + 2; omega)
  have h8 : ¬ k0_cond8 (grid0.coords (pt b 2)) = 1#1 := fun h => by have := (cond8_iff (pt b 2)).mp h; change 45 ≤ 3 * b.val + 2 at this; omega
  have hq : (pt b 2).val / 3 = b.val := by show (3 * b.val + 2) / 3 = b.val; omega
  have hj : (⟨3 * b.val + 2, by omega⟩ : Fin 48).val = 3 * b.val + 2 := rfl
  have hb' : b.val - 1 < 16 := by omega
  have hj' : (⟨3 * (b.val - 1) + 2, by omega⟩ : Fin 48).val = 3 * (⟨b.val - 1, hb'⟩ : Fin 16).val + 2 := rfl
  unfold bodyPre bodyPost bodyAt0
  rw [after_0]
  rw [after_1]
  rw [after_2]
  rw [after_3]
  rw [after_4]
  rw [after_5]
  rw [after_6]
  rw [after_7]
  rw [after_8]
  rw [after_9]
  rw [after_10]
  rw [after_11]
  rw [after_12]
  rw [after_13]
  rw [after_14]
  rw [after_15]
  rw [after_16]
  unfold Dat.owesAt Pipeline.owesWithin
  rw [show (dats m 0 c).Φ (pt b 2).castSucc = Inv m c (3 * b.val + 2) from rfl, show (dats m 0 c).Φ (pt b 2).succ = Inv m c (3 * b.val + 2 + 1) from rfl,
    show (dats m 0 c).owed (pt b 2).castSucc = 0 from rfl, show (dats m 0 c).owed (pt b 2).succ = 0 from rfl]
  unfold Inv
  rw [OutP_lt m c (3 * b.val + 2) (by omega), Out_take (V37 m c) (G37 m c) c ⟨3 * b.val + 2, by omega⟩]
  rw [Slot2_fly m c (3 * b.val + 2) ⟨b.val - 1, hb'⟩ (by omega) (by show (3 * b.val + 2 - 3) / 3 = b.val - 1; omega)]
  rw [In_fly m c (3 * b.val + 2) b (by omega) (by omega)]
  rw [OutP_lt m c (3 * b.val + 2 + 1) (by omega), Slot2_fly m c (3 * b.val + 2 + 1) b (by omega) (by omega), Slot0_keep m c (3 * b.val + 2) (by omega) (by omega), Slot1_keep m c (3 * b.val + 2) (by omega) (by omega), In_idle m c (3 * b.val + 2 + 1) (by omega)]
  simp only [before_0 m (dats m 0 c) (A_eq m c _) (after_0 m c)]
  simp only [before_1 m (dats m 0 c) (A_eq m c _) (after_1 m c)]
  simp only [before_2 m (dats m 0 c) (A_eq m c _) (after_2 m c)]
  simp only [before_3 m (dats m 0 c) (A_eq m c _) (after_3 m c)]
  simp only [before_4 m (dats m 0 c) (A_eq m c _) (after_4 m c)]
  simp only [before_5 m (dats m 0 c) (A_eq m c _) (after_5 m c)]
  simp only [before_6 m (dats m 0 c) (A_eq m c _) (after_6 m c)]
  simp only [before_7 m (dats m 0 c) (A_eq m c _) (after_7 m c)]
  simp only [before_8 m (dats m 0 c) (A_eq m c _) (after_8 m c)]
  simp only [before_9 m (dats m 0 c) (A_eq m c _) (after_9 m c)]
  simp only [before_10 m (dats m 0 c) (A_eq m c _) (after_10 m c)]
  simp only [before_11 m (dats m 0 c) (A_eq m c _) (after_11 m c)]
  simp only [before_12 m (dats m 0 c) (A_eq m c _) (after_12 m c)]
  simp only [before_13 m (dats m 0 c) (A_eq m c _) (after_13 m c)]
  simp only [before_14 m (dats m 0 c) (A_eq m c _) (after_14 m c)]
  simp only [before_15 m (dats m 0 c) (A_eq m c _) (after_15 m c)]
  simp only [before_16 m (dats m 0 c) (A_eq m c _) (after_16 m c)]
  iintro ⟨⟨⟨HB, HM⟩, H0, H1, HF, HI6, HR6, HI7, HR7⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, ⟨%d15, W15⟩, ⟨%d16, W16⟩⟩
  ihave HB := (blkC_in c b _ hj (pt b 2) hq h6 (V37 m c)) $$ HB
  iapply (runC1 c (grid0.coords (pt b 2)) _ _ _ _ _ _ _ _ _ _ _ _ _ _ _ _ _ _ _ _ _ _ _ _ _ _ _ _ _ _ _ _ _ _ _ _ _ _ _ _ _ _ _ _ _ _ _ _ _ _ h1 h6 h7 h8 _ _ _ _ _ _ _ _ _ _ _ (V37 m c) (wS a6 b) (V m c main_call0_v8) (T6 m c b) (wS a7 b) (V m c main_call0_v9) (T7 m c b) (wC ⟨b.val - 1, hb'⟩) (TC m c ⟨b.val - 1, hb'⟩) W _)
  isplitl [W2]
  · iexact W2
  isplitl [W3]
  · iexact W3
  isplitl [W8]
  · iexact W8
  isplitl [W9]
  · iexact W9
  isplitl [W10]
  · iexact W10
  isplitl [W11]
  · iexact W11
  isplitl [W12]
  · iexact W12
  isplitl [W13]
  · iexact W13
  isplitl [W14]
  · iexact W14
  isplitl [W15]
  · iexact W15
  isplitl [W16]
  · iexact W16
  isplitl [HI6]
  · iexact HI6
  isplitl [HI7]
  · iexact HI7
  isplitl [HF]
  · iexact HF
  isplitl [HB]
  · iexact HB
  isplitl [HW]
  · iexact HW
  iintro ⟨W2, W3, W8, W9, W10, W11, W12, W13, W14, W15, W16, HI6, HI3, HIq, HI7, HI4, HIr, HP, HF, ⟨%W', HW⟩⟩
  ihave HI6 := (map6_split m c b).2 $$ [HI6 HR6]
  · isplitl [HI6]
    · iexact HI6
    · iexact HR6
  ihave HI7 := (map7_split m c b).2 $$ [HI7 HR7]
  · isplitl [HI7]
    · iexact HI7
    · iexact HR7
  ihave HF := (flyC_out c b (pt b 2) hq h6 sc2 23 38144 _) $$ HF
  ihave HP := (heldC m c ⟨b.val - 1, hb'⟩ _ hj') $$ HP
  isplitl [HP HM H0 H1 HF HI6 HI3 HIq HI7 HI4 HIr]
  · isplitl [HP HM]
    · rw [show 3 * b.val + 2 + 1 = 3 * (b.val - 1) + 2 + 3 + 1 from by omega, ← Mid_put (V37 m c) (G37 m c) c ⟨3 * (b.val - 1) + 2, by omega⟩]
      isplitl [HP]
      · iexact HP
      rw [show 3 * (b.val - 1) + 2 + 3 = 3 * b.val + 2 from by omega]
      iexact HM
    isplitl [H0]
    · iexact H0
    isplitl [H1]
    · iexact H1
    isplitl [HF]
    · unfold TC; iexact HF
    isplitl [HI6]
    · iexact HI6
    isplitl [HI3]
    · iexact HI3
    isplitl [HIq]
    · iexact HIq
    isplitl [HI7]
    · iexact HI7
    isplitl [HI4]
    · iexact HI4
    iexact HIr
  isplitl [HW]
  · iexists W'; isplitr
    · ipureintro; exact fun _ _ => Or.inl trivial
    · iexact HW
  isplitl [W0]
  · iexact W0
  isplitl [W1]
  · iexact W1
  isplitl [W2]
  · iexact W2
  isplitl [W3]
  · iexact W3
  isplitl [W4]
  · iexact W4
  isplitl [W5]
  · iexact W5
  isplitl [W6]
  · iexact W6
  isplitl [W7]
  · iexact W7
  isplitl [W8]
  · iexact W8
  isplitl [W9]
  · iexact W9
  isplitl [W10]
  · iexact W10
  isplitl [W11]
  · iexact W11
  isplitl [W12]
  · iexact W12
  isplitl [W13]
  · iexact W13
  isplitl [W14]
  · iexact W14
  isplitl [W15]
  · iexact W15
  iexact W16

end Cert.KernelIdeal.Hand
end
-- ==== Proof.RunE.lean ====
module

public import proofs.«01_k».proof.Proof.Tiles

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (c : Dev nD) (i : grid0.Coords)
variable (arg2 : Memref sig .tc .vmem S1x3200x256 .f32) (harg2 : arg2.IsWhole)
variable (arg3 : Memref sig .tc .vmem S1x3200x256 .f32) (harg3 : arg3.IsWhole)
variable (arg4 : Memref sig .tc .vmem S1x1600x256 .f32) (harg4 : arg4.IsWhole)
variable (arg5 : Memref sig .tc .vmem S1x1600x256 .f32) (harg5 : arg5.IsWhole)
variable (arg6 : Memref sig .tc .hbm S20x20x16x256 .f32) (harg6 : arg6.IsWhole)
variable (arg7 : Memref sig .tc .hbm S20x20x16x256 .f32) (harg7 : arg7.IsWhole)
variable (arg8 : Memref sig .tc .vmem S152x256 .f32) (harg8 : arg8.IsWhole)
variable (arg9 : Memref sig .tc .vmem S152x256 .f32) (harg9 : arg9.IsWhole)
variable (arg10 : Memref sig .tc .vmem S64x256 .f32) (harg10 : arg10.IsWhole)
variable (arg11 : Memref sig .tc .vmem S152x1 .f32) (harg11 : arg11.IsWhole)
variable (arg12 : Memref sig .tc .vmem S152x256 .f32) (harg12 : arg12.IsWhole)
variable (arg13 : Memref sig .tc .vmem S152x256 .f32) (harg13 : arg13.IsWhole)
variable (arg14 : Memref sig .tc .vmem S64x256 .f32) (harg14 : arg14.IsWhole)
variable (arg15 : Memref sig .tc .vmem S152x1 .f32) (harg15 : arg15.IsWhole)
variable (arg16 : Memref sig .tc .vmem S152x256 .f32) (harg16 : arg16.IsWhole)
variable (arg17 : Memref sig .tc .vmem S152x256 .f32) (harg17 : arg17.IsWhole)
variable (arg18 : Memref sig .tc .vmem S64x256 .f32) (harg18 : arg18.IsWhole)
variable (arg19 : Memref sig .tc .vmem S152x1 .f32) (harg19 : arg19.IsWhole)
variable (arg20 : Memref sig .tc .vmem S8x64 .f32) (harg20 : arg20.IsWhole)
variable (arg21 : Memref sig .tc .hbm S149x16x8400 .f32) (harg21 : arg21.IsWhole)
variable (arg22 : Memref sig .tc .vmem S1x149x3200 .f32) (harg22 : arg22.IsWhole)
variable (arg23 : Memref sig .tc .vmem S1x149x3200 .f32) (harg23 : arg23.IsWhole)
variable (arg24 : Memref sig .tc .vmem S149x2000 .f32) (harg24 : arg24.IsWhole)
variable (arg25 : Memref sig .tc .vmem S20x20x256 .f32) (harg25 : arg25.IsWhole)
variable (arg26 : Memref sig .tc .vmem S20x20x256 .f32) (harg26 : arg26.IsWhole)

/-- The body at the coarser tile of the last image. -/
theorem runC2 (h1 : ¬ k0_cond1 i = 1#1) (h6 : k0_cond6 i = 1#1)
    (h7 : k0_cond7 i = 1#1) (h8 : k0_cond8 i = 1#1)
    (x4 : Vec F S1x1600x256 .f32) (x5 : Vec F S1x1600x256 .f32) (x12 : Vec F S152x256 .f32) (x13 : Vec F S152x256 .f32) (x14 : Vec F S64x256 .f32) (x15 : Vec F S152x1 .f32) (x16 : Vec F S152x256 .f32) (x17 : Vec F S152x256 .f32) (x18 : Vec F S64x256 .f32) (x19 : Vec F S152x1 .f32) (x20 : Vec F S8x64 .f32)
    (fo : Buf (Elt F) ((winC arg21 i h6).view.loc (c : Thread nD τ)))
    (p6 : Memref sig .tc .hbm S20x20x256 .f32) (V6 : Buf (Elt F) (p6.view.loc (c : Thread nD τ))) (T6 : Vec F S20x20x256 .f32)
    (p7 : Memref sig .tc .hbm S20x20x256 .f32) (V7 : Buf (Elt F) (p7.view.loc (c : Thread nD τ))) (T7 : Vec F S20x20x256 .f32)
    (w' : Memref sig .tc .hbm S149x2000 .f32) (T' : Vec F S149x2000 .f32)
    (wA : Memref sig .tc .hbm S149x3200 .f32) (TA : Vec F S149x3200 .f32)
    (wB : Memref sig .tc .hbm S149x3200 .f32) (TB : Vec F S149x3200 .f32) (W : Waits sig Unit) (K : PUnit → sProp 𝕄) :
    iprop(owns (c : Thread nD τ) arg4 fullShare x4
        ∗ owns (c : Thread nD τ) arg5 fullShare x5
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ FlyIn c p6 arg25 24 12800 V6 T6
        ∗ FlyIn c p7 arg26 25 12800 V7 T7
        ∗ Fly c w' arg24 23 38144 T'
        ∗ ((winC arg21 i h6).view.loc (c : Thread nD τ) ↦[(winC arg21 i h6).view.set]{fullShare} fo)
        ∗ Fly c wA arg22 21 59600 TA
        ∗ Fly c wB arg23 22 59600 TB
        ∗ owes (c : Thread nD τ) 0 W ∗ ((owns (c : Thread nD τ) arg4 fullShare x4
        ∗ owns (c : Thread nD τ) arg5 fullShare x5
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ owns (c : Thread nD τ) arg20 fullShare x20
        ∗ (p6.view.loc (c : Thread nD τ) ↦[p6.view.set]{fullShare} V6)
        ∗ Held c arg25
        ∗ semVal ((c : Thread nD τ), SemLoc.dma 24) 0
        ∗ (p7.view.loc (c : Thread nD τ) ↦[p7.view.set]{fullShare} V7)
        ∗ Held c arg26
        ∗ semVal ((c : Thread nD τ), SemLoc.dma 25) 0
        ∗ HeldAs c w' T'
        ∗ HeldAs c wA TA
        ∗ Held c arg22
        ∗ semVal ((c : Thread nD τ), SemLoc.dma 21) 0
        ∗ HeldAs c wB TB
        ∗ Held c arg23
        ∗ semVal ((c : Thread nD τ), SemLoc.dma 22) 0
        ∗ HeldAs c (winC arg21 i h6) (tileC x4 x5 x12 x13 x14 x15 x16 x17 x18 x19 x20 T6 T7)
        ∗ Held c arg24
        ∗ semVal ((c : Thread nD τ), SemLoc.dma 23) 0
          ∗ (∃ W', owes (c : Thread nD τ) 0 W')) -∗ K ⟨⟩))
      ⊢ wp frame (wpE (defs₀ (F := F)) Variants.none c none) Set.univ
          (cc0_multi_level_pred i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch5 cc0_scratch6) K := by
  rw [cc0_multi_level_pred_eq_skeleton]
  unfold cc0_multi_level_pred_skel
  simp -zeta -proj only [k0_part3_eq_skeleton, k0_part4_eq_skeleton, k0_part5_eq_skeleton, k0_part6_eq_skeleton, k0_part7_eq_skeleton, k0_part8_eq_skeleton]
  unfold owns FlyIn Held Fly
  iintro ⟨⟨%f4, %e4, H4⟩, ⟨%f5, %e5, H5⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f25, %e25, Hq24⟩, ⟨%f26, %e26, Hq25⟩, ⟨%g', %fs, %e', Hq⟩, Ho, ⟨%gA, %f22, %eA, Hq21⟩, ⟨%gB, %f23, %eB, Hq22⟩, HW, Hk⟩
  sl_exec
  sl_step
  iapply Hk
  isplitl [H4]
  · iexists f4; isplitr
    · ipureintro; exact e4
    · iexact H4
  isplitl [H5]
  · iexists f5; isplitr
    · ipureintro; exact e5
    · iexact H5
  isplitl [H12]
  · iexists f12; isplitr
    · ipureintro; exact e12
    · iexact H12
  isplitl [H13]
  · iexists f13; isplitr
    · ipureintro; exact e13
    · iexact H13
  isplitl [H14]
  · iexists f14; isplitr
    · ipureintro; exact e14
    · iexact H14
  isplitl [H15]
  · iexists f15; isplitr
    · ipureintro; exact e15
    · iexact H15
  isplitl [H16]
  · iexists f16; isplitr
    · ipureintro; exact e16
    · iexact H16
  isplitl [H17]
  · iexists f17; isplitr
    · ipureintro; exact e17
    · iexact H17
  isplitl [H18]
  · iexists f18; isplitr
    · ipureintro; exact e18
    · iexact H18
  isplitl [H19]
  · iexists f19; isplitr
    · ipureintro; exact e19
    · iexact H19
  isplitl [H20]
  · iexists f20; isplitr
    · ipureintro; exact e20
    · iexact H20
  isplitl [Hq24_src]
  · iexact Hq24_src
  isplitl [Hq24_dst]
  · iexists _; iexact Hq24_dst
  isplitl [Hq24]
  · iexact Hq24
  isplitl [Hq25_src]
  · iexact Hq25_src
  isplitl [Hq25_dst]
  · iexists _; iexact Hq25_dst
  isplitl [Hq25]
  · iexact Hq25
  isplitl [Hq_dst]
  · unfold HeldAs; iexists g'; isplitr
    · ipureintro; exact e'
    · iexact Hq_dst
  isplitl [Hq21_dst]
  · unfold HeldAs; iexists gA; isplitr
    · ipureintro; exact eA
    · iexact Hq21_dst
  isplitl [Hq21_src]
  · iexists _; iexact Hq21_src
  isplitl [Hq21]
  · iexact Hq21
  isplitl [Hq22_dst]
  · unfold HeldAs; iexists gB; isplitr
    · ipureintro; exact eB
    · iexact Hq22_dst
  isplitl [Hq22_src]
  · iexists _; iexact Hq22_src
  isplitl [Hq22]
  · iexact Hq22
  isplitl [Ho]
  · unfold HeldAs; iexists _; isplitr
    swap
    · iexact Ho
    · ipureintro
      refine (View.read_writes_whole _ _ _).trans ?_
      subst e4 e5 e12 e13 e14 e15 e16 e17 e18 e19 e20 e25 e26
      sl_unfold_words
      funext y
      refine (quad_read _ _ _ _ _ _ _).trans ?_
      simp only [View.readAt_eq_ld, ld3, ld2]
      rfl
  isplitl [Hq_src]
  · iexists _; iexact Hq_src
  isplitl [Hq]
  · iexact Hq
  iexists _; iexact HW

end Cert.KernelIdeal.Hand
end
-- ==== Proof.StepC2.lean ====
module

public import proofs.«01_k».proof.Proof.Sides
public import proofs.«01_k».proof.Proof.RunE

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ)

set_option maxHeartbeats 4000000 in
/-- The step at the coarser tile of the last image. -/
theorem stepC2 (c : Dev nD) (b : Fin 16) (h0 : b.val = 15) :
    bodyPre m c (pt b 2) ⊢ wp frame (wpE (defs₀ (F := F)) Variants.none c none) Set.univ (bodyAt0 (pt b 2)) (fun _ => bodyPost m c (pt b 2)) := by
  have hlt : b.val < 16 := b.isLt
  have h1 : ¬ k0_cond1 (grid0.coords (pt b 2)) = 1#1 := fun h => by have := (cond1_iff (pt b 2)).mp h; change (3 * b.val + 2) % 3 < 2 at this; omega
  have h6 : k0_cond6 (grid0.coords (pt b 2)) = 1#1 := (cond6_iff (pt b 2)).mpr (by show (3 * b.val + 2) % 3 = 2; omega)
  have h7 : k0_cond7 (grid0.coords (pt b 2)) = 1#1 := (cond7_iff (pt b 2)).mpr (by show 3 ≤ 3 * b.val + 2; omega)
  have h8 : k0_cond8 (grid0.coords (pt b 2)) = 1#1 := (cond8_iff (pt b 2)).mpr (by show 45 ≤ 3 * b.val + 2; omega)
  have hq : (pt b 2).val / 3 = b.val := by show (3 * b.val + 2) / 3 = b.val; omega
  have hj : (⟨3 * b.val + 2, by omega⟩ : Fin 48).val = 3 * b.val + 2 := rfl
  have hb' : b.val - 1 < 16 := by omega
  have hj' : (⟨3 * (b.val - 1) + 2, by omega⟩ : Fin 48).val = 3 * (⟨b.val - 1, hb'⟩ : Fin 16).val + 2 := rfl
  unfold bodyPre bodyPost bodyAt0
  rw [after_0]
  rw [after_1]
  rw [after_2]
  rw [after_3]
  rw [after_4]
  rw [after_5]
  rw [after_6]
  rw [after_7]
  rw [after_8]
  rw [after_9]
  rw [after_10]
  rw [after_11]
  rw [after_12]
  rw [after_13]
  rw [after_14]
  rw [after_15]
  rw [after_16]
  unfold Dat.owesAt Pipeline.owesWithin
  rw [show (dats m 0 c).Φ (pt b 2).castSucc = Inv m c (3 * b.val + 2) from rfl, show (dats m 0 c).Φ (pt b 2).succ = Inv m c (3 * b.val + 2 + 1) from rfl,
    show (dats m 0 c).owed (pt b 2).castSucc = 0 from rfl, show (dats m 0 c).owed (pt b 2).succ = 0 from rfl]
  unfold Inv
  rw [OutP_lt m c (3 * b.val + 2) (by omega), Out_take (V37 m c) (G37 m c) c ⟨3 * b.val + 2, by omega⟩]
  rw [Slot2_fly m c (3 * b.val + 2) ⟨b.val - 1, hb'⟩ (by omega) (by show (3 * b.val + 2 - 3) / 3 = b.val - 1; omega)]
  rw [Slot0_fly m c (3 * b.val + 2) b (by omega) (by omega), Slot1_fly m c (3 * b.val + 2) b (by omega) (by omega)]
  rw [In_fly m c (3 * b.val + 2) b (by omega) (by omega)]
  rw [Slot0_idle m c (3 * b.val + 2 + 1) (by omega), Slot1_idle m c (3 * b.val + 2 + 1) (by omega), Slot2_idle m c (3 * b.val + 2 + 1) (by omega), In_idle m c (3 * b.val + 2 + 1) (by omega)]
  simp only [before_0 m (dats m 0 c) (A_eq m c _) (after_0 m c)]
  simp only [before_1 m (dats m 0 c) (A_eq m c _) (after_1 m c)]
  simp only [before_2 m (dats m 0 c) (A_eq m c _) (after_2 m c)]
  simp only [before_3 m (dats m 0 c) (A_eq m c _) (after_3 m c)]
  simp only [before_4 m (dats m 0 c) (A_eq m c _) (after_4 m c)]
  simp only [before_5 m (dats m 0 c) (A_eq m c _) (after_5 m c)]
  simp only [before_6 m (dats m 0 c) (A_eq m c _) (after_6 m c)]
  simp only [before_7 m (dats m 0 c) (A_eq m c _) (after_7 m c)]
  simp only [before_8 m (dats m 0 c) (A_eq m c _) (after_8 m c)]
  simp only [before_9 m (dats m 0 c) (A_eq m c _) (after_9 m c)]
  simp only [before_10 m (dats m 0 c) (A_eq m c _) (after_10 m c)]
  simp only [before_11 m (dats m 0 c) (A_eq m c _) (after_11 m c)]
  simp only [before_12 m (dats m 0 c) (A_eq m c _) (after_12 m c)]
  simp only [before_13 m (dats m 0 c) (A_eq m c _) (after_13 m c)]
  simp only [before_14 m (dats m 0 c) (A_eq m c _) (after_14 m c)]
  simp only [before_15 m (dats m 0 c) (A_eq m c _) (after_15 m c)]
  simp only [before_16 m (dats m 0 c) (A_eq m c _) (after_16 m c)]
  iintro ⟨⟨⟨HB, HM⟩, H0, H1, HF, HI6, HR6, HI7, HR7⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, ⟨%d15, W15⟩, ⟨%d16, W16⟩⟩
  ihave HB := (blkC_in c b _ hj (pt b 2) hq h6 (V37 m c)) $$ HB
  iapply (runC2 c (grid0.coords (pt b 2)) _ _ _ _ _ _ _ _ _ _ _ _ _ _ _ _ _ _ _ _ _ _ _ _ _ _ _ _ _ _ _ _ _ _ _ _ _ _ _ _ _ _ _ _ _ _ _ _ _ _ h1 h6 h7 h8 _ _ _ _ _ _ _ _ _ _ _ (V37 m c) (wS a6 b) (V m c main_call0_v8) (T6 m c b) (wS a7 b) (V m c main_call0_v9) (T7 m c b) (wC ⟨b.val - 1, hb'⟩) (TC m c ⟨b.val - 1, hb'⟩) (wA b) (TA m c b) (wB b) (TB m c b) W _)
  isplitl [W2]
  · iexact W2
  isplitl [W3]
  · iexact W3
  isplitl [W8]
  · iexact W8
  isplitl [W9]
  · iexact W9
  isplitl [W10]
  · iexact W10
  isplitl [W11]
  · iexact W11
  isplitl [W12]
  · iexact W12
  isplitl [W13]
  · iexact W13
  isplitl [W14]
  · iexact W14
  isplitl [W15]
  · iexact W15
  isplitl [W16]
  · iexact W16
  isplitl [HI6]
  · iexact HI6
  isplitl [HI7]
  · iexact HI7
  isplitl [HF]
  · iexact HF
  isplitl [HB]
  · iexact HB
  isplitl [H0]
  · iexact H0
  isplitl [H1]
  · iexact H1
  isplitl [HW]
  · iexact HW
  iintro ⟨W2, W3, W8, W9, W10, W11, W12, W13, W14, W15, W16, HI6, HI3, HIq, HI7, HI4, HIr, HP, HA, HA1, HA2, HC, HC1, HC2, HD, HD1, HD2, ⟨%W', HW⟩⟩
  ihave HI6 := (map6_split m c b).2 $$ [HI6 HR6]
  · isplitl [HI6]
    · iexact HI6
    · iexact HR6
  ihave HI7 := (map7_split m c b).2 $$ [HI7 HR7]
  · isplitl [HI7]
    · iexact HI7
    · iexact HR7
  ihave HP := (heldC m c ⟨b.val - 1, hb'⟩ _ hj') $$ HP
  ihave HA := (heldA m c b ⟨3 * b.val, by omega⟩ rfl) $$ HA
  ihave HC := (heldB m c b ⟨3 * b.val + 1, by omega⟩ rfl) $$ HC
  ihave HD := (heldC_out c b (pt b 2) hq h6 _) $$ HD
  ihave HD := (heldC m c b ⟨3 * b.val + 2, by omega⟩ rfl) $$ [HD]
  · unfold TC; iexact HD
  obtain rfl : b = 15 := Fin.ext h0
  isplitl [HM HP HA HC HD HA1 HA2 HC1 HC2 HD1 HD2 HI6 HI3 HIq HI7 HI4 HIr]
  · isplitl [HM HP HA HC HD]
    · rw [show OutP m c (3 * ((15 : Fin 16).val) + 2 + 1) = OutP m c 48 from rfl, OutP_end m c]
      iapply (Mid_last (V37 m c) (G37 m c) c)
      isplitl [HM]
      · iexact HM
      isplitl [HP]
      · iexact HP
      isplitl [HA]
      · iexact HA
      isplitl [HC]
      · iexact HC
      iexact HD
    isplitl [HA1 HA2]
    · isplitl [HA1]
      · iexact HA1
      iexact HA2
    isplitl [HC1 HC2]
    · isplitl [HC1]
      · iexact HC1
      iexact HC2
    isplitl [HD1 HD2]
    · isplitl [HD1]
      · iexact HD1
      iexact HD2
    isplitl [HI6]
    · iexact HI6
    isplitl [HI3]
    · iexact HI3
    isplitl [HIq]
    · iexact HIq
    isplitl [HI7]
    · iexact HI7
    isplitl [HI4]
    · iexact HI4
    iexact HIr
  isplitl [HW]
  · iexists W'; isplitr
    · ipureintro; exact fun _ _ => Or.inl trivial
    · iexact HW
  isplitl [W0]
  · iexact W0
  isplitl [W1]
  · iexact W1
  isplitl [W2]
  · iexact W2
  isplitl [W3]
  · iexact W3
  isplitl [W4]
  · iexact W4
  isplitl [W5]
  · iexact W5
  isplitl [W6]
  · iexact W6
  isplitl [W7]
  · iexact W7
  isplitl [W8]
  · iexact W8
  isplitl [W9]
  · iexact W9
  isplitl [W10]
  · iexact W10
  isplitl [W11]
  · iexact W11
  isplitl [W12]
  · iexact W12
  isplitl [W13]
  · iexact W13
  isplitl [W14]
  · iexact W14
  isplitl [W15]
  · iexact W15
  iexact W16

end Cert.KernelIdeal.Hand
end
-- ==== Proof.Body.lean ====
module

public import proofs.«01_k».proof.Proof.StepA0
public import proofs.«01_k».proof.Proof.StepA1
public import proofs.«01_k».proof.Proof.StepB0
public import proofs.«01_k».proof.Proof.StepB1
public import proofs.«01_k».proof.Proof.StepC0
public import proofs.«01_k».proof.Proof.StepC1
public import proofs.«01_k».proof.Proof.StepC2

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- Every grid point is one batch entry's stage. -/
theorem exists_pt (t : Fin cfg0.N) : ∃ (b : Fin 16) (s : Fin 3), t = pt b s := by
  have h : t.val < 48 := lt_of_lt_of_eq t.isLt N_0
  exact ⟨⟨t.val / 3, by omega⟩, ⟨t.val % 3, Nat.mod_lt _ (by decide)⟩, Fin.ext (Nat.div_add_mod t.val 3).symm⟩

/-- The body carries the invariant over every grid point. -/
theorem sound_body (c : Dev nD) (t : Fin cfg0.N) :
    bodyPre m c t ⊢ wp frame (wpE (defs₀ (F := F)) Variants.none c none) Set.univ (bodyAt0 t) (fun _ => bodyPost m c t) := by
  obtain ⟨b, s, rfl⟩ := exists_pt t
  match s with
  | 0 =>
    by_cases h : b.val = 0
    · exact stepA0 m c b h
    · exact stepA1 m c b h
  | 1 =>
    by_cases h : b.val = 0
    · exact stepB0 m c b h
    · exact stepB1 m c b h
  | 2 =>
    by_cases h : b.val = 0
    · exact stepC0 m c b h
    · by_cases h' : b.val = 15
      · exact stepC2 m c b h'
      · exact stepC1 m c b h h'

/-- The body of a grid point. -/
theorem defs₀_row (t : Fin cfg0.N) : defs₀ (F := F) .tc cfg0.body (cfg0.bodyArgs t (cfg0.slots t)) = bodyAt0 t := by
  unfold defs₀; rw [Defs.onTc_tc]

/-- The launch's body obligation. -/
theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand
end
-- ==== Proof.Run.lean ====
module

public import proofs.«01_k».proof.Proof.Body

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The lines before take no fresh buffer. -/
theorem hostOps0_fresh : (hostOps0 : List (HloOp τ sig (Elt F))).Forall fun op => op.fresh = ∅ := by
  simp only [List.Forall]; repeat' constructor
/-- Nor does the last. -/
theorem hostOps1_fresh : (hostOps1 : List (HloOp τ sig (Elt F))).Forall fun op => op.fresh = ∅ := rfl

/-- The program is the host lines before the launch, the launch, and the line after it. -/
theorem hmain : Pipeline.HMainK (Ix := Unit) (Name := ℕ) (U := Pipeline.UD sig nD τ) (Lvl := ℕ) cfgs 0 (defs₀ (F := F)) Variants.none m (main (F := F))
    (fun c b => V₀ m c (Proc.devRef .tc b)) (fun _ => Pipeline.chain ([hostOps1].map StableHlo.seq)) :=
  Pipeline.hmain_around cfgs 0 defs₀ Variants.none m main [hostOps0] [hostOps1]
    hostOps0_sub hostOps0_fresh
    (fun c => (main_chain c).trans rfl)

/-- The last line touches no window. -/
theorem tail_sub : ∀ ops ∈ [(hostOps1 : List (HloOp τ sig (Elt F)))], ∀ op ∈ ops, op.bufs ⊆ Pipeline.tailRefs sig Pipeline.Prefetch.none spec0 := by
  refine List.forall_mem_singleton.mpr (List.forall_mem_singleton.mpr ?_)
  rw [Pipeline.tailRefs_none (hw := by decide)]
  show ({Proc.devRef .tc main_call0_v37, Proc.devRef .tc main_v0} : Finset (DevRef τ sig)) ⊆ _
  decide

/-- The last line writes no window. -/
theorem tail_keep : ∀ ops ∈ [(hostOps1 : List (HloOp τ sig (Elt F)))], ∀ op ∈ ops, ∀ w, Proc.devRef .tc (Pipeline.arrRef spec0 w) ∉ op.writes :=
  List.forall_mem_singleton.mpr (List.forall_mem_singleton.mpr fun w hm => by
    have e : Pipeline.arrRef spec0 w = main_v0 := Proc.devRef_injective _ (Finset.mem_singleton.mp hm)
    have key : ∀ w, Pipeline.arrRef spec0 w ≠ main_v0 := by decide
    exact key w e)

/-- The buffers at the end: the launch's result in place of what the launch found, then the line after it. -/
abbrev VEnd (c : Dev nD) : Valuation τ sig (Elt F) :=
  StableHlo.after (hostOps1 : List (HloOp τ sig (Elt F)))
    (Pipeline.withArrays spec0 c (Pipeline.withR (V₀ m c) R0 c (G m c)) fun w => (dats m 0 c).arrAt w cfg0.N)

set_option maxHeartbeats 2000000 in
set_option backward.isDefEq.respectTransparency.types false in
/-- The whole program runs; the arrays end as the launch leaves them, every other buffer as the last line leaves it, every counter at zero. -/
theorem run_main : θ_run (defs (F := F)) (onTc (τ := τ) (main (F := F))) ⟨m, fun _ => 0, ρ⟩ (fun r =>
    (∀ c : Dev nD, (∀ w, r.2.mem ((spec0 w).arr.view.loc (c : Thread nD τ)) = (dats m 0 c).arrAt w cfg0.N)
      ∧ ∀ b ∈ Pipeline.restRefs sig spec0, r.2.mem ((c : Thread nD τ).loc b) = VEnd m c (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V₀ m) (opss := [hostOps1]) (hsub := tail_sub)
    (hfresh := List.forall_mem_singleton.mpr (List.forall_iff_forall_mem.mp hostOps1_fresh)) (hkeep := tail_keep)
    (G := G m) (hmain := hmain m) (hA := A_eq m) (hin := inv_in m) (hout := inv_out m)
    (Q' := fun r => (∀ c : Dev nD, (∀ w, r.2.mem ((spec0 w).arr.view.loc (c : Thread nD τ)) = (dats m 0 c).arrAt w cfg0.N)
      ∧ ∀ b ∈ Pipeline.restRefs sig spec0, r.2.mem ((c : Thread nD τ).loc b) = VEnd m c (Proc.devRef .tc b)) ∧ r.2.sem = fun _ => 0)
    (hQ' := fun _ h => h)

/-! ## The arguments are unchanged -/

/-- Unchanged before the launch. -/
theorem V_arg0 (c : Dev nD) : V m c main_arg0 = m ((c : Thread nD τ).loc main_arg0) :=
  StableHlo.after_of_forall_not_mem (b := Proc.devRef .tc main_arg0) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg0 (c : Dev nD) : VEnd m c (Proc.devRef .tc main_arg0) = m ((c : Thread nD τ).loc main_arg0) :=
  (StableHlo.after_of_forall_not_mem (b := Proc.devRef .tc main_arg0) _ _ (List.forall_mem_singleton.mpr fun hm =>
    StableHlo.devRef_ne_of_ne (fun h => by cases h) (Finset.mem_singleton.mp hm))).trans
  ((Pipeline.withArrays_of_ne spec0 c _ _ main_arg0 (by decide)).trans ((Pipeline.withR_of_not_mem _ _ c _ main_arg0 (by decide)).trans (V_arg0 m c)))

/-- Unchanged before the launch. -/
theorem V_arg1 (c : Dev nD) : V m c main_arg1 = m ((c : Thread nD τ).loc main_arg1) :=
  StableHlo.after_of_forall_not_mem (b := Proc.devRef .tc main_arg1) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg1 (c : Dev nD) : VEnd m c (Proc.devRef .tc main_arg1) = m ((c : Thread nD τ).loc main_arg1) :=
  (StableHlo.after_of_forall_not_mem (b := Proc.devRef .tc main_arg1) _ _ (List.forall_mem_singleton.mpr fun hm =>
    StableHlo.devRef_ne_of_ne (fun h => by cases h) (Finset.mem_singleton.mp hm))).trans
  ((Pipeline.withArrays_of_ne spec0 c _ _ main_arg1 (by decide)).trans ((Pipeline.withR_of_not_mem _ _ c _ main_arg1 (by decide)).trans (V_arg1 m c)))

/-- Unchanged before the launch. -/
theorem V_arg2 (c : Dev nD) : V m c main_arg2 = m ((c : Thread nD τ).loc main_arg2) :=
  StableHlo.after_of_forall_not_mem (b := Proc.devRef .tc main_arg2) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg2 (c : Dev nD) : VEnd m c (Proc.devRef .tc main_arg2) = m ((c : Thread nD τ).loc main_arg2) :=
  (StableHlo.after_of_forall_not_mem (b := Proc.devRef .tc main_arg2) _ _ (List.forall_mem_singleton.mpr fun hm =>
    StableHlo.devRef_ne_of_ne (fun h => by cases h) (Finset.mem_singleton.mp hm))).trans
  ((Pipeline.withArrays_of_ne spec0 c _ _ main_arg2 (by decide)).trans ((Pipeline.withR_of_not_mem _ _ c _ main_arg2 (by decide)).trans (V_arg2 m c)))

/-- Unchanged before the launch. -/
theorem V_arg3 (c : Dev nD) : V m c main_arg3 = m ((c : Thread nD τ).loc main_arg3) :=
  StableHlo.after_of_forall_not_mem (b := Proc.devRef .tc main_arg3) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg3 (c : Dev nD) : VEnd m c (Proc.devRef .tc main_arg3) = m ((c : Thread nD τ).loc main_arg3) :=
  (StableHlo.after_of_forall_not_mem (b := Proc.devRef .tc main_arg3) _ _ (List.forall_mem_singleton.mpr fun hm =>
    StableHlo.devRef_ne_of_ne (fun h => by cases h) (Finset.mem_singleton.mp hm))).trans
  ((Pipeline.withArrays_of_ne spec0 c _ _ main_arg3 (by decide)).trans ((Pipeline.withR_of_not_mem _ _ c _ main_arg3 (by decide)).trans (V_arg3 m c)))

/-- Unchanged before the launch. -/
theorem V_arg4 (c : Dev nD) : V m c main_arg4 = m ((c : Thread nD τ).loc main_arg4) :=
  StableHlo.after_of_forall_not_mem (b := Proc.devRef .tc main_arg4) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg4 (c : Dev nD) : VEnd m c (Proc.devRef .tc main_arg4) = m ((c : Thread nD τ).loc main_arg4) :=
  (StableHlo.after_of_forall_not_mem (b := Proc.devRef .tc main_arg4) _ _ (List.forall_mem_singleton.mpr fun hm =>
    StableHlo.devRef_ne_of_ne (fun h => by cases h) (Finset.mem_singleton.mp hm))).trans
  ((Pipeline.withArrays_of_ne spec0 c _ _ main_arg4 (by decide)).trans ((Pipeline.withR_of_not_mem _ _ c _ main_arg4 (by decide)).trans (V_arg4 m c)))

/-- Unchanged before the launch. -/
theorem V_arg5 (c : Dev nD) : V m c main_arg5 = m ((c : Thread nD τ).loc main_arg5) :=
  StableHlo.after_of_forall_not_mem (b := Proc.devRef .tc main_arg5) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg5 (c : Dev nD) : VEnd m c (Proc.devRef .tc main_arg5) = m ((c : Thread nD τ).loc main_arg5) :=
  (StableHlo.after_of_forall_not_mem (b := Proc.devRef .tc main_arg5) _ _ (List.forall_mem_singleton.mpr fun hm =>
    StableHlo.devRef_ne_of_ne (fun h => by cases h) (Finset.mem_singleton.mp hm))).trans
  ((Pipeline.withArrays_of_ne spec0 c _ _ main_arg5 (by decide)).trans ((Pipeline.withR_of_not_mem _ _ c _ main_arg5 (by decide)).trans (V_arg5 m c)))

/-- Unchanged before the launch. -/
theorem V_arg6 (c : Dev nD) : V m c main_arg6 = m ((c : Thread nD τ).loc main_arg6) :=
  StableHlo.after_of_forall_not_mem (b := Proc.devRef .tc main_arg6) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg6 (c : Dev nD) : VEnd m c (Proc.devRef .tc main_arg6) = m ((c : Thread nD τ).loc main_arg6) :=
  (StableHlo.after_of_forall_not_mem (b := Proc.devRef .tc main_arg6) _ _ (List.forall_mem_singleton.mpr fun hm =>
    StableHlo.devRef_ne_of_ne (fun h => by cases h) (Finset.mem_singleton.mp hm))).trans
  ((Pipeline.withArrays_of_ne spec0 c _ _ main_arg6 (by decide)).trans ((Pipeline.withR_of_not_mem _ _ c _ main_arg6 (by decide)).trans (V_arg6 m c)))

/-- Unchanged before the launch. -/
theorem V_arg7 (c : Dev nD) : V m c main_arg7 = m ((c : Thread nD τ).loc main_arg7) :=
  StableHlo.after_of_forall_not_mem (b := Proc.devRef .tc main_arg7) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg7 (c : Dev nD) : VEnd m c (Proc.devRef .tc main_arg7) = m ((c : Thread nD τ).loc main_arg7) :=
  (StableHlo.after_of_forall_not_mem (b := Proc.devRef .tc main_arg7) _ _ (List.forall_mem_singleton.mpr fun hm =>
    StableHlo.devRef_ne_of_ne (fun h => by cases h) (Finset.mem_singleton.mp hm))).trans
  ((Pipeline.withArrays_of_ne spec0 c _ _ main_arg7 (by decide)).trans ((Pipeline.withR_of_not_mem _ _ c _ main_arg7 (by decide)).trans (V_arg7 m c)))

/-- Unchanged before the launch. -/
theorem V_arg8 (c : Dev nD) : V m c main_arg8 = m ((c : Thread nD τ).loc main_arg8) :=
  StableHlo.after_of_forall_not_mem (b := Proc.devRef .tc main_arg8) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg8 (c : Dev nD) : VEnd m c (Proc.devRef .tc main_arg8) = m ((c : Thread nD τ).loc main_arg8) :=
  (StableHlo.after_of_forall_not_mem (b := Proc.devRef .tc main_arg8) _ _ (List.forall_mem_singleton.mpr fun hm =>
    StableHlo.devRef_ne_of_ne (fun h => by cases h) (Finset.mem_singleton.mp hm))).trans
  ((Pipeline.withArrays_of_ne spec0 c _ _ main_arg8 (by decide)).trans ((Pipeline.withR_of_not_mem _ _ c _ main_arg8 (by decide)).trans (V_arg8 m c)))

/-- Unchanged before the launch. -/
theorem V_arg9 (c : Dev nD) : V m c main_arg9 = m ((c : Thread nD τ).loc main_arg9) :=
  StableHlo.after_of_forall_not_mem (b := Proc.devRef .tc main_arg9) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg9 (c : Dev nD) : VEnd m c (Proc.devRef .tc main_arg9) = m ((c : Thread nD τ).loc main_arg9) :=
  (StableHlo.after_of_forall_not_mem (b := Proc.devRef .tc main_arg9) _ _ (List.forall_mem_singleton.mpr fun hm =>
    StableHlo.devRef_ne_of_ne (fun h => by cases h) (Finset.mem_singleton.mp hm))).trans
  ((Pipeline.withArrays_of_ne spec0 c _ _ main_arg9 (by decide)).trans ((Pipeline.withR_of_not_mem _ _ c _ main_arg9 (by decide)).trans (V_arg9 m c)))

/-- Unchanged before the launch. -/
theorem V_arg10 (c : Dev nD) : V m c main_arg10 = m ((c : Thread nD τ).loc main_arg10) :=
  StableHlo.after_of_forall_not_mem (b := Proc.devRef .tc main_arg10) _ _ (List.forall_iff_forall_mem.mp (by
    simp only [List.Forall]; repeat' apply And.intro
    all_goals exact fun hm => StableHlo.devRef_ne_of_ne (fun h => by cases h) (Finset.mem_singleton.mp hm)))

/-- Unchanged before the launch. -/
theorem V_arg11 (c : Dev nD) : V m c main_arg11 = m ((c : Thread nD τ).loc main_arg11) :=
  StableHlo.after_of_forall_not_mem (b := Proc.devRef .tc main_arg11) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg11 (c : Dev nD) : VEnd m c (Proc.devRef .tc main_arg11) = m ((c : Thread nD τ).loc main_arg11) :=
  (StableHlo.after_of_forall_not_mem (b := Proc.devRef .tc main_arg11) _ _ (List.forall_mem_singleton.mpr fun hm =>
    StableHlo.devRef_ne_of_ne (fun h => by cases h) (Finset.mem_singleton.mp hm))).trans
  ((Pipeline.withArrays_of_ne spec0 c _ _ main_arg11 (by decide)).trans ((Pipeline.withR_of_not_mem _ _ c _ main_arg11 (by decide)).trans (V_arg11 m c)))

/-- Unchanged before the launch. -/
theorem V_arg12 (c : Dev nD) : V m c main_arg12 = m ((c : Thread nD τ).loc main_arg12) :=
  StableHlo.after_of_forall_not_mem (b := Proc.devRef .tc main_arg12) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg12 (c : Dev nD) : VEnd m c (Proc.devRef .tc main_arg12) = m ((c : Thread nD τ).loc main_arg12) :=
  (StableHlo.after_of_forall_not_mem (b := Proc.devRef .tc main_arg12) _ _ (List.forall_mem_singleton.mpr fun hm =>
    StableHlo.devRef_ne_of_ne (fun h => by cases h) (Finset.mem_singleton.mp hm))).trans
  ((Pipeline.withArrays_of_ne spec0 c _ _ main_arg12 (by decide)).trans ((Pipeline.withR_of_not_mem _ _ c _ main_arg12 (by decide)).trans (V_arg12 m c)))

/-- Unchanged before the launch. -/
theorem V_arg13 (c : Dev nD) : V m c main_arg13 = m ((c : Thread nD τ).loc main_arg13) :=
  StableHlo.after_of_forall_not_mem (b := Proc.devRef .tc main_arg13) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg13 (c : Dev nD) : VEnd m c (Proc.devRef .tc main_arg13) = m ((c : Thread nD τ).loc main_arg13) :=
  (StableHlo.after_of_forall_not_mem (b := Proc.devRef .tc main_arg13) _ _ (List.forall_mem_singleton.mpr fun hm =>
    StableHlo.devRef_ne_of_ne (fun h => by cases h) (Finset.mem_singleton.mp hm))).trans
  ((Pipeline.withArrays_of_ne spec0 c _ _ main_arg13 (by decide)).trans ((Pipeline.withR_of_not_mem _ _ c _ main_arg13 (by decide)).trans (V_arg13 m c)))

/-- Unchanged before the launch. -/
theorem V_arg14 (c : Dev nD) : V m c main_arg14 = m ((c : Thread nD τ).loc main_arg14) :=
  StableHlo.after_of_forall_not_mem (b := Proc.devRef .tc main_arg14) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg14 (c : Dev nD) : VEnd m c (Proc.devRef .tc main_arg14) = m ((c : Thread nD τ).loc main_arg14) :=
  (StableHlo.after_of_forall_not_mem (b := Proc.devRef .tc main_arg14) _ _ (List.forall_mem_singleton.mpr fun hm =>
    StableHlo.devRef_ne_of_ne (fun h => by cases h) (Finset.mem_singleton.mp hm))).trans
  ((Pipeline.withArrays_of_ne spec0 c _ _ main_arg14 (by decide)).trans ((Pipeline.withR_of_not_mem _ _ c _ main_arg14 (by decide)).trans (V_arg14 m c)))

/-- Unchanged before the launch. -/
theorem V_arg15 (c : Dev nD) : V m c main_arg15 = m ((c : Thread nD τ).loc main_arg15) :=
  StableHlo.after_of_forall_not_mem (b := Proc.devRef .tc main_arg15) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg15 (c : Dev nD) : VEnd m c (Proc.devRef .tc main_arg15) = m ((c : Thread nD τ).loc main_arg15) :=
  (StableHlo.after_of_forall_not_mem (b := Proc.devRef .tc main_arg15) _ _ (List.forall_mem_singleton.mpr fun hm =>
    StableHlo.devRef_ne_of_ne (fun h => by cases h) (Finset.mem_singleton.mp hm))).trans
  ((Pipeline.withArrays_of_ne spec0 c _ _ main_arg15 (by decide)).trans ((Pipeline.withR_of_not_mem _ _ c _ main_arg15 (by decide)).trans (V_arg15 m c)))

/-- Unchanged before the launch. -/
theorem V_arg16 (c : Dev nD) : V m c main_arg16 = m ((c : Thread nD τ).loc main_arg16) :=
  StableHlo.after_of_forall_not_mem (b := Proc.devRef .tc main_arg16) _ _ (List.forall_iff_forall_mem.mp (by
    simp only [List.Forall]; repeat' apply And.intro
    all_goals exact fun hm => StableHlo.devRef_ne_of_ne (fun h => by cases h) (Finset.mem_singleton.mp hm)))

/-- Unchanged before the launch. -/
theorem V_arg17 (c : Dev nD) : V m c main_arg17 = m ((c : Thread nD τ).loc main_arg17) :=
  StableHlo.after_of_forall_not_mem (b := Proc.devRef .tc main_arg17) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg17 (c : Dev nD) : VEnd m c (Proc.devRef .tc main_arg17) = m ((c : Thread nD τ).loc main_arg17) :=
  (StableHlo.after_of_forall_not_mem (b := Proc.devRef .tc main_arg17) _ _ (List.forall_mem_singleton.mpr fun hm =>
    StableHlo.devRef_ne_of_ne (fun h => by cases h) (Finset.mem_singleton.mp hm))).trans
  ((Pipeline.withArrays_of_ne spec0 c _ _ main_arg17 (by decide)).trans ((Pipeline.withR_of_not_mem _ _ c _ main_arg17 (by decide)).trans (V_arg17 m c)))

/-- Unchanged before the launch. -/
theorem V_arg18 (c : Dev nD) : V m c main_arg18 = m ((c : Thread nD τ).loc main_arg18) :=
  StableHlo.after_of_forall_not_mem (b := Proc.devRef .tc main_arg18) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg18 (c : Dev nD) : VEnd m c (Proc.devRef .tc main_arg18) = m ((c : Thread nD τ).loc main_arg18) :=
  (StableHlo.after_of_forall_not_mem (b := Proc.devRef .tc main_arg18) _ _ (List.forall_mem_singleton.mpr fun hm =>
    StableHlo.devRef_ne_of_ne (fun h => by cases h) (Finset.mem_singleton.mp hm))).trans
  ((Pipeline.withArrays_of_ne spec0 c _ _ main_arg18 (by decide)).trans ((Pipeline.withR_of_not_mem _ _ c _ main_arg18 (by decide)).trans (V_arg18 m c)))

/-- Unchanged before the launch. -/
theorem V_arg19 (c : Dev nD) : V m c main_arg19 = m ((c : Thread nD τ).loc main_arg19) :=
  StableHlo.after_of_forall_not_mem (b := Proc.devRef .tc main_arg19) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg19 (c : Dev nD) : VEnd m c (Proc.devRef .tc main_arg19) = m ((c : Thread nD τ).loc main_arg19) :=
  (StableHlo.after_of_forall_not_mem (b := Proc.devRef .tc main_arg19) _ _ (List.forall_mem_singleton.mpr fun hm =>
    StableHlo.devRef_ne_of_ne (fun h => by cases h) (Finset.mem_singleton.mp hm))).trans
  ((Pipeline.withArrays_of_ne spec0 c _ _ main_arg19 (by decide)).trans ((Pipeline.withR_of_not_mem _ _ c _ main_arg19 (by decide)).trans (V_arg19 m c)))

/-- Unchanged before the launch. -/
theorem V_arg20 (c : Dev nD) : V m c main_arg20 = m ((c : Thread nD τ).loc main_arg20) :=
  StableHlo.after_of_forall_not_mem (b := Proc.devRef .tc main_arg20) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg20 (c : Dev nD) : VEnd m c (Proc.devRef .tc main_arg20) = m ((c : Thread nD τ).loc main_arg20) :=
  (StableHlo.after_of_forall_not_mem (b := Proc.devRef .tc main_arg20) _ _ (List.forall_mem_singleton.mpr fun hm =>
    StableHlo.devRef_ne_of_ne (fun h => by cases h) (Finset.mem_singleton.mp hm))).trans
  ((Pipeline.withArrays_of_ne spec0 c _ _ main_arg20 (by decide)).trans ((Pipeline.withR_of_not_mem _ _ c _ main_arg20 (by decide)).trans (V_arg20 m c)))

/-- Unchanged before the launch. -/
theorem V_arg21 (c : Dev nD) : V m c main_arg21 = m ((c : Thread nD τ).loc main_arg21) :=
  StableHlo.after_of_forall_not_mem (b := Proc.devRef .tc main_arg21) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg21 (c : Dev nD) : VEnd m c (Proc.devRef .tc main_arg21) = m ((c : Thread nD τ).loc main_arg21) :=
  (StableHlo.after_of_forall_not_mem (b := Proc.devRef .tc main_arg21) _ _ (List.forall_mem_singleton.mpr fun hm =>
    StableHlo.devRef_ne_of_ne (fun h => by cases h) (Finset.mem_singleton.mp hm))).trans
  ((Pipeline.withArrays_of_ne spec0 c _ _ main_arg21 (by decide)).trans ((Pipeline.withR_of_not_mem _ _ c _ main_arg21 (by decide)).trans (V_arg21 m c)))

/-- Unchanged before the launch. -/
theorem V_arg22 (c : Dev nD) : V m c main_arg22 = m ((c : Thread nD τ).loc main_arg22) :=
  StableHlo.after_of_forall_not_mem (b := Proc.devRef .tc main_arg22) _ _ (List.forall_iff_forall_mem.mp (by
    simp only [List.Forall]; repeat' apply And.intro
    all_goals exact fun hm => StableHlo.devRef_ne_of_ne (fun h => by cases h) (Finset.mem_singleton.mp hm)))

/-- Unchanged before the launch. -/
theorem V_arg23 (c : Dev nD) : V m c main_arg23 = m ((c : Thread nD τ).loc main_arg23) :=
  StableHlo.after_of_forall_not_mem (b := Proc.devRef .tc main_arg23) _ _ (List.forall_iff_forall_mem.mp (by
    simp only [List.Forall]; repeat' apply And.intro
    all_goals exact fun hm => StableHlo.devRef_ne_of_ne (fun h => by cases h) (Finset.mem_singleton.mp hm)))

/-- Unchanged at the end. -/
theorem end_arg23 (c : Dev nD) : VEnd m c (Proc.devRef .tc main_arg23) = m ((c : Thread nD τ).loc main_arg23) :=
  (StableHlo.after_of_forall_not_mem (b := Proc.devRef .tc main_arg23) _ _ (List.forall_mem_singleton.mpr fun hm =>
    StableHlo.devRef_ne_of_ne (fun h => by cases h) (Finset.mem_singleton.mp hm))).trans
  ((Pipeline.withArrays_of_ne spec0 c _ _ main_arg23 (by decide)).trans ((Pipeline.withR_of_not_mem _ _ c _ main_arg23 (by decide)).trans (V_arg23 m c)))

set_option maxHeartbeats 2000000 in
/-- The run leaves every argument as it was and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  (θ_run defs _ _).mono (fun r h => ⟨fun c => ⟨((h.1 c).2 main_arg0 (by decide)).trans (end_arg0 m c),
    ((h.1 c).2 main_arg1 (by decide)).trans (end_arg1 m c),
    ((h.1 c).2 main_arg2 (by decide)).trans (end_arg2 m c),
    ((h.1 c).2 main_arg3 (by decide)).trans (end_arg3 m c),
    ((h.1 c).2 main_arg4 (by decide)).trans (end_arg4 m c),
    ((h.1 c).2 main_arg5 (by decide)).trans (end_arg5 m c),
    ((h.1 c).2 main_arg6 (by decide)).trans (end_arg6 m c),
    ((h.1 c).2 main_arg7 (by decide)).trans (end_arg7 m c),
    ((h.1 c).2 main_arg8 (by decide)).trans (end_arg8 m c),
    ((h.1 c).2 main_arg9 (by decide)).trans (end_arg9 m c),
    ((h.1 c).1 6).trans (((dats m 0 c).arrAt_in 6 rfl cfg0.N).trans ((A_eq m c 6).trans (V_arg10 m c))),
    ((h.1 c).2 main_arg11 (by decide)).trans (end_arg11 m c),
    ((h.1 c).2 main_arg12 (by decide)).trans (end_arg12 m c),
    ((h.1 c).2 main_arg13 (by decide)).trans (end_arg13 m c),
    ((h.1 c).2 main_arg14 (by decide)).trans (end_arg14 m c),
    ((h.1 c).2 main_arg15 (by decide)).trans (end_arg15 m c),
    ((h.1 c).1 10).trans (((dats m 0 c).arrAt_in 10 rfl cfg0.N).trans ((A_eq m c 10).trans (V_arg16 m c))),
    ((h.1 c).2 main_arg17 (by decide)).trans (end_arg17 m c),
    ((h.1 c).2 main_arg18 (by decide)).trans (end_arg18 m c),
    ((h.1 c).2 main_arg19 (by decide)).trans (end_arg19 m c),
    ((h.1 c).2 main_arg20 (by decide)).trans (end_arg20 m c),
    ((h.1 c).2 main_arg21 (by decide)).trans (end_arg21 m c),
    ((h.1 c).1 14).trans (((dats m 0 c).arrAt_in 14 rfl cfg0.N).trans ((A_eq m c 14).trans (V_arg22 m c))),
    ((h.1 c).2 main_arg23 (by decide)).trans (end_arg23 m c)⟩, h.2⟩) (run_main m ρ)

end Cert.KernelIdeal.Hand
end
-- ==== Proof.Blk.lean ====
module

public import proofs.«01_k».proof.Proof.Data
public import Idealize.ShloMosaic.Lib.Pipeline.ValueKit.Geometry
public import Idealize.ShloMosaic.Lib.Pointwise

@[expose] public section

set_option maxHeartbeats 2000000

noncomputable section

namespace Cert.KernelIdeal.Hand

open Cert.KernelIdeal Cert.KernelIdeal.Gen
open Idealize.ShloMosaic Idealize.ShloMosaic.TcCoe Idealize.SL.Sem

/-! What each window's block holds of its array, element by element. -/

variable (m : (ℓ : Loc nD τ sig) → Buf (Elt Ideal) ℓ)

/-- The block index of window 0 at every grid point. -/
theorem index_0 : ∀ t : Fin grid0.N, win0_0.index t = ![t.val / 3, min (t.val % 3) 1, 0] := by decide
/-- The block index of window 1 at every grid point. -/
theorem index_1 : ∀ t : Fin grid0.N, win0_1.index t = ![t.val / 3, min (t.val % 3) 1, 0] := by decide
/-- The block index of window 2 at every grid point. -/
theorem index_2 : ∀ t : Fin grid0.N, win0_2.index t = ![t.val / 3, 0, 0] := by decide
/-- The block index of window 3 at every grid point. -/
theorem index_3 : ∀ t : Fin grid0.N, win0_3.index t = ![t.val / 3, 0, 0] := by decide
/-- Window 4 stays at its array's one block. -/
theorem index_4 : ∀ t : Fin grid0.N, win0_4.index t = ![0, 0] := by decide
/-- Window 5 stays at its array's one block. -/
theorem index_5 : ∀ t : Fin grid0.N, win0_5.index t = ![0, 0] := by decide
/-- Window 6 stays at its array's one block. -/
theorem index_6 : ∀ t : Fin grid0.N, win0_6.index t = ![0, 0] := by decide
/-- Window 7 stays at its array's one block. -/
theorem index_7 : ∀ t : Fin grid0.N, win0_7.index t = ![0, 0] := by decide
/-- Window 8 stays at its array's one block. -/
theorem index_8 : ∀ t : Fin grid0.N, win0_8.index t = ![0, 0] := by decide
/-- Window 9 stays at its array's one block. -/
theorem index_9 : ∀ t : Fin grid0.N, win0_9.index t = ![0, 0] := by decide
/-- Window 10 stays at its array's one block. -/
theorem index_10 : ∀ t : Fin grid0.N, win0_10.index t = ![0, 0] := by decide
/-- Window 11 stays at its array's one block. -/
theorem index_11 : ∀ t : Fin grid0.N, win0_11.index t = ![0, 0] := by decide
/-- Window 12 stays at its array's one block. -/
theorem index_12 : ∀ t : Fin grid0.N, win0_12.index t = ![0, 0] := by decide
/-- Window 13 stays at its array's one block. -/
theorem index_13 : ∀ t : Fin grid0.N, win0_13.index t = ![0, 0] := by decide
/-- Window 14 stays at its array's one block. -/
theorem index_14 : ∀ t : Fin grid0.N, win0_14.index t = ![0, 0] := by decide
/-- Window 15 stays at its array's one block. -/
theorem index_15 : ∀ t : Fin grid0.N, win0_15.index t = ![0, 0] := by decide
/-- Window 16 stays at its array's one block. -/
theorem index_16 : ∀ t : Fin grid0.N, win0_16.index t = ![0, 0] := by decide

/-- Window 0's block in a half of the finest level. -/
theorem blk_0 (c : Dev nD) (b : Fin 16) (s : Fin 3) (hs : s.val ≤ 1) (j : Fin 3200) (k : Fin 256) :
    (iblk m c 0 (pt b s) : Vec Ideal S1x3200x256 .f32) (ix3 (0 : Fin 1) j k)
      = (V m c main_call0_v1 : FVec Ideal S16x6400x256 .f32) (ix3 b (⟨3200 * s.val + j.val, by omega⟩ : Fin 6400) k) := by
  blk_ext [iblk, index_0]

/-- Window 1's block in a half of the finest level. -/
theorem blk_1 (c : Dev nD) (b : Fin 16) (s : Fin 3) (hs : s.val ≤ 1) (j : Fin 3200) (k : Fin 256) :
    (iblk m c 1 (pt b s) : Vec Ideal S1x3200x256 .f32) (ix3 (0 : Fin 1) j k)
      = (V m c main_call0_v3 : FVec Ideal S16x6400x256 .f32) (ix3 b (⟨3200 * s.val + j.val, by omega⟩ : Fin 6400) k) := by
  blk_ext [iblk, index_1]

/-- Window 2's block: one batch entry's map. -/
theorem blk_2 (c : Dev nD) (b : Fin 16) (s : Fin 3) (j : Fin 1600) (k : Fin 256) :
    (iblk m c 2 (pt b s) : Vec Ideal S1x1600x256 .f32) (ix3 (0 : Fin 1) j k)
      = (V m c main_call0_v5 : FVec Ideal S16x1600x256 .f32) (ix3 b j k) := by
  blk_ext [iblk, index_2]

/-- Window 3's block: one batch entry's map. -/
theorem blk_3 (c : Dev nD) (b : Fin 16) (s : Fin 3) (j : Fin 1600) (k : Fin 256) :
    (iblk m c 3 (pt b s) : Vec Ideal S1x1600x256 .f32) (ix3 (0 : Fin 1) j k)
      = (V m c main_call0_v7 : FVec Ideal S16x1600x256 .f32) (ix3 b j k) := by
  blk_ext [iblk, index_3]

/-- Window 4's block is its whole array. -/
theorem blk_4 (c : Dev nD) (t : Fin cfg0.N) (r : Fin 152) (k : Fin 256) :
    (iblk m c 4 t : Vec Ideal S152x256 .f32) (ix2 r k) = (V m c main_call0_v12 : FVec Ideal S152x256 .f32) (ix2 r k) := by
  blk_ext [iblk, index_4]

/-- Window 5's block is its whole array. -/
theorem blk_5 (c : Dev nD) (t : Fin cfg0.N) (r : Fin 152) (k : Fin 256) :
    (iblk m c 5 t : Vec Ideal S152x256 .f32) (ix2 r k) = (V m c main_call0_v15 : FVec Ideal S152x256 .f32) (ix2 r k) := by
  blk_ext [iblk, index_5]

/-- Window 6's block is its whole array. -/
theorem blk_6 (c : Dev nD) (t : Fin cfg0.N) (r : Fin 64) (k : Fin 256) :
    (iblk m c 6 t : Vec Ideal S64x256 .f32) (ix2 r k) = (V m c main_arg10 : FVec Ideal S64x256 .f32) (ix2 r k) := by
  blk_ext [iblk, index_6]

/-- Window 7's block is its whole array. -/
theorem blk_7 (c : Dev nD) (t : Fin cfg0.N) (r : Fin 152) (k : Fin 1) :
    (iblk m c 7 t : Vec Ideal S152x1 .f32) (ix2 r k) = (V m c main_call0_v18 : FVec Ideal S152x1 .f32) (ix2 r k) := by
  blk_ext [iblk, index_7]

/-- Window 8's block is its whole array. -/
theorem blk_8 (c : Dev nD) (t : Fin cfg0.N) (r : Fin 152) (k : Fin 256) :
    (iblk m c 8 t : Vec Ideal S152x256 .f32) (ix2 r k) = (V m c main_call0_v21 : FVec Ideal S152x256 .f32) (ix2 r k) := by
  blk_ext [iblk, index_8]

/-- Window 9's block is its whole array. -/
theorem blk_9 (c : Dev nD) (t : Fin cfg0.N) (r : Fin 152) (k : Fin 256) :
    (iblk m c 9 t : Vec Ideal S152x256 .f32) (ix2 r k) = (V m c main_call0_v24 : FVec Ideal S152x256 .f32) (ix2 r k) := by
  blk_ext [iblk, index_9]

/-- Window 10's block is its whole array. -/
theorem blk_10 (c : Dev nD) (t : Fin cfg0.N) (r : Fin 64) (k : Fin 256) :
    (iblk m c 10 t : Vec Ideal S64x256 .f32) (ix2 r k) = (V m c main_arg16 : FVec Ideal S64x256 .f32) (ix2 r k) := by
  blk_ext [iblk, index_10]

/-- Window 11's block is its whole array. -/
theorem blk_11 (c : Dev nD) (t : Fin cfg0.N) (r : Fin 152) (k : Fin 1) :
    (iblk m c 11 t : Vec Ideal S152x1 .f32) (ix2 r k) = (V m c main_call0_v27 : FVec Ideal S152x1 .f32) (ix2 r k) := by
  blk_ext [iblk, index_11]

/-- Window 12's block is its whole array. -/
theorem blk_12 (c : Dev nD) (t : Fin cfg0.N) (r : Fin 152) (k : Fin 256) :
    (iblk m c 12 t : Vec Ideal S152x256 .f32) (ix2 r k) = (V m c main_call0_v30 : FVec Ideal S152x256 .f32) (ix2 r k) := by
  blk_ext [iblk, index_12]

/-- Window 13's block is its whole array. -/
theorem blk_13 (c : Dev nD) (t : Fin cfg0.N) (r : Fin 152) (k : Fin 256) :
    (iblk m c 13 t : Vec Ideal S152x256 .f32) (ix2 r k) = (V m c main_call0_v33 : FVec Ideal S152x256 .f32) (ix2 r k) := by
  blk_ext [iblk, index_13]

/-- Window 14's block is its whole array. -/
theorem blk_14 (c : Dev nD) (t : Fin cfg0.N) (r : Fin 64) (k : Fin 256) :
    (iblk m c 14 t : Vec Ideal S64x256 .f32) (ix2 r k) = (V m c main_arg22 : FVec Ideal S64x256 .f32) (ix2 r k) := by
  blk_ext [iblk, index_14]

/-- Window 15's block is its whole array. -/
theorem blk_15 (c : Dev nD) (t : Fin cfg0.N) (r : Fin 152) (k : Fin 1) :
    (iblk m c 15 t : Vec Ideal S152x1 .f32) (ix2 r k) = (V m c main_call0_v36 : FVec Ideal S152x1 .f32) (ix2 r k) := by
  blk_ext [iblk, index_15]

/-- Window 16's block is its whole array. -/
theorem blk_16 (c : Dev nD) (t : Fin cfg0.N) (r : Fin 8) (k : Fin 64) :
    (iblk m c 16 t : Vec Ideal S8x64 .f32) (ix2 r k) = (V m c main_call0_cst : FVec Ideal S8x64 .f32) (ix2 r k) := by
  blk_ext [iblk, index_16]

/-- The unit axis may be dropped. -/
theorem castS : (⟨4, ![20, 20, 1, 256]⟩ : Shape).ShapeCasts S20x20x256 := by decide

/-- One batch entry's image in a coarsest-level map. -/
theorem T6_at (c : Dev nD) (b : Fin 16) (h w : Fin 20) (k : Fin 256) :
    T6 m c b (ix3 h w k) = (V m c main_call0_v8 : FVec Ideal S20x20x16x256 .f32) (ix4 h w b k) := by
  unfold T6
  rw [show (wS a6 b).view.read (Elt Ideal) (V m c main_call0_v8) (ix3 h w k) = _ from
    congrFun (Memref.read_squeeze_slice a6 _ (fun _ => rfl) squeezes_S20x20x1x256_S20x20x256 castS (V m c main_call0_v8)) (ix3 h w k)]
  rw [View.readAt_eq_ld]
  refine (shapeCast_apply _ castS (ix3 h w k) (ix4 h w (0 : Fin 1) k) (by
    rw [Shape.rowMajor_val_three, Shape.rowMajor_val_four]
    show ((h.val * 20 + w.val) * 1 + 0) * 256 + k.val = (h.val * 20 + w.val) * 256 + k.val
    omega)).trans ?_
  refine congrArg (V m c main_call0_v8 : FVec Ideal S20x20x16x256 .f32) (funext fun a => Fin.ext ?_)
  fin_cases a
  · show 0 + 1 * h.val = h.val; omega
  · show 0 + 1 * w.val = w.val; omega
  · show b.val + 1 * 0 = b.val; omega
  · show 0 + 1 * k.val = k.val; omega

/-- One batch entry's image in a coarsest-level map. -/
theorem T7_at (c : Dev nD) (b : Fin 16) (h w : Fin 20) (k : Fin 256) :
    T7 m c b (ix3 h w k) = (V m c main_call0_v9 : FVec Ideal S20x20x16x256 .f32) (ix4 h w b k) := by
  unfold T7
  rw [show (wS a7 b).view.read (Elt Ideal) (V m c main_call0_v9) (ix3 h w k) = _ from
    congrFun (Memref.read_squeeze_slice a7 _ (fun _ => rfl) squeezes_S20x20x1x256_S20x20x256 castS (V m c main_call0_v9)) (ix3 h w k)]
  rw [View.readAt_eq_ld]
  refine (shapeCast_apply _ castS (ix3 h w k) (ix4 h w (0 : Fin 1) k) (by
    rw [Shape.rowMajor_val_three, Shape.rowMajor_val_four]
    show ((h.val * 20 + w.val) * 1 + 0) * 256 + k.val = (h.val * 20 + w.val) * 256 + k.val
    omega)).trans ?_
  refine congrArg (V m c main_call0_v9 : FVec Ideal S20x20x16x256 .f32) (funext fun a => Fin.ext ?_)
  fin_cases a
  · show 0 + 1 * h.val = h.val; omega
  · show 0 + 1 * w.val = w.val; omega
  · show b.val + 1 * 0 = b.val; omega
  · show 0 + 1 * k.val = k.val; omega

end Cert.KernelIdeal.Hand

end
-- ==== Proof.HostS.lean ====
module

public import proofs.«01_k».proof.Proof.Data
public import Idealize.ShloMosaic.Lib.Pointwise
public import Idealize.ShloMosaic.Lib.Claim
public import Idealize.ShloMosaic.Lib.StableHlo.ReadAt
public import Idealize.ShloMosaic.PureOps.Ideal.Laws

@[expose] public section

set_option maxHeartbeats 1000000

noncomputable section

namespace Cert.KernelIdeal.Hand

open Cert.KernelIdeal Cert.KernelIdeal.Gen
open Idealize.ShloMosaic Idealize.ShloMosaic.TcCoe Idealize.SL.Sem

/-! What the host lines before the launch put into its operands, element by element. -/

variable (m : (ℓ : Loc nD τ sig) → Buf (Elt Ideal) ℓ)

/-- Operand `v1`: a feature map with its pixels in one axis and its channels last. -/
theorem host_v1 (c : Dev nD) (b : Fin 16) (j : Fin 6400) (k : Fin 256) : (V m c main_call0_v1 : FVec Ideal S16x6400x256 .f32) (ix3 b j k) = (m (c, Proc.devRef .tc main_arg0) : FVec Ideal S16x256x80x80 .f32) (ix4 b k (⟨j.val / 80, by omega⟩ : Fin 80) (⟨j.val % 80, by omega⟩ : Fin 80)) := by
  unfold V V₀
  after_reads_at

/-- Operand `v3`: a feature map with its pixels in one axis and its channels last. -/
theorem host_v3 (c : Dev nD) (b : Fin 16) (j : Fin 6400) (k : Fin 256) : (V m c main_call0_v3 : FVec Ideal S16x6400x256 .f32) (ix3 b j k) = (m (c, Proc.devRef .tc main_arg3) : FVec Ideal S16x256x80x80 .f32) (ix4 b k (⟨j.val / 80, by omega⟩ : Fin 80) (⟨j.val % 80, by omega⟩ : Fin 80)) := by
  unfold V V₀
  after_reads_at

/-- Operand `v5`: a feature map with its pixels in one axis and its channels last. -/
theorem host_v5 (c : Dev nD) (b : Fin 16) (j : Fin 1600) (k : Fin 256) : (V m c main_call0_v5 : FVec Ideal S16x1600x256 .f32) (ix3 b j k) = (m (c, Proc.devRef .tc main_arg1) : FVec Ideal S16x256x40x40 .f32) (ix4 b k (⟨j.val / 40, by omega⟩ : Fin 40) (⟨j.val % 40, by omega⟩ : Fin 40)) := by
  unfold V V₀
  after_reads_at

/-- Operand `v7`: a feature map with its pixels in one axis and its channels last. -/
theorem host_v7 (c : Dev nD) (b : Fin 16) (j : Fin 1600) (k : Fin 256) : (V m c main_call0_v7 : FVec Ideal S16x1600x256 .f32) (ix3 b j k) = (m (c, Proc.devRef .tc main_arg4) : FVec Ideal S16x256x40x40 .f32) (ix4 b k (⟨j.val / 40, by omega⟩ : Fin 40) (⟨j.val % 40, by omega⟩ : Fin 40)) := by
  unfold V V₀
  after_reads_at

/-- Operand `v8`: a coarsest-level feature map with its pixels first. -/
theorem host_v8 (c : Dev nD) (h w : Fin 20) (b : Fin 16) (k : Fin 256) : (V m c main_call0_v8 : FVec Ideal S20x20x16x256 .f32) (ix4 h w b k) = (m (c, Proc.devRef .tc main_arg2) : FVec Ideal S16x256x20x20 .f32) (ix4 b k h w) := by
  unfold V V₀
  after_reads_at

/-- Operand `v9`: a coarsest-level feature map with its pixels first. -/
theorem host_v9 (c : Dev nD) (h w : Fin 20) (b : Fin 16) (k : Fin 256) : (V m c main_call0_v9 : FVec Ideal S20x20x16x256 .f32) (ix4 h w b k) = (m (c, Proc.devRef .tc main_arg5) : FVec Ideal S16x256x20x20 .f32) (ix4 b k h w) := by
  unfold V V₀
  after_reads_at

/-- The table of the bins, a literal. -/
theorem host_cst (c : Dev nD) (r : Fin 8) (k : Fin 64) : (V m c main_call0_cst : FVec Ideal S8x64 .f32) (ix2 r k) = Ideal.ofBits .f32 (lit0 (S8x64.rowMajor (ix2 r k))) := by
  unfold V V₀
  after_reads_at

end Cert.KernelIdeal.Hand

end
-- ==== Proof.HostA.lean ====
module

public import proofs.«01_k».proof.Proof.Data
public import Idealize.ShloMosaic.Lib.Pointwise
public import Idealize.ShloMosaic.Lib.Claim
public import Idealize.ShloMosaic.Lib.StableHlo.ReadAt
public import Idealize.ShloMosaic.PureOps.Ideal.Laws

@[expose] public section

set_option maxHeartbeats 1000000

noncomputable section

namespace Cert.KernelIdeal.Hand

open Cert.KernelIdeal Cert.KernelIdeal.Gen
open Idealize.ShloMosaic Idealize.ShloMosaic.TcCoe Idealize.SL.Sem

/-! What the host lines before the launch put into its operands, element by element. -/

variable (m : (ℓ : Loc nD τ sig) → Buf (Elt Ideal) ℓ)

/-- Operand `v12`: the class weights in rows 1 to 80, zeros around them. -/
theorem host_v12 (c : Dev nD) (r : Fin 152) (k : Fin 256) : (V m c main_call0_v12 : FVec Ideal S152x256 .f32) (ix2 r k)
    = if r.val < 1 then (0 : EReal) else if h : r.val - 1 < 80 then (m (c, Proc.devRef .tc main_arg8) : FVec Ideal S80x256 .f32) (ix2 (⟨r.val - 1, h⟩ : Fin 80) k) else (0 : EReal) := by
  unfold V V₀
  after_reads_at
  split_ifs
  all_goals try (rename_i h; exact (h rfl).elim)
  · show (StableHlo.upto hostOps0 (fun b => m (c, b)) _ (Proc.devRef .tc main_call0_v10) : FVec Ideal S1x256 .f32) _ = _
    after_reads_at
  · show (StableHlo.upto hostOps0 (fun b => m (c, b)) _ (Proc.devRef .tc main_arg8) : FVec Ideal S80x256 .f32) _ = _
    after_reads_at
  · show (StableHlo.upto hostOps0 (fun b => m (c, b)) _ (Proc.devRef .tc main_call0_v11) : FVec Ideal S71x256 .f32) _ = _
    after_reads_at

/-- Operand `v15`: the objectness weight in row 0, the box weights in rows 81 to 144, zeros elsewhere. -/
theorem host_v15 (c : Dev nD) (r : Fin 152) (k : Fin 256) : (V m c main_call0_v15 : FVec Ideal S152x256 .f32) (ix2 r k)
    = if h0 : r.val < 1 then (m (c, Proc.devRef .tc main_arg6) : FVec Ideal S1x256 .f32) (ix2 (⟨r.val, h0⟩ : Fin 1) k) else if h : r.val - 1 < 80 then (0 : EReal)
      else if h : r.val - 1 - 80 < 64 then (m (c, Proc.devRef .tc main_arg10) : FVec Ideal S64x256 .f32) (ix2 (⟨r.val - 1 - 80, h⟩ : Fin 64) k) else (0 : EReal) := by
  unfold V V₀
  after_reads_at
  split_ifs
  all_goals try (rename_i h; exact (h rfl).elim)
  · show (StableHlo.upto hostOps0 (fun b => m (c, b)) _ (Proc.devRef .tc main_arg6) : FVec Ideal S1x256 .f32) _ = _
    after_reads_at
  · show (StableHlo.upto hostOps0 (fun b => m (c, b)) _ (Proc.devRef .tc main_call0_v13) : FVec Ideal S80x256 .f32) _ = _
    after_reads_at
  · show (StableHlo.upto hostOps0 (fun b => m (c, b)) _ (Proc.devRef .tc main_arg10) : FVec Ideal S64x256 .f32) _ = _
    after_reads_at
  · show (StableHlo.upto hostOps0 (fun b => m (c, b)) _ (Proc.devRef .tc main_call0_v14) : FVec Ideal S7x256 .f32) _ = _
    after_reads_at

/-- Operand `v18`: the three biases one below the other. -/
theorem host_v18 (c : Dev nD) (r : Fin 152) : (V m c main_call0_v18 : FVec Ideal S152x1 .f32) (ix2 r (0 : Fin 1))
    = if h0 : r.val < 1 then (m (c, Proc.devRef .tc main_arg7) : FVec Ideal S1 .f32) (ix1 (⟨r.val, h0⟩ : Fin 1)) else if h : r.val - 1 < 80 then (m (c, Proc.devRef .tc main_arg9) : FVec Ideal S80 .f32) (ix1 (⟨r.val - 1, h⟩ : Fin 80))
      else if h : r.val - 1 - 80 < 64 then (m (c, Proc.devRef .tc main_arg11) : FVec Ideal S64 .f32) (ix1 (⟨r.val - 1 - 80, h⟩ : Fin 64)) else (0 : EReal) := by
  unfold V V₀
  after_reads_at
  split_ifs
  all_goals try (rename_i h; exact (h rfl).elim)
  · show (StableHlo.upto hostOps0 (fun b => m (c, b)) _ (Proc.devRef .tc main_arg7) : FVec Ideal S1 .f32) _ = _
    after_reads_at
  · show (StableHlo.upto hostOps0 (fun b => m (c, b)) _ (Proc.devRef .tc main_arg9) : FVec Ideal S80 .f32) _ = _
    after_reads_at
  · show (StableHlo.upto hostOps0 (fun b => m (c, b)) _ (Proc.devRef .tc main_arg11) : FVec Ideal S64 .f32) _ = _
    after_reads_at
  · show (StableHlo.upto hostOps0 (fun b => m (c, b)) _ (Proc.devRef .tc main_call0_v16) : FVec Ideal S7 .f32) _ = _
    after_reads_at

end Cert.KernelIdeal.Hand

end
-- ==== Proof.HostB.lean ====
module

public import proofs.«01_k».proof.Proof.Data
public import Idealize.ShloMosaic.Lib.Pointwise
public import Idealize.ShloMosaic.Lib.Claim
public import Idealize.ShloMosaic.Lib.StableHlo.ReadAt
public import Idealize.ShloMosaic.PureOps.Ideal.Laws

@[expose] public section

set_option maxHeartbeats 1000000

noncomputable section

namespace Cert.KernelIdeal.Hand

open Cert.KernelIdeal Cert.KernelIdeal.Gen
open Idealize.ShloMosaic Idealize.ShloMosaic.TcCoe Idealize.SL.Sem

/-! What the host lines before the launch put into its operands, element by element. -/

variable (m : (ℓ : Loc nD τ sig) → Buf (Elt Ideal) ℓ)

/-- Operand `v21`: the class weights in rows 1 to 80, zeros around them. -/
theorem host_v21 (c : Dev nD) (r : Fin 152) (k : Fin 256) : (V m c main_call0_v21 : FVec Ideal S152x256 .f32) (ix2 r k)
    = if r.val < 1 then (0 : EReal) else if h : r.val - 1 < 80 then (m (c, Proc.devRef .tc main_arg14) : FVec Ideal S80x256 .f32) (ix2 (⟨r.val - 1, h⟩ : Fin 80) k) else (0 : EReal) := by
  unfold V V₀
  after_reads_at
  split_ifs
  all_goals try (rename_i h; exact (h rfl).elim)
  · show (StableHlo.upto hostOps0 (fun b => m (c, b)) _ (Proc.devRef .tc main_call0_v19) : FVec Ideal S1x256 .f32) _ = _
    after_reads_at
  · show (StableHlo.upto hostOps0 (fun b => m (c, b)) _ (Proc.devRef .tc main_arg14) : FVec Ideal S80x256 .f32) _ = _
    after_reads_at
  · show (StableHlo.upto hostOps0 (fun b => m (c, b)) _ (Proc.devRef .tc main_call0_v20) : FVec Ideal S71x256 .f32) _ = _
    after_reads_at

/-- Operand `v24`: the objectness weight in row 0, the box weights in rows 81 to 144, zeros elsewhere. -/
theorem host_v24 (c : Dev nD) (r : Fin 152) (k : Fin 256) : (V m c main_call0_v24 : FVec Ideal S152x256 .f32) (ix2 r k)
    = if h0 : r.val < 1 then (m (c, Proc.devRef .tc main_arg12) : FVec Ideal S1x256 .f32) (ix2 (⟨r.val, h0⟩ : Fin 1) k) else if h : r.val - 1 < 80 then (0 : EReal)
      else if h : r.val - 1 - 80 < 64 then (m (c, Proc.devRef .tc main_arg16) : FVec Ideal S64x256 .f32) (ix2 (⟨r.val - 1 - 80, h⟩ : Fin 64) k) else (0 : EReal) := by
  unfold V V₀
  after_reads_at
  split_ifs
  all_goals try (rename_i h; exact (h rfl).elim)
  · show (StableHlo.upto hostOps0 (fun b => m (c, b)) _ (Proc.devRef .tc main_arg12) : FVec Ideal S1x256 .f32) _ = _
    after_reads_at
  · show (StableHlo.upto hostOps0 (fun b => m (c, b)) _ (Proc.devRef .tc main_call0_v22) : FVec Ideal S80x256 .f32) _ = _
    after_reads_at
  · show (StableHlo.upto hostOps0 (fun b => m (c, b)) _ (Proc.devRef .tc main_arg16) : FVec Ideal S64x256 .f32) _ = _
    after_reads_at
  · show (StableHlo.upto hostOps0 (fun b => m (c, b)) _ (Proc.devRef .tc main_call0_v23) : FVec Ideal S7x256 .f32) _ = _
    after_reads_at

/-- Operand `v27`: the three biases one below the other. -/
theorem host_v27 (c : Dev nD) (r : Fin 152) : (V m c main_call0_v27 : FVec Ideal S152x1 .f32) (ix2 r (0 : Fin 1))
    = if h0 : r.val < 1 then (m (c, Proc.devRef .tc main_arg13) : FVec Ideal S1 .f32) (ix1 (⟨r.val, h0⟩ : Fin 1)) else if h : r.val - 1 < 80 then (m (c, Proc.devRef .tc main_arg15) : FVec Ideal S80 .f32) (ix1 (⟨r.val - 1, h⟩ : Fin 80))
      else if h : r.val - 1 - 80 < 64 then (m (c, Proc.devRef .tc main_arg17) : FVec Ideal S64 .f32) (ix1 (⟨r.val - 1 - 80, h⟩ : Fin 64)) else (0 : EReal) := by
  unfold V V₀
  after_reads_at
  split_ifs
  all_goals try (rename_i h; exact (h rfl).elim)
  · show (StableHlo.upto hostOps0 (fun b => m (c, b)) _ (Proc.devRef .tc main_arg13) : FVec Ideal S1 .f32) _ = _
    after_reads_at
  · show (StableHlo.upto hostOps0 (fun b => m (c, b)) _ (Proc.devRef .tc main_arg15) : FVec Ideal S80 .f32) _ = _
    after_reads_at
  · show (StableHlo.upto hostOps0 (fun b => m (c, b)) _ (Proc.devRef .tc main_arg17) : FVec Ideal S64 .f32) _ = _
    after_reads_at
  · show (StableHlo.upto hostOps0 (fun b => m (c, b)) _ (Proc.devRef .tc main_call0_v25) : FVec Ideal S7 .f32) _ = _
    after_reads_at

end Cert.KernelIdeal.Hand

end
-- ==== Proof.HostC.lean ====
module

public import proofs.«01_k».proof.Proof.Data
public import Idealize.ShloMosaic.Lib.Pointwise
public import Idealize.ShloMosaic.Lib.Claim
public import Idealize.ShloMosaic.Lib.StableHlo.ReadAt
public import Idealize.ShloMosaic.PureOps.Ideal.Laws

@[expose] public section

set_option maxHeartbeats 1000000

noncomputable section

namespace Cert.KernelIdeal.Hand

open Cert.KernelIdeal Cert.KernelIdeal.Gen
open Idealize.ShloMosaic Idealize.ShloMosaic.TcCoe Idealize.SL.Sem

/-! What the host lines before the launch put into its operands, element by element. -/

variable (m : (ℓ : Loc nD τ sig) → Buf (Elt Ideal) ℓ)

/-- Operand `v30`: the class weights in rows 1 to 80, zeros around them. -/
theorem host_v30 (c : Dev nD) (r : Fin 152) (k : Fin 256) : (V m c main_call0_v30 : FVec Ideal S152x256 .f32) (ix2 r k)
    = if r.val < 1 then (0 : EReal) else if h : r.val - 1 < 80 then (m (c, Proc.devRef .tc main_arg20) : FVec Ideal S80x256 .f32) (ix2 (⟨r.val - 1, h⟩ : Fin 80) k) else (0 : EReal) := by
  unfold V V₀
  after_reads_at
  split_ifs
  all_goals try (rename_i h; exact (h rfl).elim)
  · show (StableHlo.upto hostOps0 (fun b => m (c, b)) _ (Proc.devRef .tc main_call0_v28) : FVec Ideal S1x256 .f32) _ = _
    after_reads_at
  · show (StableHlo.upto hostOps0 (fun b => m (c, b)) _ (Proc.devRef .tc main_arg20) : FVec Ideal S80x256 .f32) _ = _
    after_reads_at
  · show (StableHlo.upto hostOps0 (fun b => m (c, b)) _ (Proc.devRef .tc main_call0_v29) : FVec Ideal S71x256 .f32) _ = _
    after_reads_at

/-- Operand `v33`: the objectness weight in row 0, the box weights in rows 81 to 144, zeros elsewhere. -/
theorem host_v33 (c : Dev nD) (r : Fin 152) (k : Fin 256) : (V m c main_call0_v33 : FVec Ideal S152x256 .f32) (ix2 r k)
    = if h0 : r.val < 1 then (m (c, Proc.devRef .tc main_arg18) : FVec Ideal S1x256 .f32) (ix2 (⟨r.val, h0⟩ : Fin 1) k) else if h : r.val - 1 < 80 then (0 : EReal)
      else if h : r.val - 1 - 80 < 64 then (m (c, Proc.devRef .tc main_arg22) : FVec Ideal S64x256 .f32) (ix2 (⟨r.val - 1 - 80, h⟩ : Fin 64) k) else (0 : EReal) := by
  unfold V V₀
  after_reads_at
  split_ifs
  all_goals try (rename_i h; exact (h rfl).elim)
  · show (StableHlo.upto hostOps0 (fun b => m (c, b)) _ (Proc.devRef .tc main_arg18) : FVec Ideal S1x256 .f32) _ = _
    after_reads_at
  · show (StableHlo.upto hostOps0 (fun b => m (c, b)) _ (Proc.devRef .tc main_call0_v31) : FVec Ideal S80x256 .f32) _ = _
    after_reads_at
  · show (StableHlo.upto hostOps0 (fun b => m (c, b)) _ (Proc.devRef .tc main_arg22) : FVec Ideal S64x256 .f32) _ = _
    after_reads_at
  · show (StableHlo.upto hostOps0 (fun b => m (c, b)) _ (Proc.devRef .tc main_call0_v32) : FVec Ideal S7x256 .f32) _ = _
    after_reads_at

/-- Operand `v36`: the three biases one below the other. -/
theorem host_v36 (c : Dev nD) (r : Fin 152) : (V m c main_call0_v36 : FVec Ideal S152x1 .f32) (ix2 r (0 : Fin 1))
    = if h0 : r.val < 1 then (m (c, Proc.devRef .tc main_arg19) : FVec Ideal S1 .f32) (ix1 (⟨r.val, h0⟩ : Fin 1)) else if h : r.val - 1 < 80 then (m (c, Proc.devRef .tc main_arg21) : FVec Ideal S80 .f32) (ix1 (⟨r.val - 1, h⟩ : Fin 80))
      else if h : r.val - 1 - 80 < 64 then (m (c, Proc.devRef .tc main_arg23) : FVec Ideal S64 .f32) (ix1 (⟨r.val - 1 - 80, h⟩ : Fin 64)) else (0 : EReal) := by
  unfold V V₀
  after_reads_at
  split_ifs
  all_goals try (rename_i h; exact (h rfl).elim)
  · show (StableHlo.upto hostOps0 (fun b => m (c, b)) _ (Proc.devRef .tc main_arg19) : FVec Ideal S1 .f32) _ = _
    after_reads_at
  · show (StableHlo.upto hostOps0 (fun b => m (c, b)) _ (Proc.devRef .tc main_arg21) : FVec Ideal S80 .f32) _ = _
    after_reads_at
  · show (StableHlo.upto hostOps0 (fun b => m (c, b)) _ (Proc.devRef .tc main_arg23) : FVec Ideal S64 .f32) _ = _
    after_reads_at
  · show (StableHlo.upto hostOps0 (fun b => m (c, b)) _ (Proc.devRef .tc main_call0_v34) : FVec Ideal S7 .f32) _ = _
    after_reads_at

end Cert.KernelIdeal.Hand

end
-- ==== Proof.Spec.lean ====
module

public import Idealize.ShloMosaic.PureOps.Ideal
public import Idealize.ShloMosaic.PureOps.Ideal.Laws
public import Idealize.ShloMosaic.Lib.Pointwise

@[expose] public section

set_option maxHeartbeats 1000000

noncomputable section

namespace Cert.Head

open Idealize.ShloMosaic

/-! One pixel of one level of the detection head, as a function of the pixel's two feature rows and of the level's
    weights: what both programs are proved to compute. -/

/-- A linear layer of one output: a dot product and a bias. -/
def lin (x w : Fin 256 → EReal) (b : EReal) : EReal := (∑ k, x k * w k) + b

/-- The centres of a side's sixteen bins, as the words of the printed table. -/
def binWord : Fin 16 → BitVec 32 := ![0x00000000#32, 0x3F888889#32, 0x40088889#32, 0x404CCCCD#32, 0x40888889#32, 0x40AAAAAB#32, 0x40CCCCCD#32, 0x40EEEEEF#32,
  0x41088889#32, 0x4119999A#32, 0x412AAAAB#32, 0x413BBBBC#32, 0x414CCCCD#32, 0x415DDDDE#32, 0x416EEEEF#32, 0x41800000#32]
/-- The centre of a bin. -/
def cen (t : Fin 16) : EReal := Ideal.ofBits .f32 (binWord t)

/-- A side's distance from its sixteen logits: the mean of the centres weighed by the exponentials, written as one quotient. -/
def dist (l : Fin 16 → EReal) : EReal := Ideal.div (∑ t, cen t * Ideal.exp (l t)) (∑ t, Ideal.exp (l t))

/-- A pixel's coordinate on the image: its number plus a half, times the stride. -/
def anchor (n : ℕ) (s : EReal) : EReal := (FloatOps.sitofp (F := Ideal) .f32 (BitVec.ofNat 32 n) + Ideal.ofBits .f32 1056964608#32) * s

/-- A level's weights: objectness, classes, boxes. -/
structure Wts where
  ow : Fin 256 → EReal
  ob : EReal
  cw : Fin 80 → Fin 256 → EReal
  cb : Fin 80 → EReal
  rw : Fin 64 → Fin 256 → EReal
  rb : Fin 64 → EReal

/-- The distance of side `q` of a pixel's box. -/
def Wts.side (W : Wts) (xr : Fin 256 → EReal) (q : Fin 4) : EReal :=
  dist fun t => lin xr (W.rw ⟨q.val * 16 + t.val, by omega⟩) (W.rb ⟨q.val * 16 + t.val, by omega⟩)

/-- A pixel's first 145 entries: objectness, class scores, box logits. -/
def Wts.row (W : Wts) (xc xr : Fin 256 → EReal) (r : Fin 145) : EReal :=
  if r.val < 1 then lin xr W.ow W.ob
  else if h : r.val - 1 < 80 then lin xc (W.cw ⟨r.val - 1, h⟩) (W.cb ⟨r.val - 1, h⟩)
  else lin xr (W.rw ⟨r.val - 1 - 80, by omega⟩) (W.rb ⟨r.val - 1 - 80, by omega⟩)

/-- A pixel's box: two corners, each coordinate an anchor less or plus a distance times the stride. -/
def Wts.box (W : Wts) (xr : Fin 256 → EReal) (s : EReal) (cx cy : ℕ) (q : Fin 4) : EReal :=
  if q.val < 2 then anchor (if q.val = 0 then cx else cy) s - W.side xr q * s
  else anchor (if q.val = 2 then cx else cy) s + W.side xr q * s

/-- All 149 entries of a pixel. -/
def Wts.out (W : Wts) (xc xr : Fin 256 → EReal) (s : EReal) (cx cy : ℕ) (e : Fin 149) : EReal :=
  if h : e.val < 145 then W.row xc xr ⟨e.val, h⟩ else W.box xr s cx cy ⟨e.val - 145, by omega⟩

/-- A level's weights out of its six arrays. -/
def Wts.of (ow : FVec Ideal ⟨2, ![1, 256]⟩ .f32) (ob : FVec Ideal ⟨1, ![1]⟩ .f32) (cw : FVec Ideal ⟨2, ![80, 256]⟩ .f32) (cb : FVec Ideal ⟨1, ![80]⟩ .f32)
    (rw : FVec Ideal ⟨2, ![64, 256]⟩ .f32) (rb : FVec Ideal ⟨1, ![64]⟩ .f32) : Wts where
  ow k := ow (ix2 (0 : Fin 1) k)
  ob := ob (ix1 (0 : Fin 1))
  cw i k := cw (ix2 i k)
  cb i := cb (ix1 i)
  rw i k := rw (ix2 i k)
  rb i := rb (ix1 i)

/-- A pixel's features in a map of `n` pixels a side, pixels counted row by row. -/
def feat {n : ℕ} (x : FVec Ideal ⟨4, ![16, 256, n, n]⟩ .f32) (b : Fin 16) (j : ℕ) (hj : j < n * n) (k : Fin 256) : EReal :=
  x (ix4 b k (⟨j / n, Nat.div_lt_of_lt_mul hj⟩ : Fin n) (⟨j % n, Nat.mod_lt _ (Nat.pos_of_ne_zero (by rintro rfl; simp at hj))⟩ : Fin n))

/-- The whole result: the three levels' pixels one after another. -/
def result (c0 r0 : FVec Ideal ⟨4, ![16, 256, 80, 80]⟩ .f32) (c1 r1 : FVec Ideal ⟨4, ![16, 256, 40, 40]⟩ .f32) (c2 r2 : FVec Ideal ⟨4, ![16, 256, 20, 20]⟩ .f32)
    (W0 W1 W2 : Wts) (b : Fin 16) (n : Fin 8400) (e : Fin 149) : EReal :=
  if h : n.val < 6400 then W0.out (feat c0 b n.val h) (feat r0 b n.val h) (Ideal.ofBits .f32 1090519040#32) (n.val % 80) (n.val / 80) e
  else if h : n.val - 6400 < 1600 then W1.out (feat c1 b (n.val - 6400) h) (feat r1 b (n.val - 6400) h) (Ideal.ofBits .f32 1098907648#32) ((n.val - 6400) % 40) ((n.val - 6400) / 40) e
  else W2.out (feat c2 b (n.val - 6400 - 1600) (by omega)) (feat r2 b (n.val - 6400 - 1600) (by omega)) (Ideal.ofBits .f32 1107296256#32) ((n.val - 6400 - 1600) % 20) ((n.val - 6400 - 1600) / 20) e

/-! ## The kernel's way of writing the same -/

/-- Two stacked products, of which zeros in the weights leave one, make a row. -/
theorem Wts.row_of_stacked (W : Wts) (xc xr : Fin 256 → EReal) (r : Fin 145) (A B : Fin 256 → EReal) (C : EReal)
    (hA : ∀ k, A k = if r.val < 1 then 0 else if h : r.val - 1 < 80 then W.cw ⟨r.val - 1, h⟩ k else 0)
    (hB : ∀ k, B k = if r.val < 1 then W.ow k else if r.val - 1 < 80 then 0 else W.rw ⟨r.val - 1 - 80, by omega⟩ k)
    (hC : C = if r.val < 1 then W.ob else if h : r.val - 1 < 80 then W.cb ⟨r.val - 1, h⟩ else W.rb ⟨r.val - 1 - 80, by omega⟩) :
    (∑ k, A k * xc k) + (∑ k, B k * xr k) + C = W.row xc xr r := by
  unfold Wts.row lin
  by_cases h0 : r.val < 1
  · simp only [hA, hB, hC, if_pos h0, zero_mul, mul_zero, Finset.sum_const_zero, zero_add, mul_comm]
  · by_cases h1 : r.val - 1 < 80
    · simp only [hA, hB, hC, if_neg h0, dif_pos h1, if_pos h1, zero_mul, mul_zero, Finset.sum_const_zero, add_zero, mul_comm]
    · simp only [hA, hB, hC, if_neg h0, dif_neg h1, if_neg h1, zero_mul, mul_zero, Finset.sum_const_zero, zero_add, mul_comm]

/-- A sum over sixty-four columns of which a side's sixteen alone count. -/
theorem sum_block (q : Fin 4) (f : Fin 64 → EReal) (g : Fin 16 → EReal) (hin : ∀ t : Fin 16, f ⟨q.val * 16 + t.val, by omega⟩ = g t)
    (hout : ∀ x : Fin 64, x.val / 16 ≠ q.val → f x = 0) : (∑ x, f x) = ∑ t, g t := by
  refine (Finset.sum_of_injOn (fun t : Fin 16 => (⟨q.val * 16 + t.val, by omega⟩ : Fin 64)) ?_ ?_ ?_ ?_).symm
  · intro a _ b _ h; have := congrArg Fin.val h; simp at this; exact Fin.ext this
  · intro _ _; exact Finset.mem_coe.mpr (Finset.mem_univ _)
  · intro x _ hx
    refine hout x fun hq => hx ⟨⟨x.val % 16, by omega⟩, Finset.mem_coe.mpr (Finset.mem_univ _), Fin.ext ?_⟩
    show q.val * 16 + x.val % 16 = x.val; omega
  · intro t _; exact (hin t).symm

/-- The quotient of the two tabled sums is a side's distance. -/
theorem Wts.side_of_table (W : Wts) (xr : Fin 256 → EReal) (q : Fin 4) (T0 T1 : Fin 64 → EReal) (L : Fin 64 → EReal)
    (h0 : ∀ x : Fin 64, T0 x = if x.val / 16 = q.val then 1 else 0)
    (h1 : ∀ x : Fin 64, T1 x = if x.val / 16 = q.val then cen ⟨x.val % 16, by omega⟩ else 0)
    (hL : ∀ x, L x = lin xr (W.rw x) (W.rb x)) :
    Ideal.div (∑ x, T1 x * Ideal.exp (L x)) (∑ x, T0 x * Ideal.exp (L x)) = W.side xr q := by
  unfold Wts.side dist
  rw [sum_block q (fun x => T1 x * Ideal.exp (L x)) (fun t => cen t * Ideal.exp (L ⟨q.val * 16 + t.val, by omega⟩)),
    sum_block q (fun x => T0 x * Ideal.exp (L x)) (fun t => Ideal.exp (L ⟨q.val * 16 + t.val, by omega⟩))]
  · simp only [hL]
  · intro t; simp only [h0]; rw [if_pos (by omega), one_mul]
  · intro x hx; simp only [h0]; rw [if_neg hx, zero_mul]
  · intro t; simp only [h1]; rw [if_pos (by omega)]
    congr 2; exact Fin.ext (show (q.val * 16 + t.val) % 16 = t.val by omega)
  · intro x hx; simp only [h1]; rw [if_neg hx, zero_mul]

/-- The kernel adds a distance times a signed stride; the box subtracts in its first corner. -/
theorem Wts.box_of_signed (W : Wts) (xr : Fin 256 → EReal) (s s' : EReal) (hs : s' = -s) (cx cy : ℕ) (q : Fin 4) (a d g : EReal)
    (ha : a = if q.val % 2 = 0 then anchor cx s else anchor cy s) (hd : d = W.side xr q) (hg : g = if 2 ≤ q.val then s else s') :
    a + d * g = W.box xr s cx cy q := by
  subst ha hd hg hs
  unfold Wts.box
  fin_cases q <;> simp [mul_neg, sub_eq_add_neg]

end Cert.Head

end
-- ==== Proof.Words.lean ====
module

public import Idealize.ShloMosaic.Lib.WordArith
public import Idealize.ShloMosaic.Lib.WordCmp

@[expose] public section

namespace Cert.KernelIdeal.Hand

open Idealize.ShloMosaic

/-! The integer words a pixel's column and row number are computed by. -/

/-- A natural number below half the range, as a word, has no sign. -/
theorem msb_nat (n : ℕ) (hn : n < 2 ^ 31) : (BitVec.ofNat 32 n).msb = false := by
  rw [BitVec.msb_eq_decide, BitVec.toNat_ofNat, Nat.mod_eq_of_lt (by omega)]; simp; omega

/-- Division by a positive literal has no corner. -/
theorem no_corner (n d : ℕ) (hn : n < 2 ^ 31) (h0 : 0 < d) (hd : d < 2 ^ 31) : ¬ IntOp.SDivCorner (BitVec.ofNat 32 n) (BitVec.ofNat 32 d) := by
  unfold IntOp.SDivCorner
  rintro (h | ⟨h, -⟩)
  · have := congrArg BitVec.toNat h
    rw [BitVec.toNat_ofNat, Nat.mod_eq_of_lt (by omega)] at this; simp at this; omega
  · have := congrArg BitVec.msb h
    rw [msb_nat n hn] at this; revert this; decide

/-- The signed remainder of two small natural numbers is the natural one. -/
theorem rem_nat (n d : ℕ) (hn : n < 2 ^ 31) (h0 : 0 < d) (hd : d < 2 ^ 31) :
    IntOp.remsi .vector (BitVec.ofNat 32 n) (BitVec.ofNat 32 d) = BitVec.ofNat 32 (n % d) := by
  unfold IntOp.remsi
  rw [if_neg (no_corner n d hn h0 hd), BitVec.srem_eq, msb_nat n hn, msb_nat d hd]
  apply BitVec.eq_of_toNat_eq
  have h1 : n % d < 2 ^ 31 := lt_of_le_of_lt (Nat.mod_le _ _) hn
  simp only [BitVec.umod_eq, BitVec.toNat_umod, BitVec.toNat_ofNat]
  rw [Nat.mod_eq_of_lt (show n < 2 ^ 32 by omega), Nat.mod_eq_of_lt (show d < 2 ^ 32 by omega), Nat.mod_eq_of_lt (show n % d < 2 ^ 32 by omega)]

/-- The signed quotient of two small natural numbers is the natural one. -/
theorem div_nat (n d : ℕ) (hn : n < 2 ^ 31) (h0 : 0 < d) (hd : d < 2 ^ 31) :
    IntOp.divsi .vector (BitVec.ofNat 32 n) (BitVec.ofNat 32 d) = BitVec.ofNat 32 (n / d) := by
  unfold IntOp.divsi
  rw [if_neg (no_corner n d hn h0 hd), BitVec.sdiv_eq, msb_nat n hn, msb_nat d hd]
  apply BitVec.eq_of_toNat_eq
  have h1 : n / d < 2 ^ 31 := lt_of_le_of_lt (Nat.div_le_self _ _) hn
  simp only [BitVec.udiv_eq, BitVec.toNat_udiv, BitVec.toNat_ofNat]
  rw [Nat.mod_eq_of_lt (show n < 2 ^ 32 by omega), Nat.mod_eq_of_lt (show d < 2 ^ 32 by omega), Nat.mod_eq_of_lt (show n / d < 2 ^ 32 by omega)]

/-- A small natural number, as a word, is not below zero. -/
theorem slt_nat (n : ℕ) (hn : n < 2 ^ 31) : IntOp.cmpi .slt (BitVec.ofNat 32 n) 0#32 = 0#1 := by
  show BitVec.ofBool (decide ((BitVec.ofNat 32 n).toInt < (0#32).toInt)) = _
  rw [WordArith.toInt_ofNat_small n hn]
  rw [decide_eq_false (by simp)]; rfl

/-- A positive small natural number, as a word, is above zero. -/
theorem sgt_nat (n : ℕ) (hn : n < 2 ^ 31) (h0 : 0 < n) : IntOp.cmpi .sgt (BitVec.ofNat 32 n) 0#32 = 1#1 := by
  show BitVec.ofBool (decide ((0#32).toInt < (BitVec.ofNat 32 n).toInt)) = _
  rw [WordArith.toInt_ofNat_small n hn]
  rw [decide_eq_true (by simpa using h0)]; rfl

/-- A choice on a bit that is zero takes the second value. -/
theorem sel_and_zero {α : Type} (c : BitVec 1) (x y : α) : Scalar.select (IntOp.andi 0#1 c) x y = y := by
  have h : ∀ c : BitVec 1, IntOp.andi 0#1 c = 0#1 := by decide
  rw [h]; rfl
/-- A condition joined to a false one chooses the second. -/
theorem sel_zero_and {α : Type} (c : BitVec 1) (x y : α) : Scalar.select (IntOp.andi c 0#1) x y = y := by
  have h : ∀ c : BitVec 1, IntOp.andi c 0#1 = 0#1 := by decide
  rw [h]; rfl

/-- The floor remainder as the kernel writes it: the remainder, moved up where its sign is not the divisor's. -/
theorem floor_mod (n d : ℕ) (t : BitVec 32) (c : BitVec 1) (hn : n < 2 ^ 31) (h0 : 0 < d) (hd : d < 2 ^ 31) :
    Scalar.select (IntOp.andi (IntOp.xori (IntOp.cmpi .slt (IntOp.remsi .vector (BitVec.ofNat 32 n) (BitVec.ofNat 32 d)) 0#32)
      (Scalar.cmpi .slt (BitVec.ofNat 32 d) 0#32)) c) t (IntOp.remsi .vector (BitVec.ofNat 32 n) (BitVec.ofNat 32 d)) = BitVec.ofNat 32 (n % d) := by
  rw [rem_nat n d hn h0 hd, slt_nat _ (lt_of_le_of_lt (Nat.mod_le _ _) hn), show Scalar.cmpi .slt (BitVec.ofNat 32 d) 0#32 = 0#1 from slt_nat d hd]
  exact sel_and_zero _ _ _

/-- The floor quotient as the kernel writes it: the quotient, moved down where the signs differ and the division is not exact. -/
theorem floor_div (n d : ℕ) (t : BitVec 32) (hn : n < 2 ^ 31) (h0 : 0 < d) (hd : d < 2 ^ 31) :
    Scalar.select (IntOp.andi (IntOp.cmpi .ne (IntOp.subi (BitVec.setWidth 32 (IntOp.cmpi .sgt (BitVec.ofNat 32 n) 0#32)) (BitVec.setWidth 32 (IntOp.cmpi .slt (BitVec.ofNat 32 n) 0#32)))
        (Scalar.subi (Scalar.extui (Scalar.cmpi .sgt (BitVec.ofNat 32 d) 0#32)) (Scalar.extui (Scalar.cmpi .slt (BitVec.ofNat 32 d) 0#32))))
      (IntOp.cmpi .ne (IntOp.remsi .vector (BitVec.ofNat 32 n) (BitVec.ofNat 32 d)) 0#32)) t (IntOp.divsi .vector (BitVec.ofNat 32 n) (BitVec.ofNat 32 d)) = BitVec.ofNat 32 (n / d) := by
  rw [div_nat n d hn h0 hd]
  rcases Nat.eq_zero_or_pos n with rfl | hp
  · rw [rem_nat 0 d hn h0 hd, Nat.zero_mod]
    exact sel_zero_and _ _ _
  · rw [slt_nat n hn, sgt_nat n hn hp, show Scalar.cmpi .slt (BitVec.ofNat 32 d) 0#32 = 0#1 from slt_nat d hd,
      show Scalar.cmpi .sgt (BitVec.ofNat 32 d) 0#32 = 1#1 from sgt_nat d hd h0]
    exact sel_and_zero _ _ _

end Cert.KernelIdeal.Hand
-- ==== Proof.KPay.lean ====
module

public import proofs.«01_k».proof.Proof.Gen.KernelIdeal.Skeleton
public import proofs.«01_k».proof.Proof.Spec
public import proofs.«01_k».proof.Proof.Words
public import Idealize.ShloMosaic.Lib.Pointwise
public import Idealize.ShloMosaic.Lib.IdealHost
public import Idealize.ShloMosaic.Lib.ValueIdx

@[expose] public section

set_option maxHeartbeats 2000000
set_option maxRecDepth 100000

noncomputable section

namespace Cert.KernelIdeal.Hand

open Cert.KernelIdeal Cert.KernelIdeal.Gen Cert.Head
open Idealize.ShloMosaic

/-! What the kernel's arithmetic computes for one pixel: the rows and the boxes of `Cert.Head`. -/

/-- The table of the bins, by row and column. -/
theorem lit_at (r : Fin 8) (k : Fin 64) : lit0 (S8x64.rowMajor (ix2 r k)) = lit0t (64 * r.val + k.val) := by
  show lit0t (S8x64.rowMajor (ix2 r k)).val = _
  congr 1
  exact (Shape.rowMajor_val_two _).trans (show r.val * 64 + k.val = _ by omega)
/-- Its first four rows are a side's indicator. -/
theorem lit_ones : ∀ (q : Fin 4) (x : Fin 64), lit0t (64 * q.val + x.val) = if x.val / 16 = q.val then 0x3F800000#32 else 0x00000000#32 := by decide
/-- Its last four rows hold a side's bin centres. -/
theorem lit_cens : ∀ (q : Fin 4) (x : Fin 64), lit0t (64 * (4 + q.val) + x.val) = if x.val / 16 = q.val then binWord ⟨x.val % 16, by omega⟩ else 0x00000000#32 := by decide

/-- The side's parity, as the kernel's words compute it, chooses between the two anchors. -/
theorem parity_sel (q : Fin 4) (x y : EReal) :
    Scalar.select (IntOp.cmpi .eq (Scalar.select (IntOp.andi (IntOp.xori (IntOp.cmpi .slt (IntOp.remsi .vector (BitVec.ofNat 32 q.val) (Scalar.select (Scalar.cmpi .eq 2#32 0#32) 1#32 2#32)) 0#32)
        (Scalar.cmpi .slt (Scalar.select (Scalar.cmpi .eq 2#32 0#32) 1#32 2#32) 0#32))
      (IntOp.cmpi .ne (IntOp.remsi .vector (BitVec.ofNat 32 q.val) (Scalar.select (Scalar.cmpi .eq 2#32 0#32) 1#32 2#32)) 0#32))
      (IntOp.addi (IntOp.remsi .vector (BitVec.ofNat 32 q.val) (Scalar.select (Scalar.cmpi .eq 2#32 0#32) 1#32 2#32)) (Scalar.select (Scalar.cmpi .eq 2#32 0#32) 1#32 2#32))
      (IntOp.remsi .vector (BitVec.ofNat 32 q.val) (Scalar.select (Scalar.cmpi .eq 2#32 0#32) 1#32 2#32))) 0#32) x y = if q.val % 2 = 0 then x else y := by
  rw [show Scalar.select (Scalar.cmpi .eq 2#32 0#32) 1#32 2#32 = BitVec.ofNat 32 2 from rfl, floor_mod q.val 2 _ _ (by omega) (by omega) (by omega)]
  fin_cases q <;> rfl
/-- The side's half chooses the sign. -/
theorem half_sel (q : Fin 4) (x y : EReal) : Scalar.select (IntOp.cmpi .sge (BitVec.ofNat 32 q.val) 2#32) x y = if 2 ≤ q.val then x else y := by
  fin_cases q <;> rfl

/-- The strides' opposites. -/
theorem neg_8 : Ideal.ofBits .f32 3238002688#32 = -Ideal.ofBits .f32 1090519040#32 := by
  simp [Ideal.ofBits, Ideal.ieee]
/-- The word of −16. -/
theorem neg_16 : Ideal.ofBits .f32 3246391296#32 = -Ideal.ofBits .f32 1098907648#32 := by
  simp [Ideal.ofBits, Ideal.ieee]
/-- The word of −32. -/
theorem neg_32 : Ideal.ofBits .f32 3254779904#32 = -Ideal.ofBits .f32 1107296256#32 := by
  simp [Ideal.ofBits, Ideal.ieee]

/-- What the stacked weights, the stacked biases, the box weights and the bins' table hold. -/
structure Ops (W : Wts) (x8 x9 : Vec Ideal S152x256 .f32) (x10 : Vec Ideal S64x256 .f32) (x11 : Vec Ideal S152x1 .f32) (x20 : Vec Ideal S8x64 .f32) : Prop where
  hA : ∀ (r : Fin 152) (k : Fin 256), x8 (ix2 r k) = if r.val < 1 then 0 else if h : r.val - 1 < 80 then W.cw ⟨r.val - 1, h⟩ k else 0
  hB : ∀ (r : Fin 152) (k : Fin 256), x9 (ix2 r k) = if r.val < 1 then W.ow k else if r.val - 1 < 80 then 0 else if h : r.val - 1 - 80 < 64 then W.rw ⟨r.val - 1 - 80, h⟩ k else 0
  hC : ∀ r : Fin 152, x11 (ix2 r (0 : Fin 1)) = if r.val < 1 then W.ob else if h : r.val - 1 < 80 then W.cb ⟨r.val - 1, h⟩ else if h : r.val - 1 - 80 < 64 then W.rb ⟨r.val - 1 - 80, h⟩ else 0
  hR : ∀ (x : Fin 64) (k : Fin 256), x10 (ix2 x k) = W.rw x k
  hT : ∀ (r : Fin 8) (k : Fin 64), x20 (ix2 r k) = Ideal.ofBits .f32 (lit0 (S8x64.rowMajor (ix2 r k)))

variable {W : Wts} {x8 x9 : Vec Ideal S152x256 .f32} {x10 : Vec Ideal S64x256 .f32} {x11 : Vec Ideal S152x1 .f32} {x20 : Vec Ideal S8x64 .f32}

/-- The stacked products over these operands are a pixel's row. -/
theorem Ops.row (O : Ops W x8 x9 x10 x11 x20) (xc xr : Fin 256 → EReal) (r : Fin 145) (r' : Fin 152) (hr : r'.val = r.val) :
    (∑ k, x8 (ix2 r' k) * xc k) + (∑ k, x9 (ix2 r' k) * xr k) + x11 (ix2 r' (0 : Fin 1)) = W.row xc xr r := by
  refine W.row_of_stacked xc xr r _ _ _ (fun k => ?_) (fun k => ?_) ?_
  · rw [O.hA]; simp only [hr]
  · rw [O.hB]; simp only [hr]; split_ifs <;> first | rfl | omega
  · rw [O.hC]; simp only [hr]; split_ifs <;> first | rfl | omega

/-- The quotient of the two tabled sums over these operands is a side's distance. -/
theorem Ops.side (O : Ops W x8 x9 x10 x11 x20) (xr : Fin 256 → EReal) (q : Fin 4) (q0 q1 : Fin 8) (h0 : q0.val = q.val) (h1 : q1.val = 4 + q.val)
    (B : Fin 64 → Fin 152) (hB : ∀ x, (B x).val = 81 + x.val) :
    Ideal.div (∑ x, x20 (ix2 q1 x) * Ideal.exp ((∑ k, x10 (ix2 x k) * xr k) + x11 (ix2 (B x) (0 : Fin 1))))
      (∑ x, x20 (ix2 q0 x) * Ideal.exp ((∑ k, x10 (ix2 x k) * xr k) + x11 (ix2 (B x) (0 : Fin 1)))) = W.side xr q := by
  refine W.side_of_table xr q _ _ _ (fun x => ?_) (fun x => ?_) (fun x => ?_)
  · rw [O.hT, lit_at, h0, lit_ones]; split_ifs
    · exact Ideal.ofBits_one_f32
    · exact Ideal.ofBits_zero_f32
  · rw [O.hT, lit_at, h1, lit_cens]; split_ifs
    · rfl
    · exact Ideal.ofBits_zero_f32
  · rw [O.hC, hB x, if_neg (by omega), dif_neg (by omega), dif_pos (by omega)]
    unfold lin
    congr 1
    · exact Finset.sum_congr rfl fun k _ => by rw [O.hR, mul_comm]
    · congr 1; exact Fin.ext (show 81 + x.val - 1 - 80 = x.val by omega)

/-! ## The level with 80 pixels a side -/

/-- A pixel's first 145 entries. -/
theorem rowsA (O : Ops W x8 x9 x10 x11 x20) (x2 x3 : Vec Ideal S1x3200x256 .f32) (xc xr : Fin 256 → EReal) (r : Fin 145) (j : Fin 3200)
    (hc : ∀ k : Fin 256, x2 (ix3 (0 : Fin 1) j k) = xc k) (hr : ∀ k : Fin 256, x3 (ix3 (0 : Fin 1) j k) = xr k) : k0_pay3 (k0_pay11 x2 x3 x8 x9 x11) (ix3 (0 : Fin 1) r j) = W.row xc xr r := by
  pointwise [k0_pay3, k0_pay2, k0_pay11, k0_pay9, k0_pay10]
  simp only [hc, hr]
  exact O.row xc xr r _ rfl

/-- A pixel's distances. -/
theorem distA (O : Ops W x8 x9 x10 x11 x20) (x3 : Vec Ideal S1x3200x256 .f32) (xr : Fin 256 → EReal) (q : Fin 4) (j : Fin 3200)
    (hr : ∀ k : Fin 256, x3 (ix3 (0 : Fin 1) j k) = xr k) : k0_pay12 x3 x10 x11 x20 (ix2 q j) = W.side xr q := by
  pointwise [k0_pay12, k0_pay9, k0_pay10]
  simp only [hr]
  exact O.side xr q _ _ rfl rfl (fun x => ⟨81 + x.val, by omega⟩) fun _ => rfl

/-- A pixel's column coordinate. -/
theorem colcA (j : Fin 3200) (a : BitVec 32) (n : ℕ) (hn : n < 6400) (ha : IntOp.addi (BitVec.ofNat 32 j.val) (Scalar.muli a 3200#32) = BitVec.ofNat 32 n) : k0_pay15 (F := Ideal) 80#32 (k0_pay14 a) 0#32 (ix2 (0 : Fin 1) j) = anchor (n % 80) (Ideal.ofBits .f32 1090519040#32) := by
  pointwise [k0_pay15, k0_pay14, k0_pay13]
  rw [ha, show Scalar.select (Scalar.cmpi .eq 80#32 0#32) 1#32 80#32 = BitVec.ofNat 32 80 from rfl, show (80#32 : BitVec 32) = BitVec.ofNat 32 80 from rfl,
    floor_mod n 80 _ _ (by omega) (by omega) (by omega)]
  rfl

/-- A pixel's row coordinate. -/
theorem rowcA (j : Fin 3200) (a : BitVec 32) (n : ℕ) (hn : n < 6400) (ha : IntOp.addi (BitVec.ofNat 32 j.val) (Scalar.muli a 3200#32) = BitVec.ofNat 32 n) : k0_pay16 (F := Ideal) (k0_pay13 a) (ix2 (0 : Fin 1) j) = anchor (n / 80) (Ideal.ofBits .f32 1090519040#32) := by
  pointwise [k0_pay16, k0_pay13]
  rw [ha, show (80#32 : BitVec 32) = BitVec.ofNat 32 80 from rfl, floor_div n 80 _ (by omega) (by omega) (by omega)]
  rfl

/-- A pixel's box. -/
theorem boxA (xr : Fin 256 → EReal) (v33 : FVec Ideal S4x3200 .f32) (v57 v86 : FVec Ideal S1x3200 .f32) (q : Fin 4) (j : Fin 3200) (cx cy : ℕ)
    (hd : v33 (ix2 q j) = W.side xr q) (hx : v57 (ix2 (0 : Fin 1) j) = anchor cx (Ideal.ofBits .f32 1090519040#32))
    (hy : v86 (ix2 (0 : Fin 1) j) = anchor cy (Ideal.ofBits .f32 1090519040#32)) :
    k0_pay4 v33 v57 v86 (iota .tc S4x1 32 [0] iota_S4x1_d0_w32) (ix3 (0 : Fin 1) q j) = W.box xr (Ideal.ofBits .f32 1090519040#32) cx cy q := by
  pointwise [k0_pay4, k0_pay1]
  rw [parity_sel, half_sel, hd, hx, hy]
  exact W.box_of_signed xr _ _ neg_8 cx cy q _ _ _ rfl rfl rfl

/-! ## The level with 40 pixels a side -/

/-- A pixel's first 145 entries. -/
theorem rowsB (O : Ops W x8 x9 x10 x11 x20) (x2 x3 : Vec Ideal S1x1600x256 .f32) (xc xr : Fin 256 → EReal) (r : Fin 145) (j : Fin 1600)
    (hc : ∀ k : Fin 256, x2 (ix3 (0 : Fin 1) j k) = xc k) (hr : ∀ k : Fin 256, x3 (ix3 (0 : Fin 1) j k) = xr k) : k0_pay38 (k0_pay27 (k0_pay19 x2 x3 x8 x9 x11)) (ix2 r j) = W.row xc xr r := by
  pointwise [k0_pay38, k0_pay27, k0_pay19, k0_pay17, k0_pay18]
  simp only [hc, hr]
  exact O.row xc xr r _ rfl

/-- A pixel's distances. -/
theorem distB (O : Ops W x8 x9 x10 x11 x20) (x3 : Vec Ideal S1x1600x256 .f32) (xr : Fin 256 → EReal) (q : Fin 4) (j : Fin 1600)
    (hr : ∀ k : Fin 256, x3 (ix3 (0 : Fin 1) j k) = xr k) : k0_pay20 x3 x10 x11 x20 (ix2 q j) = W.side xr q := by
  pointwise [k0_pay20, k0_pay17, k0_pay18]
  simp only [hr]
  exact O.side xr q _ _ rfl rfl (fun x => ⟨81 + x.val, by omega⟩) fun _ => rfl

/-- A pixel's column coordinate. -/
theorem colcB (j : Fin 1600)  : k0_pay24 (F := Ideal) 40#32 k0_pay22 k0_pay23 (ix2 (0 : Fin 1) j) = anchor (j.val % 40) (Ideal.ofBits .f32 1098907648#32) := by
  pointwise [k0_pay24, k0_pay22, k0_pay23, k0_pay21]
  rw [(show IntOp.addi (BitVec.ofNat 32 j.val) 0#32 = BitVec.ofNat 32 j.val from BitVec.add_zero _), show Scalar.select (Scalar.cmpi .eq 40#32 0#32) 1#32 40#32 = BitVec.ofNat 32 40 from rfl, show (40#32 : BitVec 32) = BitVec.ofNat 32 40 from rfl,
    floor_mod j.val 40 _ _ (by omega) (by omega) (by omega)]
  rfl

/-- A pixel's row coordinate. -/
theorem rowcB (j : Fin 1600)  : k0_pay25 (F := Ideal) k0_pay21 (ix2 (0 : Fin 1) j) = anchor (j.val / 40) (Ideal.ofBits .f32 1098907648#32) := by
  pointwise [k0_pay25, k0_pay21]
  rw [(show IntOp.addi (BitVec.ofNat 32 j.val) 0#32 = BitVec.ofNat 32 j.val from BitVec.add_zero _), show (40#32 : BitVec 32) = BitVec.ofNat 32 40 from rfl, floor_div j.val 40 _ (by omega) (by omega) (by omega)]
  rfl

/-- A pixel's box. -/
theorem boxB (xr : Fin 256 → EReal) (v33 : FVec Ideal S4x1600 .f32) (v57 v86 : FVec Ideal S1x1600 .f32) (q : Fin 4) (j : Fin 1600) (cx cy : ℕ)
    (hd : v33 (ix2 q j) = W.side xr q) (hx : v57 (ix2 (0 : Fin 1) j) = anchor cx (Ideal.ofBits .f32 1098907648#32))
    (hy : v86 (ix2 (0 : Fin 1) j) = anchor cy (Ideal.ofBits .f32 1098907648#32)) :
    k0_pay7 (k0_pay26 v33 v57 v86 (iota .tc S4x1 32 [0] iota_S4x1_d0_w32) 2#32 0#32) (ix2 q j) = W.box xr (Ideal.ofBits .f32 1098907648#32) cx cy q := by
  pointwise [k0_pay7, k0_pay26]
  rw [parity_sel, half_sel, hd, hx, hy]
  exact W.box_of_signed xr _ _ neg_16 cx cy q _ _ _ rfl rfl rfl

/-! ## The level with 20 pixels a side -/

/-- A pixel's first 145 entries. -/
theorem rowsC (O : Ops W x8 x9 x10 x11 x20) (x2 x3 : Vec Ideal S20x20x256 .f32) (xc xr : Fin 256 → EReal) (r : Fin 145) (j : Fin 400)
    (hc : ∀ k : Fin 256, x2 (ix3 (⟨j.val / 20, by omega⟩ : Fin 20) (⟨j.val % 20, by omega⟩ : Fin 20) k) = xc k) (hr : ∀ k : Fin 256, x3 (ix3 (⟨j.val / 20, by omega⟩ : Fin 20) (⟨j.val % 20, by omega⟩ : Fin 20) k) = xr k) : k0_pay39 (k0_pay30 x2 x3 x8 x9 x11) (ix2 r j) = W.row xc xr r := by
  pointwise [k0_pay39, k0_pay30, k0_pay28, k0_pay29]
  simp only [hc, hr]
  exact O.row xc xr r _ rfl

/-- A pixel's distances. -/
theorem distC (O : Ops W x8 x9 x10 x11 x20) (x3 : Vec Ideal S20x20x256 .f32) (xr : Fin 256 → EReal) (q : Fin 4) (j : Fin 400)
    (hr : ∀ k : Fin 256, x3 (ix3 (⟨j.val / 20, by omega⟩ : Fin 20) (⟨j.val % 20, by omega⟩ : Fin 20) k) = xr k) : k0_pay31 x3 x10 x11 x20 (ix2 q j) = W.side xr q := by
  pointwise [k0_pay31, k0_pay28, k0_pay29]
  simp only [hr]
  exact O.side xr q _ _ rfl rfl (fun x => ⟨81 + x.val, by omega⟩) fun _ => rfl

/-- A pixel's column coordinate. -/
theorem colcC (j : Fin 400)  : k0_pay35 (F := Ideal) 20#32 k0_pay33 k0_pay34 (ix2 (0 : Fin 1) j) = anchor (j.val % 20) (Ideal.ofBits .f32 1107296256#32) := by
  pointwise [k0_pay35, k0_pay33, k0_pay34, k0_pay32]
  rw [(show IntOp.addi (BitVec.ofNat 32 j.val) 0#32 = BitVec.ofNat 32 j.val from BitVec.add_zero _), show Scalar.select (Scalar.cmpi .eq 20#32 0#32) 1#32 20#32 = BitVec.ofNat 32 20 from rfl, show (20#32 : BitVec 32) = BitVec.ofNat 32 20 from rfl,
    floor_mod j.val 20 _ _ (by omega) (by omega) (by omega)]
  rfl

/-- A pixel's row coordinate. -/
theorem rowcC (j : Fin 400)  : k0_pay36 (F := Ideal) k0_pay32 (ix2 (0 : Fin 1) j) = anchor (j.val / 20) (Ideal.ofBits .f32 1107296256#32) := by
  pointwise [k0_pay36, k0_pay32]
  rw [(show IntOp.addi (BitVec.ofNat 32 j.val) 0#32 = BitVec.ofNat 32 j.val from BitVec.add_zero _), show (20#32 : BitVec 32) = BitVec.ofNat 32 20 from rfl, floor_div j.val 20 _ (by omega) (by omega) (by omega)]
  rfl

/-- A pixel's box. -/
theorem boxC (xr : Fin 256 → EReal) (v33 : FVec Ideal S4x400 .f32) (v57 v86 : FVec Ideal S1x400 .f32) (q : Fin 4) (j : Fin 400) (cx cy : ℕ)
    (hd : v33 (ix2 q j) = W.side xr q) (hx : v57 (ix2 (0 : Fin 1) j) = anchor cx (Ideal.ofBits .f32 1107296256#32))
    (hy : v86 (ix2 (0 : Fin 1) j) = anchor cy (Ideal.ofBits .f32 1107296256#32)) :
    k0_pay8 (k0_pay37 v33 v57 v86 (iota .tc S4x1 32 [0] iota_S4x1_d0_w32) 2#32 0#32) (ix2 q j) = W.box xr (Ideal.ofBits .f32 1107296256#32) cx cy q := by
  pointwise [k0_pay8, k0_pay37]
  rw [parity_sel, half_sel, hd, hx, hy]
  exact W.box_of_signed xr _ _ neg_32 cx cy q _ _ _ rfl rfl rfl

end Cert.KernelIdeal.Hand

end
-- ==== Proof.KVal.lean ====
module

public import proofs.«01_k».proof.Proof.Blk
public import proofs.«01_k».proof.Proof.HostS
public import proofs.«01_k».proof.Proof.HostA
public import proofs.«01_k».proof.Proof.HostB
public import proofs.«01_k».proof.Proof.HostC
public import proofs.«01_k».proof.Proof.KPay
public import Idealize.ShloMosaic.Lib.Pointwise.IndexBridge

@[expose] public section

set_option maxHeartbeats 2000000

noncomputable section

namespace Cert.KernelIdeal.Hand

open Cert.KernelIdeal Cert.KernelIdeal.Gen Cert.Head
open Idealize.ShloMosaic Idealize.ShloMosaic.TcCoe Idealize.SL.Sem

/-! The launch's result is `Cert.Head.result` of the arguments. -/

/-- A tile of the finest level, entry by entry. -/
theorem tileA_at {W : Wts} {x8 x9 : Vec Ideal S152x256 .f32} {x10 : Vec Ideal S64x256 .f32} {x11 : Vec Ideal S152x1 .f32} {x20 : Vec Ideal S8x64 .f32}
    (O : Ops W x8 x9 x10 x11 x20) (x2 x3 : Vec Ideal S1x3200x256 .f32) (xc xr : Fin 256 → EReal) (a : BitVec 32) (n : ℕ) (hn : n < 6400) (e : Fin 149) (j : Fin 3200)
    (ha : IntOp.addi (BitVec.ofNat 32 j.val) (Scalar.muli a 3200#32) = BitVec.ofNat 32 n)
    (hc : ∀ k : Fin 256, x2 (ix3 (0 : Fin 1) j k) = xc k) (hr : ∀ k : Fin 256, x3 (ix3 (0 : Fin 1) j k) = xr k) :
    tileA a x2 x3 x8 x9 x10 x11 x20 (ValueIdx.ix2 e j) = W.out xc xr (Ideal.ofBits .f32 1090519040#32) (n % 80) (n / 80) e := by
  unfold tileA Wts.out
  by_cases h : e.val < 145
  · rw [dif_pos (show (ValueIdx.ix2 e j 0).val < 145 from h), dif_pos h, ← ix3_eq_valueIdx]
    exact rowsA O x2 x3 xc xr ⟨e.val, h⟩ j hc hr
  · rw [dif_neg (show ¬ (ValueIdx.ix2 e j 0).val < 145 from h), dif_neg h, ← ix3_eq_valueIdx]
    exact boxA (W := W) xr _ _ _ ⟨e.val - 145, by omega⟩ j _ _ (distA O x3 xr _ j hr) (colcA j a n hn ha) (rowcA j a n hn ha)

/-- A tile of the two coarser levels at a pixel of the middle one. -/
theorem tileC_mid {W : Wts} {x12 x13 : Vec Ideal S152x256 .f32} {x14 : Vec Ideal S64x256 .f32} {x15 : Vec Ideal S152x1 .f32} {x20 : Vec Ideal S8x64 .f32}
    (O : Ops W x12 x13 x14 x15 x20) (x4 x5 : Vec Ideal S1x1600x256 .f32) (x16 x17 : Vec Ideal S152x256 .f32) (x18 : Vec Ideal S64x256 .f32) (x19 : Vec Ideal S152x1 .f32)
    (y25 y26 : Vec Ideal S20x20x256 .f32) (xc xr : Fin 256 → EReal) (e : Fin 149) (i : Fin 2000) (j : Fin 1600) (hi : i.val = j.val)
    (hc : ∀ k : Fin 256, x4 (ix3 (0 : Fin 1) j k) = xc k) (hr : ∀ k : Fin 256, x5 (ix3 (0 : Fin 1) j k) = xr k) :
    tileC x4 x5 x12 x13 x14 x15 x16 x17 x18 x19 x20 y25 y26 (ValueIdx.ix2 e i)
      = W.out xc xr (Ideal.ofBits .f32 1098907648#32) (j.val % 40) (j.val / 40) e := by
  have hn : (ValueIdx.ix2 e i 1).val < 1600 := by show i.val < 1600; omega
  have hj : (⟨(ValueIdx.ix2 e i 1).val, hn⟩ : Fin 1600) = j := Fin.ext hi
  unfold tileC Wts.out
  by_cases h : e.val < 145
  · rw [dif_pos (show (ValueIdx.ix2 e i 0).val < 145 from h), dif_pos h, dif_pos hn, hj, ← ix2_eq_valueIdx]
    exact rowsB O x4 x5 xc xr ⟨e.val, h⟩ j hc hr
  · rw [dif_neg (show ¬ (ValueIdx.ix2 e i 0).val < 145 from h), dif_neg h, dif_pos hn, hj, ← ix2_eq_valueIdx]
    exact boxB (W := W) xr _ _ _ ⟨e.val - 145, by omega⟩ j _ _ (distB O x5 xr _ j hr) (colcB j) (rowcB j)

/-- A tile of the two coarser levels at a pixel of the coarsest one. -/
theorem tileC_low {W : Wts} {x16 x17 : Vec Ideal S152x256 .f32} {x18 : Vec Ideal S64x256 .f32} {x19 : Vec Ideal S152x1 .f32} {x20 : Vec Ideal S8x64 .f32}
    (O : Ops W x16 x17 x18 x19 x20) (x4 x5 : Vec Ideal S1x1600x256 .f32) (x12 x13 : Vec Ideal S152x256 .f32) (x14 : Vec Ideal S64x256 .f32) (x15 : Vec Ideal S152x1 .f32)
    (y25 y26 : Vec Ideal S20x20x256 .f32) (xc xr : Fin 256 → EReal) (e : Fin 149) (i : Fin 2000) (j : Fin 400) (hi : i.val = 1600 + j.val)
    (hc : ∀ k : Fin 256, y25 (ix3 (⟨j.val / 20, by omega⟩ : Fin 20) (⟨j.val % 20, by omega⟩ : Fin 20) k) = xc k)
    (hr : ∀ k : Fin 256, y26 (ix3 (⟨j.val / 20, by omega⟩ : Fin 20) (⟨j.val % 20, by omega⟩ : Fin 20) k) = xr k) :
    tileC x4 x5 x12 x13 x14 x15 x16 x17 x18 x19 x20 y25 y26 (ValueIdx.ix2 e i)
      = W.out xc xr (Ideal.ofBits .f32 1107296256#32) (j.val % 20) (j.val / 20) e := by
  have hn : ¬ (ValueIdx.ix2 e i 1).val < 1600 := by show ¬ i.val < 1600; omega
  have hj : (⟨(ValueIdx.ix2 e i 1).val - 1600, by have h2 : (ValueIdx.ix2 e i 1).val < 2000 := i.isLt; omega⟩ : Fin 400) = j := Fin.ext (by show i.val - 1600 = j.val; omega)
  unfold tileC Wts.out
  by_cases h : e.val < 145
  · rw [dif_pos (show (ValueIdx.ix2 e i 0).val < 145 from h), dif_pos h, dif_neg hn, hj, ← ix2_eq_valueIdx]
    exact rowsC O y25 y26 xc xr ⟨e.val, h⟩ j hc hr
  · rw [dif_neg (show ¬ (ValueIdx.ix2 e i 0).val < 145 from h), dif_neg h, dif_neg hn, hj, ← ix2_eq_valueIdx]
    exact boxC (W := W) xr _ _ _ ⟨e.val - 145, by omega⟩ j _ _ (distC O y26 xr _ j hr) (colcC j) (rowcC j)

variable (m : (ℓ : Loc nD τ sig) → Buf (Elt Ideal) ℓ)

/-- Level 0's weights among the arguments. -/
def W0 (c : Dev nD) : Wts := Wts.of (m (c, Proc.devRef .tc main_arg6) : FVec Ideal S1x256 .f32) (m (c, Proc.devRef .tc main_arg7) : FVec Ideal S1 .f32) (m (c, Proc.devRef .tc main_arg8) : FVec Ideal S80x256 .f32)
  (m (c, Proc.devRef .tc main_arg9) : FVec Ideal S80 .f32) (m (c, Proc.devRef .tc main_arg10) : FVec Ideal S64x256 .f32) (m (c, Proc.devRef .tc main_arg11) : FVec Ideal S64 .f32)

/-- The box weights reach the launch unchanged. -/
theorem host_arg10 (c : Dev nD) (x : Fin 64) (k : Fin 256) : (V m c main_arg10 : FVec Ideal S64x256 .f32) (ix2 x k) = (m (c, Proc.devRef .tc main_arg10) : FVec Ideal S64x256 .f32) (ix2 x k) := by
  unfold V V₀
  after_reads_at

/-- Level 0's operands hold its weights. -/
theorem ops0 (c : Dev nD) (t : Fin cfg0.N) : Ops (W0 m c) (iblk m c 4 t) (iblk m c 5 t) (iblk m c 6 t) (iblk m c 7 t) (iblk m c 16 t) where
  hA r k := (blk_4 m c t r k).trans (host_v12 m c r k)
  hB r k := by
    refine (blk_5 m c t r k).trans ((host_v15 m c r k).trans ?_)
    split_ifs
    · exact congrArg (fun z : Fin 1 => (m (c, Proc.devRef .tc main_arg6) : FVec Ideal S1x256 .f32) (ix2 z k)) (Subsingleton.elim _ _)
    all_goals rfl
  hC r := by
    refine (blk_7 m c t r 0).trans ((host_v18 m c r).trans ?_)
    split_ifs
    · exact congrArg (fun z : Fin 1 => (m (c, Proc.devRef .tc main_arg7) : FVec Ideal S1 .f32) (ix1 z)) (Subsingleton.elim _ _)
    all_goals rfl
  hR x k := (blk_6 m c t x k).trans (host_arg10 m c x k)
  hT r k := (blk_16 m c t r k).trans (host_cst m c r k)

/-- Level 1's weights among the arguments. -/
def W1 (c : Dev nD) : Wts := Wts.of (m (c, Proc.devRef .tc main_arg12) : FVec Ideal S1x256 .f32) (m (c, Proc.devRef .tc main_arg13) : FVec Ideal S1 .f32) (m (c, Proc.devRef .tc main_arg14) : FVec Ideal S80x256 .f32)
  (m (c, Proc.devRef .tc main_arg15) : FVec Ideal S80 .f32) (m (c, Proc.devRef .tc main_arg16) : FVec Ideal S64x256 .f32) (m (c, Proc.devRef .tc main_arg17) : FVec Ideal S64 .f32)

/-- The box weights reach the launch unchanged. -/
theorem host_arg16 (c : Dev nD) (x : Fin 64) (k : Fin 256) : (V m c main_arg16 : FVec Ideal S64x256 .f32) (ix2 x k) = (m (c, Proc.devRef .tc main_arg16) : FVec Ideal S64x256 .f32) (ix2 x k) := by
  unfold V V₀
  after_reads_at

/-- Level 1's operands hold its weights. -/
theorem ops1 (c : Dev nD) (t : Fin cfg0.N) : Ops (W1 m c) (iblk m c 8 t) (iblk m c 9 t) (iblk m c 10 t) (iblk m c 11 t) (iblk m c 16 t) where
  hA r k := (blk_8 m c t r k).trans (host_v21 m c r k)
  hB r k := by
    refine (blk_9 m c t r k).trans ((host_v24 m c r k).trans ?_)
    split_ifs
    · exact congrArg (fun z : Fin 1 => (m (c, Proc.devRef .tc main_arg12) : FVec Ideal S1x256 .f32) (ix2 z k)) (Subsingleton.elim _ _)
    all_goals rfl
  hC r := by
    refine (blk_11 m c t r 0).trans ((host_v27 m c r).trans ?_)
    split_ifs
    · exact congrArg (fun z : Fin 1 => (m (c, Proc.devRef .tc main_arg13) : FVec Ideal S1 .f32) (ix1 z)) (Subsingleton.elim _ _)
    all_goals rfl
  hR x k := (blk_10 m c t x k).trans (host_arg16 m c x k)
  hT r k := (blk_16 m c t r k).trans (host_cst m c r k)

/-- Level 2's weights among the arguments. -/
def W2 (c : Dev nD) : Wts := Wts.of (m (c, Proc.devRef .tc main_arg18) : FVec Ideal S1x256 .f32) (m (c, Proc.devRef .tc main_arg19) : FVec Ideal S1 .f32) (m (c, Proc.devRef .tc main_arg20) : FVec Ideal S80x256 .f32)
  (m (c, Proc.devRef .tc main_arg21) : FVec Ideal S80 .f32) (m (c, Proc.devRef .tc main_arg22) : FVec Ideal S64x256 .f32) (m (c, Proc.devRef .tc main_arg23) : FVec Ideal S64 .f32)

/-- The box weights reach the launch unchanged. -/
theorem host_arg22 (c : Dev nD) (x : Fin 64) (k : Fin 256) : (V m c main_arg22 : FVec Ideal S64x256 .f32) (ix2 x k) = (m (c, Proc.devRef .tc main_arg22) : FVec Ideal S64x256 .f32) (ix2 x k) := by
  unfold V V₀
  after_reads_at

/-- Level 2's operands hold its weights. -/
theorem ops2 (c : Dev nD) (t : Fin cfg0.N) : Ops (W2 m c) (iblk m c 12 t) (iblk m c 13 t) (iblk m c 14 t) (iblk m c 15 t) (iblk m c 16 t) where
  hA r k := (blk_12 m c t r k).trans (host_v30 m c r k)
  hB r k := by
    refine (blk_13 m c t r k).trans ((host_v33 m c r k).trans ?_)
    split_ifs
    · exact congrArg (fun z : Fin 1 => (m (c, Proc.devRef .tc main_arg18) : FVec Ideal S1x256 .f32) (ix2 z k)) (Subsingleton.elim _ _)
    all_goals rfl
  hC r := by
    refine (blk_15 m c t r 0).trans ((host_v36 m c r).trans ?_)
    split_ifs
    · exact congrArg (fun z : Fin 1 => (m (c, Proc.devRef .tc main_arg19) : FVec Ideal S1 .f32) (ix1 z)) (Subsingleton.elim _ _)
    all_goals rfl
  hR x k := (blk_14 m c t x k).trans (host_arg22 m c x k)
  hT r k := (blk_16 m c t r k).trans (host_cst m c r k)

/-- The launch's result, entry by entry. -/
theorem G37_at (c : Dev nD) (e : Fin 149) (b : Fin 16) (n : Fin 8400) :
    G37 m c (ix3 e b n) = result (m (c, Proc.devRef .tc main_arg0) : FVec Ideal S16x256x80x80 .f32) (m (c, Proc.devRef .tc main_arg3) : FVec Ideal S16x256x80x80 .f32)
      (m (c, Proc.devRef .tc main_arg1) : FVec Ideal S16x256x40x40 .f32) (m (c, Proc.devRef .tc main_arg4) : FVec Ideal S16x256x40x40 .f32) (m (c, Proc.devRef .tc main_arg2) : FVec Ideal S16x256x20x20 .f32) (m (c, Proc.devRef .tc main_arg5) : FVec Ideal S16x256x20x20 .f32)
      (W0 m c) (W1 m c) (W2 m c) b n e := by
  rw [ix3_eq_valueIdx]
  unfold G37 outOf result
  by_cases h1 : n.val < 3200
  · rw [dif_pos (show (ValueIdx.ix3 e b n 2).val < 3200 from h1), dif_pos (by omega)]
    unfold TA
    refine tileA_at (ops0 m c _) _ _ _ _ _ n.val (by omega) e ⟨n.val, h1⟩ ?_ (fun k => ?_) (fun k => ?_)
    · rw [coord1_eq]
      rw [show (pt b 0).val % 3 = 0 by show (3 * b.val + 0) % 3 = 0; omega]
      exact BitVec.add_zero _
    · rw [blk_0 m c b 0 (by decide), show (⟨3200 * (0 : Fin 3).val + n.val, by omega⟩ : Fin 6400) = ⟨n.val, by omega⟩ from Fin.ext (Nat.zero_add _), host_v1]; rfl
    · rw [blk_1 m c b 0 (by decide), show (⟨3200 * (0 : Fin 3).val + n.val, by omega⟩ : Fin 6400) = ⟨n.val, by omega⟩ from Fin.ext (Nat.zero_add _), host_v3]; rfl
  · rw [dif_neg (show ¬ (ValueIdx.ix3 e b n 2).val < 3200 from h1)]
    by_cases h2 : n.val < 6400
    · rw [dif_pos (show (ValueIdx.ix3 e b n 2).val < 6400 from h2), dif_pos h2]
      unfold TB
      refine tileA_at (ops0 m c _) _ _ _ _ _ n.val h2 e ⟨n.val - 3200, by omega⟩ ?_ (fun k => ?_) (fun k => ?_)
      · rw [coord1_eq]
        rw [show (pt b 1).val % 3 = 1 by show (3 * b.val + 1) % 3 = 1; omega]
        show BitVec.ofNat 32 (n.val - 3200) + BitVec.ofNat 32 3200 = _
        rw [← BitVec.ofNat_add]; congr 1; omega
      · rw [blk_0 m c b 1 (by decide), show (⟨3200 * (1 : Fin 3).val + (n.val - 3200), by omega⟩ : Fin 6400) = ⟨n.val, h2⟩ from Fin.ext (by show 3200 * 1 + (n.val - 3200) = n.val; omega), host_v1]; rfl
      · rw [blk_1 m c b 1 (by decide), show (⟨3200 * (1 : Fin 3).val + (n.val - 3200), by omega⟩ : Fin 6400) = ⟨n.val, h2⟩ from Fin.ext (by show 3200 * 1 + (n.val - 3200) = n.val; omega), host_v3]; rfl
    · rw [dif_neg (show ¬ (ValueIdx.ix3 e b n 2).val < 6400 from h2), dif_neg h2]
      unfold TC
      by_cases h3 : n.val - 6400 < 1600
      · rw [dif_pos h3]
        refine tileC_mid (ops1 m c _) _ _ _ _ _ _ _ _ _ _ e _ ⟨n.val - 6400, h3⟩ rfl (fun k => ?_) (fun k => ?_)
        · rw [blk_2 m c b 2, host_v5]; rfl
        · rw [blk_3 m c b 2, host_v7]; rfl
      · rw [dif_neg h3]
        refine tileC_low (ops2 m c _) _ _ _ _ _ _ _ _ _ _ e _ ⟨n.val - 6400 - 1600, by omega⟩ (by show n.val - 6400 = 1600 + (n.val - 6400 - 1600); omega) (fun k => ?_) (fun k => ?_)
        · rw [T6_at, host_v8]; rfl
        · rw [T7_at, host_v9]; rfl

end Cert.KernelIdeal.Hand

end
-- ==== Proof.End.lean ====
module

public import proofs.«01_k».proof.Proof.Run
public import proofs.«01_k».proof.Proof.KVal
public import Idealize.ShloMosaic.Lib.Pointwise

@[expose] public section

set_option maxHeartbeats 2000000

noncomputable section

namespace Cert.KernelIdeal.Hand

open Cert.KernelIdeal Cert.KernelIdeal.Gen Cert.Head
open Idealize.ShloMosaic Idealize.ShloMosaic.TcCoe Idealize.SL.Sem

variable (m : (ℓ : Loc nD τ sig) → Buf (Elt Ideal) ℓ) (ρ : Dev nD → PrngReg)

/-! The program's result at the end: the launch's result transposed. -/

/-- The launch's result as the last line finds it. -/
theorem found (c : Dev nD) : Pipeline.withArrays spec0 c (Pipeline.withR (V₀ m c) R0 c (G m c)) (fun w => (dats m 0 c).arrAt w cfg0.N) (Proc.devRef .tc main_call0_v37)
    = G37 m c :=
  (Pipeline.withArrays_of_ne spec0 c _ _ main_call0_v37 (by decide)).trans
    ((Pipeline.withR_of_mem _ _ c _ main_call0_v37 (by decide)).trans (G_out m c))

/-- The program's result is the launch's with its axes turned. -/
theorem end_out (c : Dev nD) : (VEnd m c (Proc.devRef .tc main_v0) : FVec Ideal S16x8400x149 .f32)
    = transpose S16x8400x149 [1, 2, 0] (G37 m c) transposes_S149x16x8400_S16x8400x149_1_2_0 := by
  rw [← found m c]
  unfold VEnd
  generalize Pipeline.withArrays spec0 c (Pipeline.withR (V₀ m c) R0 c (G m c)) (fun w => (dats m 0 c).arrAt w cfg0.N) = Y
  after_reads_at

/-- The program's result, entry by entry. -/
theorem end_at (c : Dev nD) (b : Fin 16) (n : Fin 8400) (e : Fin 149) :
    (VEnd m c (Proc.devRef .tc main_v0) : FVec Ideal S16x8400x149 .f32) (ix3 b n e)
      = result (m (c, Proc.devRef .tc main_arg0) : FVec Ideal S16x256x80x80 .f32) (m (c, Proc.devRef .tc main_arg3) : FVec Ideal S16x256x80x80 .f32)
          (m (c, Proc.devRef .tc main_arg1) : FVec Ideal S16x256x40x40 .f32) (m (c, Proc.devRef .tc main_arg4) : FVec Ideal S16x256x40x40 .f32)
          (m (c, Proc.devRef .tc main_arg2) : FVec Ideal S16x256x20x20 .f32) (m (c, Proc.devRef .tc main_arg5) : FVec Ideal S16x256x20x20 .f32)
          (W0 m c) (W1 m c) (W2 m c) b n e := by
  refine Eq.trans ?_ (G37_at m c e b n)
  rw [end_out]
  generalize G37 m c = y
  pointwise []

/-- The run leaves the result at its stated value and every argument as it was. -/
theorem run_value : θ_run (defs (F := Ideal)) (onTc (τ := τ) (main (F := Ideal))) ⟨m, fun _ => 0, ρ⟩ (fun r => ∀ c : Dev nD,
      r.2.mem ((c.tc : Thread nD τ).loc main_v0) = VEnd m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h => fun c => ⟨(h.1 c).2 main_v0 (by decide),
    ((h.1 c).2 main_arg0 (by decide)).trans (end_arg0 m c),
    ((h.1 c).2 main_arg1 (by decide)).trans (end_arg1 m c),
    ((h.1 c).2 main_arg2 (by decide)).trans (end_arg2 m c),
    ((h.1 c).2 main_arg3 (by decide)).trans (end_arg3 m c),
    ((h.1 c).2 main_arg4 (by decide)).trans (end_arg4 m c),
    ((h.1 c).2 main_arg5 (by decide)).trans (end_arg5 m c),
    ((h.1 c).2 main_arg6 (by decide)).trans (end_arg6 m c),
    ((h.1 c).2 main_arg7 (by decide)).trans (end_arg7 m c),
    ((h.1 c).2 main_arg8 (by decide)).trans (end_arg8 m c),
    ((h.1 c).2 main_arg9 (by decide)).trans (end_arg9 m c),
    ((h.1 c).1 6).trans (((dats m 0 c).arrAt_in 6 rfl cfg0.N).trans ((A_eq m c 6).trans (V_arg10 m c))),
    ((h.1 c).2 main_arg11 (by decide)).trans (end_arg11 m c),
    ((h.1 c).2 main_arg12 (by decide)).trans (end_arg12 m c),
    ((h.1 c).2 main_arg13 (by decide)).trans (end_arg13 m c),
    ((h.1 c).2 main_arg14 (by decide)).trans (end_arg14 m c),
    ((h.1 c).2 main_arg15 (by decide)).trans (end_arg15 m c),
    ((h.1 c).1 10).trans (((dats m 0 c).arrAt_in 10 rfl cfg0.N).trans ((A_eq m c 10).trans (V_arg16 m c))),
    ((h.1 c).2 main_arg17 (by decide)).trans (end_arg17 m c),
    ((h.1 c).2 main_arg18 (by decide)).trans (end_arg18 m c),
    ((h.1 c).2 main_arg19 (by decide)).trans (end_arg19 m c),
    ((h.1 c).2 main_arg20 (by decide)).trans (end_arg20 m c),
    ((h.1 c).2 main_arg21 (by decide)).trans (end_arg21 m c),
    ((h.1 c).1 14).trans (((dats m 0 c).arrAt_in 14 rfl cfg0.N).trans ((A_eq m c 14).trans (V_arg22 m c))),
    ((h.1 c).2 main_arg23 (by decide)).trans (end_arg23 m c)⟩) (run_main m ρ)

end Cert.KernelIdeal.Hand

end
-- ==== Proof.Soft.lean ====
module

public import proofs.«01_k».proof.Proof.Spec

@[expose] public section

set_option maxHeartbeats 1000000

noncomputable section

namespace Cert.Head

open Idealize.ShloMosaic

/-! The reference's way of writing a pixel: its distance is a mean under a softmax that subtracts the greatest logit
    first. Where the logits are real numbers this is the plain quotient. -/

/-- A real number among the extended reals. -/
def IsNum (x : EReal) : Prop := ∃ r : ℝ, x = (r : EReal)

/-- A product of reals is real. -/
theorem IsNum.mul {x y : EReal} (hx : IsNum x) (hy : IsNum y) : IsNum (x * y) := by
  obtain ⟨a, rfl⟩ := hx; obtain ⟨b, rfl⟩ := hy; exact ⟨a * b, (EReal.coe_mul a b).symm⟩
/-- A sum of two reals is real. -/
theorem IsNum.add {x y : EReal} (hx : IsNum x) (hy : IsNum y) : IsNum (x + y) := by
  obtain ⟨a, rfl⟩ := hx; obtain ⟨b, rfl⟩ := hy; exact ⟨a + b, (EReal.coe_add a b).symm⟩
/-- A sum of reals, inside the extended reals. -/
theorem coe_sum {ι : Type} [Fintype ι] (f : ι → ℝ) : (∑ i, (f i : EReal)) = ((∑ i, f i : ℝ) : EReal) := by
  classical
  have h : ∀ s : Finset ι, (∑ i ∈ s, (f i : EReal)) = ((∑ i ∈ s, f i : ℝ) : EReal) := fun s => by
    induction s using Finset.induction_on with
    | empty => simp
    | insert a s ha ih => rw [Finset.sum_insert ha, Finset.sum_insert ha, ih, EReal.coe_add]
  exact h _
/-- A finite sum of reals is real. -/
theorem IsNum.sum {ι : Type} [Fintype ι] {f : ι → EReal} (h : ∀ i, IsNum (f i)) : IsNum (∑ i, f i) := by
  choose r hr using h
  exact ⟨∑ i, r i, by rw [← coe_sum]; exact Finset.sum_congr rfl fun i _ => hr i⟩

/-- A linear layer over real numbers gives a real number. -/
theorem lin_num {x w : Fin 256 → EReal} {b : EReal} (hx : ∀ k, IsNum (x k)) (hw : ∀ k, IsNum (w k)) (hb : IsNum b) : IsNum (lin x w b) :=
  (IsNum.sum fun k => (hx k).mul (hw k)).add hb

/-- A number whose magnitude is below infinity is real. -/
theorem num_of_lt {x : EReal} (h : max x (-x) < ⊤) : IsNum x := by
  induction x with
  | bot => simp at h
  | top => simp at h
  | coe r => exact ⟨r, rfl⟩

/-- The word of minus infinity. -/
theorem word_bot : Ideal.ofBits .f32 4286578688#32 = ⊥ := by simp [Ideal.ofBits, Ideal.ieee]
/-- The word of infinity. -/
theorem word_top : Ideal.ofBits .f32 0x7F800000#32 = ⊤ := by simp [Ideal.ofBits, Ideal.ieee]

/-- The greatest of a nonempty family of reals is real. -/
theorem max_num {ι : Type} (s : Finset ι) (f : ι → EReal) (i : ι) (hi : i ∈ s) (hf : ∀ j, IsNum (f j)) :
    IsNum (max (Ideal.ofBits .f32 4286578688#32) (s.fold max (Ideal.ofBits .f32 4286578688#32) f)) := by
  rw [word_bot, max_eq_right bot_le]
  have h1 : s.fold max ⊥ f < ⊤ := (Finset.fold_max_lt _).mpr ⟨bot_lt_top, fun j _ => by obtain ⟨r, hr⟩ := hf j; rw [hr]; exact EReal.coe_lt_top r⟩
  have h2 : ⊥ < s.fold max ⊥ f := (Finset.lt_fold_max _).mpr (Or.inr ⟨i, hi, by obtain ⟨r, hr⟩ := hf i; rw [hr]; exact EReal.bot_lt_coe r⟩)
  exact ⟨(s.fold max ⊥ f).toReal, (EReal.coe_toReal h1.ne h2.ne').symm⟩

/-- A bin's centre is a real number. -/
theorem cen_num : ∀ t, IsNum (cen t) := by
  intro t
  unfold cen Ideal.ofBits Ideal.ieee
  have h : ∀ t : Fin 16, ¬ ((binWord t).extractLsb' 23 8).toNat = 2 ^ 8 - 1 := by decide
  dsimp only
  rw [if_neg (h t)]
  split_ifs <;> exact ⟨_, rfl⟩

/-- A quotient of reals by a positive one. -/
theorem div_coe (a b : ℝ) (hb : 0 < b) : Ideal.div (a : EReal) (b : EReal) = ((a / b : ℝ) : EReal) := by
  unfold Ideal.div
  rw [if_neg (by simpa using hb.ne'), div_eq_mul_inv, EReal.coe_mul, EReal.coe_inv]

/-- The mean of the centres under the softmax of real logits, the greatest of them (any real number) taken off first. -/
theorem dist_of_softmax (l : Fin 16 → EReal) (M : EReal) (hl : ∀ t, IsNum (l t)) (hM : IsNum M) :
    (∑ t, Ideal.div (Ideal.exp (l t - M)) (∑ u, Ideal.exp (l u - M)) * cen t) = dist l := by
  choose r hr using hl
  obtain ⟨μ, rfl⟩ := hM
  choose c hc using cen_num
  have e1 : ∀ t, Ideal.exp (l t - (μ : EReal)) = ((Real.exp (r t - μ) : ℝ) : EReal) := fun t => by rw [hr, ← EReal.coe_sub]; rfl
  have e2 : ∀ t, Ideal.exp (l t) = ((Real.exp (r t) : ℝ) : EReal) := fun t => by rw [hr]; rfl
  have p1 : 0 < ∑ t : Fin 16, Real.exp (r t - μ) := Finset.sum_pos (fun t _ => Real.exp_pos _) Finset.univ_nonempty
  have p2 : 0 < ∑ t : Fin 16, Real.exp (r t) := Finset.sum_pos (fun t _ => Real.exp_pos _) Finset.univ_nonempty
  unfold dist
  simp only [e1, e2, hc, coe_sum, ← EReal.coe_mul, div_coe _ _ p1, div_coe _ _ p2]
  congr 1
  have e3 : ∀ t, Real.exp (r t - μ) = Real.exp (r t) * Real.exp (-μ) := fun t => by rw [sub_eq_add_neg, Real.exp_add]
  simp only [e3, ← Finset.sum_mul] at p1 ⊢
  rw [Finset.sum_div]
  refine Finset.sum_congr rfl fun t _ => ?_
  have hμ : Real.exp (-μ) ≠ 0 := (Real.exp_pos _).ne'
  rw [mul_div_mul_right _ _ hμ]
  ring

/-- The reference's stacking of objectness, classes, box logits and the two corners. -/
theorem Wts.out_of_stacked (W : Wts) (xc xr : Fin 256 → EReal) (s : EReal) (cx cy : ℕ) (e : Fin 149) (L : Fin 64 → EReal) (D : Fin 4 → EReal) (A : Fin 2 → EReal)
    (hL : ∀ c, L c = lin xr (W.rw c) (W.rb c)) (hD : ∀ q, D q = W.side xr q) (hA : ∀ i : Fin 2, A i = anchor (if i.val < 1 then cx else cy) s) :
    (if h : e.val < 1 then lin xr W.ow W.ob
      else if h : e.val - 1 < 80 then lin xc (W.cw ⟨e.val - 1, h⟩) (W.cb ⟨e.val - 1, h⟩)
      else if h : e.val - 1 - 80 < 64 then L ⟨e.val - 1 - 80, h⟩
      else if h : e.val - 1 - 80 - 64 < 2 then A ⟨e.val - 1 - 80 - 64, h⟩ - D ⟨e.val - 1 - 80 - 64, by omega⟩ * s
      else A ⟨e.val - 1 - 80 - 64 - 2, by omega⟩ + D ⟨2 + (e.val - 1 - 80 - 64 - 2), by omega⟩ * s) = W.out xc xr s cx cy e := by
  unfold Wts.out Wts.row Wts.box
  simp only [hL, hD, hA]
  by_cases h0 : e.val < 1
  · simp only [dif_pos h0, if_pos h0, dif_pos (show e.val < 145 by omega)]
  · by_cases h1 : e.val - 1 < 80
    · simp only [dif_neg h0, if_neg h0, dif_pos h1, dif_pos (show e.val < 145 by omega)]
    · by_cases h2 : e.val - 1 - 80 < 64
      · simp only [dif_neg h0, if_neg h0, dif_neg h1, dif_pos h2, dif_pos (show e.val < 145 by omega)]
      · by_cases h3 : e.val - 1 - 80 - 64 < 2
        · simp only [dif_neg h0, dif_neg h1, dif_neg h2, dif_pos h3, dif_neg (show ¬ e.val < 145 by omega), if_pos (show e.val - 145 < 2 by omega)]
          rw [show (⟨e.val - 1 - 80 - 64, by omega⟩ : Fin 4) = ⟨e.val - 145, by omega⟩ from Fin.ext (by show e.val - 1 - 80 - 64 = e.val - 145; omega),
            show (if e.val - 1 - 80 - 64 < 1 then cx else cy) = if e.val - 145 = 0 then cx else cy by split_ifs <;> first | rfl | omega]
        · simp only [dif_neg h0, dif_neg h1, dif_neg h2, dif_neg h3, dif_neg (show ¬ e.val < 145 by omega), if_neg (show ¬ e.val - 145 < 2 by omega)]
          rw [show (⟨2 + (e.val - 1 - 80 - 64 - 2), by omega⟩ : Fin 4) = ⟨e.val - 145, by omega⟩ from Fin.ext (by show 2 + (e.val - 1 - 80 - 64 - 2) = e.val - 145; omega),
            show (if e.val - 1 - 80 - 64 - 2 < 1 then cx else cy) = if e.val - 145 = 2 then cx else cy by split_ifs <;> first | rfl | omega]

end Cert.Head

end
-- ==== Proof.RefVal.lean ====
module

public import proofs.«01_k».proof.Proof.Gen.ReferenceIdeal.Run
public import proofs.«01_k».proof.Proof.Soft
public import Idealize.ShloMosaic.Lib.Pointwise
public import Idealize.ShloMosaic.PureOps.Ideal.Laws

@[expose] public section

set_option maxHeartbeats 2000000

noncomputable section

namespace Cert.ReferenceIdeal.Hand

open Cert.ReferenceIdeal Cert.ReferenceIdeal.Gen Cert.ReferenceIdeal.Value Cert.Head
open Idealize.ShloMosaic Idealize.ShloMosaic.StableHlo

/-! The reference's result is `Cert.Head.result` of the arguments, where the box features, weights and biases are real. -/

variable (X : Valuation τ sig (Elt Ideal))

/-- The maximum over an axis of real entries, at an index that some entry drops to, is real. -/
theorem reduce_num {s t u : Shape} {axes : List (Fin s.rank)} (x : FVec Ideal s .f32) (init : FVec Ideal u .f32) (h : s.ReducesTo axes t)
    (hu : 0 < u.numel) (j : t.Idx) (i₀ : s.Idx) (hi : h.drop i₀ = j)
    (h0 : init (Shape.Idx.first hu) = Ideal.ofBits .f32 4286578688#32) (hx : ∀ i, IsNum (x i)) :
    IsNum (max (Ideal.ofBits .f32 4286578688#32) ((Host.reduce FloatOps.maximumf x init h hu : FVec Ideal t .f32) j)) := by
  have e := Host.reduce_eq_fold (max : EReal → EReal → EReal) x init h hu j
  have e' : (Host.reduce FloatOps.maximumf x init h hu : FVec Ideal t .f32) j = _ := e
  rw [e', h0]
  exact max_num _ _ i₀ (Finset.mem_filter.2 ⟨Finset.mem_univ _, hi⟩) hx

/-! ## The level with 80 pixels a side -/

/-- The level's class features. -/
def C0 : FVec Ideal S16x256x80x80 .f32 := X (Proc.devRef .tc main_arg0)
/-- The level's box features. -/
def R0 : FVec Ideal S16x256x80x80 .f32 := X (Proc.devRef .tc main_arg3)
/-- The level's weights. -/
def W0 : Wts := Wts.of (X (Proc.devRef .tc main_arg6) : FVec Ideal S1x256 .f32) (X (Proc.devRef .tc main_arg7) : FVec Ideal S1 .f32) (X (Proc.devRef .tc main_arg8) : FVec Ideal S80x256 .f32) (X (Proc.devRef .tc main_arg9) : FVec Ideal S80 .f32) (X (Proc.devRef .tc main_arg10) : FVec Ideal S64x256 .f32) (X (Proc.devRef .tc main_arg11) : FVec Ideal S64 .f32)
/-- The box logits. -/
def Lg0 : FVec Ideal S16x6400x64 .f32 := res_main_v14 X
/-- The box logits by side and bin. -/
def Bn0 : FVec Ideal S16x6400x4x16 .f32 := res_main_v15 X
/-- Their shifted exponentials. -/
def Ex0 : FVec Ideal S16x6400x4x16 .f32 := res_main_v22 X
/-- The distances. -/
def Di0 : FVec Ideal S16x6400x4 .f32 := res_main_v27 X
/-- The anchors. -/
def An0 : FVec Ideal S6400x2 .f32 := res_main_v39 X

/-- A box logit is linear in the pixel's features. -/
theorem Lg0_at (b : Fin 16) (j : Fin 6400) (c : Fin 64) :
    Lg0 X (ix3 b j c) = lin (feat (R0 X) b j.val (show j.val < 80 * 80 by omega)) ((W0 X).rw c) ((W0 X).rb c) := by
  show (res_main_v14 X : FVec Ideal S16x6400x64 .f32) (ix3 b j c) = _
  pointwise [res_main_v14]
  rfl

/-- The same by side and bin. -/
theorem Bn0_at (b : Fin 16) (j : Fin 6400) (q : Fin 4) (t : Fin 16) :
    Bn0 X (ix4 b j q t) = lin (feat (R0 X) b j.val (show j.val < 80 * 80 by omega)) ((W0 X).rw ⟨q.val * 16 + t.val, by omega⟩) ((W0 X).rb ⟨q.val * 16 + t.val, by omega⟩) := by
  refine Eq.trans ?_ (Lg0_at X b j ⟨q.val * 16 + t.val, by omega⟩)
  show (res_main_v15 X : FVec Ideal S16x6400x4x16 .f32) (ix4 b j q t) = _
  generalize hR : Lg0 X (ix3 b j ⟨q.val * 16 + t.val, by omega⟩) = y
  pointwise [res_main_v15]
  exact hR

/-- The logits are real. -/
theorem Bn0_num (hx : ∀ i, IsNum (R0 X i)) (hw : ∀ i, IsNum ((X (Proc.devRef .tc main_arg10) : FVec Ideal S64x256 .f32) i)) (hb : ∀ i, IsNum ((X (Proc.devRef .tc main_arg11) : FVec Ideal S64 .f32) i)) (i : S16x6400x4x16.Idx) : IsNum (Bn0 X i) := by
  obtain ⟨b, j, q, t, rfl⟩ : ∃ (b : Fin 16) (j : Fin 6400) (q : Fin 4) (t : Fin 16), i = ix4 b j q t :=
    ⟨i 0, i 1, i 2, i 3, by funext a; fin_cases a <;> rfl⟩
  rw [Bn0_at]
  exact lin_num (fun k => hx _) (fun k => hw _) (hb _)

/-- The shifted exponential, the maxima being any array. -/
theorem exp_sub0 (x : FVec Ideal S16x6400x4x16 .f32) (R : FVec Ideal S16x6400x4 .f32) (b : Fin 16) (j : Fin 6400) (q : Fin 4) (t : Fin 16) :
    (Host.exp (subf x (broadcastInDim S16x6400x4x16 ![0, 1, 2, 3] bcast_S16x6400x4x1_S16x6400x4x16_0_1_2_3 (broadcastInDim S16x6400x4x1 ![0, 1, 2] bcast_S16x6400x4_S16x6400x4x1_0_1_2 (maximumf (broadcastInDim S16x6400x4 ![] bcast_S_S16x6400x4 (constant S_ .f32 0xFF800000#32)) R)))) : FVec Ideal S16x6400x4x16 .f32) (ix4 b j q t)
      = Ideal.exp (x (ix4 b j q t) - max (Ideal.ofBits .f32 4286578688#32) (R (ix3 b j q))) := by
  pointwise []

/-- The exponentials are shifted by one real number a side: the largest logit. -/
theorem Ex0_at (hx : ∀ i, IsNum (R0 X i)) (hw : ∀ i, IsNum ((X (Proc.devRef .tc main_arg10) : FVec Ideal S64x256 .f32) i)) (hb : ∀ i, IsNum ((X (Proc.devRef .tc main_arg11) : FVec Ideal S64 .f32) i)) (b : Fin 16) (j : Fin 6400) (q : Fin 4) :
    ∃ M : EReal, IsNum M ∧ ∀ t : Fin 16, Ex0 X (ix4 b j q t) = Ideal.exp (Bn0 X (ix4 b j q t) - M) :=
  ⟨_, reduce_num (Bn0 X) (constant S_ .f32 0xFF800000#32) reducesTo_S16x6400x4x16_S16x6400x4_d3 h_S_ (ix3 b j q) (ix4 b j q (0 : Fin 16))
      (by funext a; fin_cases a <;> rfl) rfl (Bn0_num X hx hw hb),
    fun t => exp_sub0 (Bn0 X) _ b j q t⟩

/-- A distance is the mean bin centre under the normalised exponentials. -/
theorem Di0_at (b : Fin 16) (j : Fin 6400) (q : Fin 4) :
    Di0 X (ix3 b j q) = ∑ t, Ideal.div (Ex0 X (ix4 b j q t)) (∑ u, Ex0 X (ix4 b j q u)) * cen t := by
  have hl : ∀ t : Fin 16, Ideal.ofBits .f32 (lit0 (S16.rowMajor (ix1 t))) = cen t := by
    have h0 : ∀ t : Fin 16, lit0 t = binWord t := by decide
    intro t
    unfold cen
    rw [← h0]
    exact congrArg (fun u => Ideal.ofBits .f32 (lit0 u)) (Fin.ext (Shape.rowMajor_val_one _))
  simp only [← hl]
  show (res_main_v27 X : FVec Ideal S16x6400x4 .f32) (ix3 b j q) = _
  unfold Ex0
  pointwise [res_main_v27]

/-- A distance is the soft mean of the logits. -/
theorem side0 (hx : ∀ i, IsNum (R0 X i)) (hw : ∀ i, IsNum ((X (Proc.devRef .tc main_arg10) : FVec Ideal S64x256 .f32) i)) (hb : ∀ i, IsNum ((X (Proc.devRef .tc main_arg11) : FVec Ideal S64 .f32) i)) (b : Fin 16) (j : Fin 6400) (q : Fin 4) :
    Di0 X (ix3 b j q) = (W0 X).side (feat (R0 X) b j.val (show j.val < 80 * 80 by omega)) q := by
  obtain ⟨M, hM, he⟩ := Ex0_at X hx hw hb b j q
  rw [Di0_at]
  simp only [he, Bn0_at]
  exact dist_of_softmax (fun t => lin (feat (R0 X) b j.val (show j.val < 80 * 80 by omega)) ((W0 X).rw ⟨q.val * 16 + t.val, by omega⟩) ((W0 X).rb ⟨q.val * 16 + t.val, by omega⟩)) M
    (fun t => lin_num (fun k => hx _) (fun k => hw _) (hb _)) hM

/-- A pixel's anchor. -/
theorem An0_at (j : Fin 6400) (i : Fin 2) :
    An0 X (ix2 j i) = anchor (if i.val < 1 then j.val % 80 else j.val / 80) (Ideal.ofBits .f32 1090519040#32) := by
  show (res_main_v39 X : FVec Ideal S6400x2 .f32) (ix2 j i) = _
  generalize hR : anchor (if i.val < 1 then j.val % 80 else j.val / 80) (Ideal.ofBits .f32 1090519040#32) = y
  pointwise [res_main_v39]
  rw [← hR]
  unfold anchor
  split_ifs <;> rfl

/-! ## The level with 40 pixels a side -/

/-- The level's class features. -/
def C1 : FVec Ideal S16x256x40x40 .f32 := X (Proc.devRef .tc main_arg1)
/-- The level's box features. -/
def R1 : FVec Ideal S16x256x40x40 .f32 := X (Proc.devRef .tc main_arg4)
/-- The level's weights. -/
def W1 : Wts := Wts.of (X (Proc.devRef .tc main_arg12) : FVec Ideal S1x256 .f32) (X (Proc.devRef .tc main_arg13) : FVec Ideal S1 .f32) (X (Proc.devRef .tc main_arg14) : FVec Ideal S80x256 .f32) (X (Proc.devRef .tc main_arg15) : FVec Ideal S80 .f32) (X (Proc.devRef .tc main_arg16) : FVec Ideal S64x256 .f32) (X (Proc.devRef .tc main_arg17) : FVec Ideal S64 .f32)
/-- The box logits. -/
def Lg1 : FVec Ideal S16x1600x64 .f32 := res_main_v68 X
/-- The box logits by side and bin. -/
def Bn1 : FVec Ideal S16x1600x4x16 .f32 := res_main_v69 X
/-- Their shifted exponentials. -/
def Ex1 : FVec Ideal S16x1600x4x16 .f32 := res_main_v76 X
/-- The distances. -/
def Di1 : FVec Ideal S16x1600x4 .f32 := res_main_v81 X
/-- The anchors. -/
def An1 : FVec Ideal S1600x2 .f32 := res_main_v93 X

/-- A box logit is linear in the pixel's features. -/
theorem Lg1_at (b : Fin 16) (j : Fin 1600) (c : Fin 64) :
    Lg1 X (ix3 b j c) = lin (feat (R1 X) b j.val (show j.val < 40 * 40 by omega)) ((W1 X).rw c) ((W1 X).rb c) := by
  show (res_main_v68 X : FVec Ideal S16x1600x64 .f32) (ix3 b j c) = _
  pointwise [res_main_v68]
  rfl

/-- The same by side and bin. -/
theorem Bn1_at (b : Fin 16) (j : Fin 1600) (q : Fin 4) (t : Fin 16) :
    Bn1 X (ix4 b j q t) = lin (feat (R1 X) b j.val (show j.val < 40 * 40 by omega)) ((W1 X).rw ⟨q.val * 16 + t.val, by omega⟩) ((W1 X).rb ⟨q.val * 16 + t.val, by omega⟩) := by
  refine Eq.trans ?_ (Lg1_at X b j ⟨q.val * 16 + t.val, by omega⟩)
  show (res_main_v69 X : FVec Ideal S16x1600x4x16 .f32) (ix4 b j q t) = _
  generalize hR : Lg1 X (ix3 b j ⟨q.val * 16 + t.val, by omega⟩) = y
  pointwise [res_main_v69]
  exact hR

/-- The logits are real. -/
theorem Bn1_num (hx : ∀ i, IsNum (R1 X i)) (hw : ∀ i, IsNum ((X (Proc.devRef .tc main_arg16) : FVec Ideal S64x256 .f32) i)) (hb : ∀ i, IsNum ((X (Proc.devRef .tc main_arg17) : FVec Ideal S64 .f32) i)) (i : S16x1600x4x16.Idx) : IsNum (Bn1 X i) := by
  obtain ⟨b, j, q, t, rfl⟩ : ∃ (b : Fin 16) (j : Fin 1600) (q : Fin 4) (t : Fin 16), i = ix4 b j q t :=
    ⟨i 0, i 1, i 2, i 3, by funext a; fin_cases a <;> rfl⟩
  rw [Bn1_at]
  exact lin_num (fun k => hx _) (fun k => hw _) (hb _)

/-- The shifted exponential, the maxima being any array. -/
theorem exp_sub1 (x : FVec Ideal S16x1600x4x16 .f32) (R : FVec Ideal S16x1600x4 .f32) (b : Fin 16) (j : Fin 1600) (q : Fin 4) (t : Fin 16) :
    (Host.exp (subf x (broadcastInDim S16x1600x4x16 ![0, 1, 2, 3] bcast_S16x1600x4x1_S16x1600x4x16_0_1_2_3 (broadcastInDim S16x1600x4x1 ![0, 1, 2] bcast_S16x1600x4_S16x1600x4x1_0_1_2 (maximumf (broadcastInDim S16x1600x4 ![] bcast_S_S16x1600x4 (constant S_ .f32 0xFF800000#32)) R)))) : FVec Ideal S16x1600x4x16 .f32) (ix4 b j q t)
      = Ideal.exp (x (ix4 b j q t) - max (Ideal.ofBits .f32 4286578688#32) (R (ix3 b j q))) := by
  pointwise []

/-- The exponentials are shifted by one real number a side: the largest logit. -/
theorem Ex1_at (hx : ∀ i, IsNum (R1 X i)) (hw : ∀ i, IsNum ((X (Proc.devRef .tc main_arg16) : FVec Ideal S64x256 .f32) i)) (hb : ∀ i, IsNum ((X (Proc.devRef .tc main_arg17) : FVec Ideal S64 .f32) i)) (b : Fin 16) (j : Fin 1600) (q : Fin 4) :
    ∃ M : EReal, IsNum M ∧ ∀ t : Fin 16, Ex1 X (ix4 b j q t) = Ideal.exp (Bn1 X (ix4 b j q t) - M) :=
  ⟨_, reduce_num (Bn1 X) (constant S_ .f32 0xFF800000#32) reducesTo_S16x1600x4x16_S16x1600x4_d3 h_S_ (ix3 b j q) (ix4 b j q (0 : Fin 16))
      (by funext a; fin_cases a <;> rfl) rfl (Bn1_num X hx hw hb),
    fun t => exp_sub1 (Bn1 X) _ b j q t⟩

/-- A distance is the mean bin centre under the normalised exponentials. -/
theorem Di1_at (b : Fin 16) (j : Fin 1600) (q : Fin 4) :
    Di1 X (ix3 b j q) = ∑ t, Ideal.div (Ex1 X (ix4 b j q t)) (∑ u, Ex1 X (ix4 b j q u)) * cen t := by
  have hl : ∀ t : Fin 16, Ideal.ofBits .f32 (lit1 (S16.rowMajor (ix1 t))) = cen t := by
    have h0 : ∀ t : Fin 16, lit1 t = binWord t := by decide
    intro t
    unfold cen
    rw [← h0]
    exact congrArg (fun u => Ideal.ofBits .f32 (lit1 u)) (Fin.ext (Shape.rowMajor_val_one _))
  simp only [← hl]
  show (res_main_v81 X : FVec Ideal S16x1600x4 .f32) (ix3 b j q) = _
  unfold Ex1
  pointwise [res_main_v81]

/-- A distance is the soft mean of the logits. -/
theorem side1 (hx : ∀ i, IsNum (R1 X i)) (hw : ∀ i, IsNum ((X (Proc.devRef .tc main_arg16) : FVec Ideal S64x256 .f32) i)) (hb : ∀ i, IsNum ((X (Proc.devRef .tc main_arg17) : FVec Ideal S64 .f32) i)) (b : Fin 16) (j : Fin 1600) (q : Fin 4) :
    Di1 X (ix3 b j q) = (W1 X).side (feat (R1 X) b j.val (show j.val < 40 * 40 by omega)) q := by
  obtain ⟨M, hM, he⟩ := Ex1_at X hx hw hb b j q
  rw [Di1_at]
  simp only [he, Bn1_at]
  exact dist_of_softmax (fun t => lin (feat (R1 X) b j.val (show j.val < 40 * 40 by omega)) ((W1 X).rw ⟨q.val * 16 + t.val, by omega⟩) ((W1 X).rb ⟨q.val * 16 + t.val, by omega⟩)) M
    (fun t => lin_num (fun k => hx _) (fun k => hw _) (hb _)) hM

/-- A pixel's anchor. -/
theorem An1_at (j : Fin 1600) (i : Fin 2) :
    An1 X (ix2 j i) = anchor (if i.val < 1 then j.val % 40 else j.val / 40) (Ideal.ofBits .f32 1098907648#32) := by
  show (res_main_v93 X : FVec Ideal S1600x2 .f32) (ix2 j i) = _
  generalize hR : anchor (if i.val < 1 then j.val % 40 else j.val / 40) (Ideal.ofBits .f32 1098907648#32) = y
  pointwise [res_main_v93]
  rw [← hR]
  unfold anchor
  split_ifs <;> rfl

/-! ## The level with 20 pixels a side -/

/-- The level's class features. -/
def C2 : FVec Ideal S16x256x20x20 .f32 := X (Proc.devRef .tc main_arg2)
/-- The level's box features. -/
def R2 : FVec Ideal S16x256x20x20 .f32 := X (Proc.devRef .tc main_arg5)
/-- The level's weights. -/
def W2 : Wts := Wts.of (X (Proc.devRef .tc main_arg18) : FVec Ideal S1x256 .f32) (X (Proc.devRef .tc main_arg19) : FVec Ideal S1 .f32) (X (Proc.devRef .tc main_arg20) : FVec Ideal S80x256 .f32) (X (Proc.devRef .tc main_arg21) : FVec Ideal S80 .f32) (X (Proc.devRef .tc main_arg22) : FVec Ideal S64x256 .f32) (X (Proc.devRef .tc main_arg23) : FVec Ideal S64 .f32)
/-- The box logits. -/
def Lg2 : FVec Ideal S16x400x64 .f32 := res_main_v122 X
/-- The box logits by side and bin. -/
def Bn2 : FVec Ideal S16x400x4x16 .f32 := res_main_v123 X
/-- Their shifted exponentials. -/
def Ex2 : FVec Ideal S16x400x4x16 .f32 := res_main_v130 X
/-- The distances. -/
def Di2 : FVec Ideal S16x400x4 .f32 := res_main_v135 X
/-- The anchors. -/
def An2 : FVec Ideal S400x2 .f32 := res_main_v147 X

/-- A box logit is linear in the pixel's features. -/
theorem Lg2_at (b : Fin 16) (j : Fin 400) (c : Fin 64) :
    Lg2 X (ix3 b j c) = lin (feat (R2 X) b j.val (show j.val < 20 * 20 by omega)) ((W2 X).rw c) ((W2 X).rb c) := by
  show (res_main_v122 X : FVec Ideal S16x400x64 .f32) (ix3 b j c) = _
  pointwise [res_main_v122]
  rfl

/-- The same by side and bin. -/
theorem Bn2_at (b : Fin 16) (j : Fin 400) (q : Fin 4) (t : Fin 16) :
    Bn2 X (ix4 b j q t) = lin (feat (R2 X) b j.val (show j.val < 20 * 20 by omega)) ((W2 X).rw ⟨q.val * 16 + t.val, by omega⟩) ((W2 X).rb ⟨q.val * 16 + t.val, by omega⟩) := by
  refine Eq.trans ?_ (Lg2_at X b j ⟨q.val * 16 + t.val, by omega⟩)
  show (res_main_v123 X : FVec Ideal S16x400x4x16 .f32) (ix4 b j q t) = _
  generalize hR : Lg2 X (ix3 b j ⟨q.val * 16 + t.val, by omega⟩) = y
  pointwise [res_main_v123]
  exact hR

/-- The logits are real. -/
theorem Bn2_num (hx : ∀ i, IsNum (R2 X i)) (hw : ∀ i, IsNum ((X (Proc.devRef .tc main_arg22) : FVec Ideal S64x256 .f32) i)) (hb : ∀ i, IsNum ((X (Proc.devRef .tc main_arg23) : FVec Ideal S64 .f32) i)) (i : S16x400x4x16.Idx) : IsNum (Bn2 X i) := by
  obtain ⟨b, j, q, t, rfl⟩ : ∃ (b : Fin 16) (j : Fin 400) (q : Fin 4) (t : Fin 16), i = ix4 b j q t :=
    ⟨i 0, i 1, i 2, i 3, by funext a; fin_cases a <;> rfl⟩
  rw [Bn2_at]
  exact lin_num (fun k => hx _) (fun k => hw _) (hb _)

/-- The shifted exponential, the maxima being any array. -/
theorem exp_sub2 (x : FVec Ideal S16x400x4x16 .f32) (R : FVec Ideal S16x400x4 .f32) (b : Fin 16) (j : Fin 400) (q : Fin 4) (t : Fin 16) :
    (Host.exp (subf x (broadcastInDim S16x400x4x16 ![0, 1, 2, 3] bcast_S16x400x4x1_S16x400x4x16_0_1_2_3 (broadcastInDim S16x400x4x1 ![0, 1, 2] bcast_S16x400x4_S16x400x4x1_0_1_2 (maximumf (broadcastInDim S16x400x4 ![] bcast_S_S16x400x4 (constant S_ .f32 0xFF800000#32)) R)))) : FVec Ideal S16x400x4x16 .f32) (ix4 b j q t)
      = Ideal.exp (x (ix4 b j q t) - max (Ideal.ofBits .f32 4286578688#32) (R (ix3 b j q))) := by
  pointwise []

/-- The exponentials are shifted by one real number a side: the largest logit. -/
theorem Ex2_at (hx : ∀ i, IsNum (R2 X i)) (hw : ∀ i, IsNum ((X (Proc.devRef .tc main_arg22) : FVec Ideal S64x256 .f32) i)) (hb : ∀ i, IsNum ((X (Proc.devRef .tc main_arg23) : FVec Ideal S64 .f32) i)) (b : Fin 16) (j : Fin 400) (q : Fin 4) :
    ∃ M : EReal, IsNum M ∧ ∀ t : Fin 16, Ex2 X (ix4 b j q t) = Ideal.exp (Bn2 X (ix4 b j q t) - M) :=
  ⟨_, reduce_num (Bn2 X) (constant S_ .f32 0xFF800000#32) reducesTo_S16x400x4x16_S16x400x4_d3 h_S_ (ix3 b j q) (ix4 b j q (0 : Fin 16))
      (by funext a; fin_cases a <;> rfl) rfl (Bn2_num X hx hw hb),
    fun t => exp_sub2 (Bn2 X) _ b j q t⟩

/-- A distance is the mean bin centre under the normalised exponentials. -/
theorem Di2_at (b : Fin 16) (j : Fin 400) (q : Fin 4) :
    Di2 X (ix3 b j q) = ∑ t, Ideal.div (Ex2 X (ix4 b j q t)) (∑ u, Ex2 X (ix4 b j q u)) * cen t := by
  have hl : ∀ t : Fin 16, Ideal.ofBits .f32 (lit2 (S16.rowMajor (ix1 t))) = cen t := by
    have h0 : ∀ t : Fin 16, lit2 t = binWord t := by decide
    intro t
    unfold cen
    rw [← h0]
    exact congrArg (fun u => Ideal.ofBits .f32 (lit2 u)) (Fin.ext (Shape.rowMajor_val_one _))
  simp only [← hl]
  show (res_main_v135 X : FVec Ideal S16x400x4 .f32) (ix3 b j q) = _
  unfold Ex2
  pointwise [res_main_v135]

/-- A distance is the soft mean of the logits. -/
theorem side2 (hx : ∀ i, IsNum (R2 X i)) (hw : ∀ i, IsNum ((X (Proc.devRef .tc main_arg22) : FVec Ideal S64x256 .f32) i)) (hb : ∀ i, IsNum ((X (Proc.devRef .tc main_arg23) : FVec Ideal S64 .f32) i)) (b : Fin 16) (j : Fin 400) (q : Fin 4) :
    Di2 X (ix3 b j q) = (W2 X).side (feat (R2 X) b j.val (show j.val < 20 * 20 by omega)) q := by
  obtain ⟨M, hM, he⟩ := Ex2_at X hx hw hb b j q
  rw [Di2_at]
  simp only [he, Bn2_at]
  exact dist_of_softmax (fun t => lin (feat (R2 X) b j.val (show j.val < 20 * 20 by omega)) ((W2 X).rw ⟨q.val * 16 + t.val, by omega⟩) ((W2 X).rb ⟨q.val * 16 + t.val, by omega⟩)) M
    (fun t => lin_num (fun k => hx _) (fun k => hw _) (hb _)) hM

/-- A pixel's anchor. -/
theorem An2_at (j : Fin 400) (i : Fin 2) :
    An2 X (ix2 j i) = anchor (if i.val < 1 then j.val % 20 else j.val / 20) (Ideal.ofBits .f32 1107296256#32) := by
  show (res_main_v147 X : FVec Ideal S400x2 .f32) (ix2 j i) = _
  generalize hR : anchor (if i.val < 1 then j.val % 20 else j.val / 20) (Ideal.ofBits .f32 1107296256#32) = y
  pointwise [res_main_v147]
  rw [← hR]
  unfold anchor
  split_ifs <;> rfl

/-! ## The levels together -/

/-- The result stacked from its pieces, entry by entry. -/
theorem stacked (b : Fin 16) (n : Fin 8400) (e : Fin 149) :
    (res_main_v162 X : FVec Ideal S16x8400x149 .f32) (ix3 b n e) =
    if h0 : n.val < 6400 then (if h : e.val < 1 then lin (feat (R0 X) b (n.val) h0) (W0 X).ow (W0 X).ob
      else if h_1 : e.val - 1 < 80 then lin (feat (C0 X) b (n.val) h0) ((W0 X).cw ⟨e.val - 1, h_1⟩) ((W0 X).cb ⟨e.val - 1, h_1⟩)
      else if h_2 : e.val - 1 - 80 < 64 then Lg0 X (ix3 b (⟨n.val, h0⟩ : Fin 6400) ⟨e.val - 1 - 80, h_2⟩)
      else if h_3 : e.val - 1 - 80 - 64 < 2 then
        An0 X (ix2 (⟨n.val, h0⟩ : Fin 6400) ⟨e.val - 1 - 80 - 64, h_3⟩) - Di0 X (ix3 b (⟨n.val, h0⟩ : Fin 6400) ⟨e.val - 1 - 80 - 64, by omega⟩) * Ideal.ofBits .f32 1090519040#32
      else An0 X (ix2 (⟨n.val, h0⟩ : Fin 6400) ⟨e.val - 1 - 80 - 64 - 2, by omega⟩) + Di0 X (ix3 b (⟨n.val, h0⟩ : Fin 6400) ⟨2 + (e.val - 1 - 80 - 64 - 2), by omega⟩) * Ideal.ofBits .f32 1090519040#32)
    else if h1 : n.val - 6400 < 1600 then (if h : e.val < 1 then lin (feat (R1 X) b (n.val - 6400) h1) (W1 X).ow (W1 X).ob
      else if h_1 : e.val - 1 < 80 then lin (feat (C1 X) b (n.val - 6400) h1) ((W1 X).cw ⟨e.val - 1, h_1⟩) ((W1 X).cb ⟨e.val - 1, h_1⟩)
      else if h_2 : e.val - 1 - 80 < 64 then Lg1 X (ix3 b (⟨n.val - 6400, h1⟩ : Fin 1600) ⟨e.val - 1 - 80, h_2⟩)
      else if h_3 : e.val - 1 - 80 - 64 < 2 then
        An1 X (ix2 (⟨n.val - 6400, h1⟩ : Fin 1600) ⟨e.val - 1 - 80 - 64, h_3⟩) - Di1 X (ix3 b (⟨n.val - 6400, h1⟩ : Fin 1600) ⟨e.val - 1 - 80 - 64, by omega⟩) * Ideal.ofBits .f32 1098907648#32
      else An1 X (ix2 (⟨n.val - 6400, h1⟩ : Fin 1600) ⟨e.val - 1 - 80 - 64 - 2, by omega⟩) + Di1 X (ix3 b (⟨n.val - 6400, h1⟩ : Fin 1600) ⟨2 + (e.val - 1 - 80 - 64 - 2), by omega⟩) * Ideal.ofBits .f32 1098907648#32)
    else (if h : e.val < 1 then lin (feat (R2 X) b (n.val - 6400 - 1600) (by omega)) (W2 X).ow (W2 X).ob
      else if h_1 : e.val - 1 < 80 then lin (feat (C2 X) b (n.val - 6400 - 1600) (by omega)) ((W2 X).cw ⟨e.val - 1, h_1⟩) ((W2 X).cb ⟨e.val - 1, h_1⟩)
      else if h_2 : e.val - 1 - 80 < 64 then Lg2 X (ix3 b (⟨n.val - 6400 - 1600, by omega⟩ : Fin 400) ⟨e.val - 1 - 80, h_2⟩)
      else if h_3 : e.val - 1 - 80 - 64 < 2 then
        An2 X (ix2 (⟨n.val - 6400 - 1600, by omega⟩ : Fin 400) ⟨e.val - 1 - 80 - 64, h_3⟩) - Di2 X (ix3 b (⟨n.val - 6400 - 1600, by omega⟩ : Fin 400) ⟨e.val - 1 - 80 - 64, by omega⟩) * Ideal.ofBits .f32 1107296256#32
      else An2 X (ix2 (⟨n.val - 6400 - 1600, by omega⟩ : Fin 400) ⟨e.val - 1 - 80 - 64 - 2, by omega⟩) + Di2 X (ix3 b (⟨n.val - 6400 - 1600, by omega⟩ : Fin 400) ⟨2 + (e.val - 1 - 80 - 64 - 2), by omega⟩) * Ideal.ofBits .f32 1107296256#32) := by
  pointwise [res_main_v162]
  rfl

/-- The reference's result is the specified one where the box features, weights and biases are real. -/
theorem out_at (hx0 : ∀ i, IsNum (R0 X i)) (hw0 : ∀ i, IsNum ((X (Proc.devRef .tc main_arg10) : FVec Ideal S64x256 .f32) i)) (hb0 : ∀ i, IsNum ((X (Proc.devRef .tc main_arg11) : FVec Ideal S64 .f32) i))
    (hx1 : ∀ i, IsNum (R1 X i)) (hw1 : ∀ i, IsNum ((X (Proc.devRef .tc main_arg16) : FVec Ideal S64x256 .f32) i)) (hb1 : ∀ i, IsNum ((X (Proc.devRef .tc main_arg17) : FVec Ideal S64 .f32) i))
    (hx2 : ∀ i, IsNum (R2 X i)) (hw2 : ∀ i, IsNum ((X (Proc.devRef .tc main_arg22) : FVec Ideal S64x256 .f32) i)) (hb2 : ∀ i, IsNum ((X (Proc.devRef .tc main_arg23) : FVec Ideal S64 .f32) i))
    (b : Fin 16) (n : Fin 8400) (e : Fin 149) :
    (res_main_v162 X : FVec Ideal S16x8400x149 .f32) (ix3 b n e)
      = result (C0 X) (R0 X) (C1 X) (R1 X) (C2 X) (R2 X) (W0 X) (W1 X) (W2 X) b n e := by
  refine (stacked X b n e).trans ?_
  unfold result
  refine dite_congr rfl (fun h0 => ?_) fun h0 => dite_congr rfl (fun h1 => ?_) fun h1 => ?_
  · exact (W0 X).out_of_stacked (feat (C0 X) b (n.val) h0) (feat (R0 X) b (n.val) h0) _ _ _ e
      (fun c => Lg0 X (ix3 b (⟨n.val, h0⟩ : Fin 6400) c)) (fun q => Di0 X (ix3 b (⟨n.val, h0⟩ : Fin 6400) q)) (fun i => An0 X (ix2 (⟨n.val, h0⟩ : Fin 6400) i))
      (fun c => Lg0_at X b _ c) (fun q => side0 X hx0 hw0 hb0 b _ q) (fun i => An0_at X _ i)
  · exact (W1 X).out_of_stacked (feat (C1 X) b (n.val - 6400) h1) (feat (R1 X) b (n.val - 6400) h1) _ _ _ e
      (fun c => Lg1 X (ix3 b (⟨n.val - 6400, h1⟩ : Fin 1600) c)) (fun q => Di1 X (ix3 b (⟨n.val - 6400, h1⟩ : Fin 1600) q)) (fun i => An1 X (ix2 (⟨n.val - 6400, h1⟩ : Fin 1600) i))
      (fun c => Lg1_at X b _ c) (fun q => side1 X hx1 hw1 hb1 b _ q) (fun i => An1_at X _ i)
  · exact (W2 X).out_of_stacked (feat (C2 X) b (n.val - 6400 - 1600) (by omega)) (feat (R2 X) b (n.val - 6400 - 1600) (by omega)) _ _ _ e
      (fun c => Lg2 X (ix3 b (⟨n.val - 6400 - 1600, by omega⟩ : Fin 400) c)) (fun q => Di2 X (ix3 b (⟨n.val - 6400 - 1600, by omega⟩ : Fin 400) q)) (fun i => An2 X (ix2 (⟨n.val - 6400 - 1600, by omega⟩ : Fin 400) i))
      (fun c => Lg2_at X b _ c) (fun q => side2 X hx2 hw2 hb2 b _ q) (fun i => An2_at X _ i)

end Cert.ReferenceIdeal.Hand

end
-- ==== Proof.Finite.lean ====
module

public import proofs.«01_k».proof.Pre_finite_reg
public import proofs.«01_k».proof.Proof.Soft
public import Idealize.ShloMosaic.Lib.ReduceAll
public import Idealize.ShloMosaic.Lib.Pointwise

@[expose] public section

noncomputable section

namespace Cert.Pre_finite_reg.Hand

open Cert.Pre_finite_reg Cert.Pre_finite_reg.Facts Cert.Head
open Idealize.ShloMosaic

/-! What the precondition says: every entry of the box features, box weights and box biases is a real number. -/

variable [Facts]

/-- Two bits whose conjunction is one are both one. -/
theorem both_one : ∀ a b : BitVec 1, IntOp.andi a b = 1#1 → a = 1#1 ∧ b = 1#1 := by decide

/-- The result has one index. -/
theorem one_index : Subsingleton S_.Idx := ⟨fun i j => by funext a; exact a.elim0⟩

/-- An array whose absolute values are all below infinity has real entries. -/
theorem all_num {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant S_ .f32 0x7F800000#32)))
      (constantI S_ 1 1#1) h hu j = 1#1) (i : s.Idx) : IsNum (x i) := by
  haveI := one_index
  have e1 := Host.reduce_andi_all _ _ h hu j e i
  have e2 : Ideal.cmp .olt (max (x i) (-(x i))) (Ideal.ofBits .f32 0x7F800000#32) = 1 := e1
  rw [word_top] at e2
  exact num_of_lt ((Ideal.cmp_olt_eq_one _ _).1 e2)

/-- The precondition read back: the nine arrays that the box logits come from have real entries. -/
theorem all_real (a0 : FVec Ideal S16x256x80x80 .f32) (a1 : FVec Ideal S16x256x40x40 .f32) (a2 : FVec Ideal S16x256x20x20 .f32) (a3 : FVec Ideal S16x256x80x80 .f32) (a4 : FVec Ideal S16x256x40x40 .f32) (a5 : FVec Ideal S16x256x20x20 .f32) (a6 : FVec Ideal S1x256 .f32) (a7 : FVec Ideal S1 .f32) (a8 : FVec Ideal S80x256 .f32) (a9 : FVec Ideal S80 .f32) (a10 : FVec Ideal S64x256 .f32) (a11 : FVec Ideal S64 .f32) (a12 : FVec Ideal S1x256 .f32) (a13 : FVec Ideal S1 .f32) (a14 : FVec Ideal S80x256 .f32) (a15 : FVec Ideal S80 .f32) (a16 : FVec Ideal S64x256 .f32) (a17 : FVec Ideal S64 .f32) (a18 : FVec Ideal S1x256 .f32) (a19 : FVec Ideal S1 .f32) (a20 : FVec Ideal S80x256 .f32) (a21 : FVec Ideal S80 .f32) (a22 : FVec Ideal S64x256 .f32) (a23 : FVec Ideal S64 .f32)
    (e : fn (F := Ideal) a0 a1 a2 a3 a4 a5 a6 a7 a8 a9 a10 a11 a12 a13 a14 a15 a16 a17 a18 a19 a20 a21 a22 a23 = fun _ => 1#1) :
    (∀ i, IsNum (a3 i)) ∧ (∀ i, IsNum (a4 i)) ∧ (∀ i, IsNum (a5 i)) ∧ (∀ i, IsNum (a10 i)) ∧ (∀ i, IsNum (a11 i)) ∧ (∀ i, IsNum (a16 i)) ∧ (∀ i, IsNum (a17 i)) ∧ (∀ i, IsNum (a22 i)) ∧ (∀ i, IsNum (a23 i)) := by
  have e := congrFun e (Shape.Idx.first h_S_)
  dsimp only [fn, fn_part1, fn_part2] at e
  obtain ⟨e, h8⟩ := both_one _ _ e
  obtain ⟨e, h7⟩ := both_one _ _ e
  obtain ⟨e, h6⟩ := both_one _ _ e
  obtain ⟨e, h5⟩ := both_one _ _ e
  obtain ⟨e, h4⟩ := both_one _ _ e
  obtain ⟨e, h3⟩ := both_one _ _ e
  obtain ⟨e, h2⟩ := both_one _ _ e
  obtain ⟨e, h1⟩ := both_one _ _ e
  exact ⟨all_num _ _ _ _ _ e, all_num _ _ _ _ _ h1, all_num _ _ _ _ _ h2, all_num _ _ _ _ _ h3, all_num _ _ _ _ _ h4, all_num _ _ _ _ _ h5, all_num _ _ _ _ _ h6, all_num _ _ _ _ _ h7, all_num _ _ _ _ _ h8⟩

end Cert.Pre_finite_reg.Hand

end
-- ==== Proof.Bits.Body.lean ====
module

public import proofs.«01_k».proof.Proof.Bits.StepA0
public import proofs.«01_k».proof.Proof.Bits.StepA1
public import proofs.«01_k».proof.Proof.Bits.StepB0
public import proofs.«01_k».proof.Proof.Bits.StepB1
public import proofs.«01_k».proof.Proof.Bits.StepC0
public import proofs.«01_k».proof.Proof.Bits.StepC1
public import proofs.«01_k».proof.Proof.Bits.StepC2

@[expose] public section

set_option maxHeartbeats 1000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- Every grid point is one batch entry's stage. -/
theorem exists_pt (t : Fin cfg0.N) : ∃ (b : Fin 16) (s : Fin 3), t = pt b s := by
  have h : t.val < 48 := lt_of_lt_of_eq t.isLt N_0
  exact ⟨⟨t.val / 3, by omega⟩, ⟨t.val % 3, Nat.mod_lt _ (by decide)⟩, Fin.ext (Nat.div_add_mod t.val 3).symm⟩

/-- The body carries the invariant over every grid point. -/
theorem sound_body (c : Dev nD) (t : Fin cfg0.N) :
    bodyPre m c t ⊢ wp frame (wpE (defs₀ (F := F)) Variants.none c none) Set.univ (bodyAt0 t) (fun _ => bodyPost m c t) := by
  obtain ⟨b, s, rfl⟩ := exists_pt t
  match s with
  | 0 =>
    by_cases h : b.val = 0
    · exact stepA0 m c b h
    · exact stepA1 m c b h
  | 1 =>
    by_cases h : b.val = 0
    · exact stepB0 m c b h
    · exact stepB1 m c b h
  | 2 =>
    by_cases h : b.val = 0
    · exact stepC0 m c b h
    · by_cases h' : b.val = 15
      · exact stepC2 m c b h'
      · exact stepC1 m c b h h'

/-- The body of a grid point. -/
theorem defs₀_row (t : Fin cfg0.N) : defs₀ (F := F) .tc cfg0.body (cfg0.bodyArgs t (cfg0.slots t)) = bodyAt0 t := by
  unfold defs₀; rw [Defs.onTc_tc]

/-- The launch's body obligation. -/
theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

end Cert.Kernel.Hand
end
-- ==== Proof.lean ====
/- The claims: the frames of the kernel at machine words and at the reals, the frame of the reference, the kernel's
   idealization, and that over the reals the kernel's result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_reg
public import proofs.«01_k».proof.Proof.Gen.ReferenceIdeal.Run
public import proofs.«01_k».proof.Proof.Gen.Kernel.Skeleton
public import proofs.«01_k».proof.Proof.Gen.Kernel.Points
public import proofs.«01_k».proof.Proof.Gen.KernelIdeal.Skeleton
public import proofs.«01_k».proof.Proof.Gen.KernelIdeal.Points
public import proofs.«01_k».proof.Proof.Run
public import proofs.«01_k».proof.Proof.End
public import proofs.«01_k».proof.Proof.RefVal
public import proofs.«01_k».proof.Proof.Finite
public import proofs.«01_k».proof.Proof.Bits.Run
public import Idealize.ShloMosaic.Adequacy
public import Idealize.ShloMosaic.Init
public import Idealize.ShloMosaic.Lib.Quiescent

@[expose] public section

noncomputable section

namespace Cert.Proof

open Idealize.ShloMosaic Idealize.SL.Sem

/-- The kernel on machine words ends with its arguments unchanged and its counters at zero. -/
theorem frame_kernel : Cert.quiescent_Kernel := fun m g _ => Cert.Kernel.Hand.frame m g

/-- The kernel over the reals ends with its arguments unchanged and its counters at zero. -/
theorem frame_ideal : Cert.quiescent_KernelIdeal := fun m g _ => Cert.KernelIdeal.Hand.frame m g

/-- The reference over the reals ends with its arguments unchanged; it has no counters. -/
theorem frame_reference : Cert.quiescent_ReferenceIdeal := fun m g _ =>
  (θ_run _ _ _).mono (fun r h => ⟨fun c => (h c).2, sem_eq_zero_of_no_sems rfl r.2⟩) (Cert.ReferenceIdeal.Value.run m g)

/-- Equal arrays give equal weights. -/
theorem wts_congr {a6 b6 : FVec Ideal ⟨2, ![1, 256]⟩ .f32} {a7 b7 : FVec Ideal ⟨1, ![1]⟩ .f32} {a8 b8 : FVec Ideal ⟨2, ![80, 256]⟩ .f32} {a9 b9 : FVec Ideal ⟨1, ![80]⟩ .f32} {a10 b10 : FVec Ideal ⟨2, ![64, 256]⟩ .f32} {a11 b11 : FVec Ideal ⟨1, ![64]⟩ .f32}
    (h6 : a6 = b6) (h7 : a7 = b7) (h8 : a8 = b8) (h9 : a9 = b9) (h10 : a10 = b10) (h11 : a11 = b11) :
    Cert.Head.Wts.of a6 a7 a8 a9 a10 a11 = Cert.Head.Wts.of b6 b7 b8 b9 b10 b11 := by
  subst h6 h7 h8 h9 h10 h11; rfl

/-- Equal features and weights give equal results. -/
theorem result_congr {c0 c0' r0 r0' : FVec Ideal ⟨4, ![16, 256, 80, 80]⟩ .f32} {c1 c1' r1 r1' : FVec Ideal ⟨4, ![16, 256, 40, 40]⟩ .f32}
    {c2 c2' r2 r2' : FVec Ideal ⟨4, ![16, 256, 20, 20]⟩ .f32} {W0 W0' W1 W1' W2 W2' : Cert.Head.Wts}
    (h0 : c0 = c0') (h1 : r0 = r0') (h2 : c1 = c1') (h3 : r1 = r1') (h4 : c2 = c2') (h5 : r2 = r2') (h6 : W0 = W0') (h7 : W1 = W1') (h8 : W2 = W2')
    (b : Fin 16) (n : Fin 8400) (e : Fin 149) :
    Cert.Head.result c0 r0 c1 r1 c2 r2 W0 W1 W2 b n e = Cert.Head.result c0' r0' c1' r1' c2' r2' W0' W1' W2' b n e := by
  subst h0 h1 h2 h3 h4 h5 h6 h7 h8; rfl

/-- The kernel's frame where the precondition holds. -/
theorem frame_ideal_pre : Cert.quiescent_KernelIdeal_pre_finite_reg := fun m g _ => Cert.KernelIdeal.Hand.frame m g

/-- The reference's frame where the precondition holds. -/
theorem frame_reference_pre : Cert.quiescent_ReferenceIdeal_pre_finite_reg := fun m g _ =>
  (θ_run _ _ _).mono (fun r h => ⟨fun c => (h c).2, sem_eq_zero_of_no_sems rfl r.2⟩) (Cert.ReferenceIdeal.Value.run m g)

set_option maxHeartbeats 2000000 in
/-- From arguments that agree, the reference's result is the kernel's, entry by entry. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal_finite_reg m)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    (Cert.ReferenceIdeal.Value.res_main_v162 (StableHlo.launchContents m' c) : FVec Ideal Cert.ReferenceIdeal.S16x8400x149 .f32)
      = (Cert.KernelIdeal.Hand.VEnd m c (Proc.devRef .tc Cert.KernelIdeal.main_v0) : FVec Ideal Cert.KernelIdeal.S16x8400x149 .f32) := by
  obtain ⟨h0, h1, h2, h3, h4, h5, h6, h7, h8, h9, h10, h11, h12, h13, h14, h15, h16, h17, h18, h19, h20, h21, h22, h23⟩ := hagree
  obtain ⟨f3, f4, f5, f10, f11, f16, f17, f22, f23⟩ := Cert.Pre_finite_reg.Hand.all_real _ _ _ _ _ _ _ _ _ _ _ _ _ _ _ _ _ _ _ _ _ _ _ _ (hpre c)
  rw [← h3] at f3; rw [← h4] at f4; rw [← h5] at f5; rw [← h10] at f10; rw [← h11] at f11
  rw [← h16] at f16; rw [← h17] at f17; rw [← h22] at f22; rw [← h23] at f23
  funext i
  obtain ⟨b, n, e, rfl⟩ : ∃ (b : Fin 16) (n : Fin 8400) (e : Fin 149), i = ix3 b n e :=
    ⟨i 0, i 1, i 2, by funext a; fin_cases a <;> rfl⟩
  refine (Cert.ReferenceIdeal.Hand.out_at (StableHlo.launchContents m' c) f3 f10 f11 f4 f16 f17 f5 f22 f23 b n e).trans
    (Eq.trans ?_ (Cert.KernelIdeal.Hand.end_at m c b n e).symm)
  have w0 : Cert.ReferenceIdeal.Hand.W0 (StableHlo.launchContents m' c) = Cert.KernelIdeal.Hand.W0 m c :=
    wts_congr h6 h7 h8 h9 h10 h11
  have w1 : Cert.ReferenceIdeal.Hand.W1 (StableHlo.launchContents m' c) = Cert.KernelIdeal.Hand.W1 m c :=
    wts_congr h12 h13 h14 h15 h16 h17
  have w2 : Cert.ReferenceIdeal.Hand.W2 (StableHlo.launchContents m' c) = Cert.KernelIdeal.Hand.W2 m c :=
    wts_congr h18 h19 h20 h21 h22 h23
  exact result_congr h0 h3 h1 h4 h2 h5 w0 w1 w2 b n e

/-- Over the reals the kernel and the reference, from arguments that agree and whose box features, weights and biases are
    real, both run and end with equal results and unchanged arguments. -/
theorem equal_results : Cert.algebraic_KernelIdeal_ReferenceIdeal_pre_finite_reg := fun m g m' g' hpre hagree =>
  ⟨fun c => Cert.KernelIdeal.Hand.VEnd m c (Proc.devRef .tc Cert.KernelIdeal.main_v0), Cert.KernelIdeal.Hand.run_value m g,
    (θ_run _ _ _).mono (fun r h => fun c => ⟨((h c).1).trans (results_agree m m' hpre c (hagree c)), (h c).2⟩) (Cert.ReferenceIdeal.Value.run m' g')⟩

/-- All the claims. -/
theorem claim : Cert.Claim :=
  ⟨Cert.Kernel.Gen.facts, Cert.KernelIdeal.Gen.facts, Cert.ReferenceIdeal.Gen.facts, Cert.Pre_finite_reg.Gen.facts,
    frame_kernel, frame_ideal, frame_ideal_pre, frame_reference, frame_reference_pre, trivial, equal_results⟩

end Cert.Proof

end
